-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v61_0)) (v1 : (c : Dev Cert.Kernel3Ideal.nD) → Buf (Elt Ideal) ((c.tc : Thread Cert.Kernel3Ideal.nD Cert.Kernel3Ideal.τ).loc Cert.Kernel3Ideal.main_v61_1)) (v2 : (c : Dev Cert.Kernel3Ideal.nD) → Buf (Elt Ideal) ((c.tc : Thread Cert.Kernel3Ideal.nD Cert.Kernel3Ideal.τ).loc Cert.Kernel3Ideal.main_v61_2)) (v3 : (c : Dev Cert.Kernel3Ideal.nD) → Buf (Elt Ideal) ((c.tc : Thread Cert.Kernel3Ideal.nD Cert.Kernel3Ideal.τ).loc Cert.Kernel3Ideal.main_v61_3)) (v4 : (c : Dev Cert.Kernel3Ideal.nD) → Buf (Elt Ideal) ((c.tc : Thread Cert.Kernel3Ideal.nD Cert.Kernel3Ideal.τ).loc Cert.Kernel3Ideal.main_v61_4)) (v5 : (c : Dev Cert.Kernel3Ideal.nD) → Buf (Elt Ideal) ((c.tc : Thread Cert.Kernel3Ideal.nD Cert.Kernel3Ideal.τ).loc Cert.Kernel3Ideal.main_v61_5)) (v6 : (c : Dev Cert.Kernel3Ideal.nD) → Buf (Elt Ideal) ((c.tc : Thread Cert.Kernel3Ideal.nD Cert.Kernel3Ideal.τ).loc Cert.Kernel3Ideal.main_v61_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_0) = v0 c
          ∧ r.2.mem ((c.tc : Thread Cert.Kernel3Ideal.nD Cert.Kernel3Ideal.τ).loc Cert.Kernel3Ideal.main_v61_1) = v1 c
          ∧ r.2.mem ((c.tc : Thread Cert.Kernel3Ideal.nD Cert.Kernel3Ideal.τ).loc Cert.Kernel3Ideal.main_v61_2) = v2 c
          ∧ r.2.mem ((c.tc : Thread Cert.Kernel3Ideal.nD Cert.Kernel3Ideal.τ).loc Cert.Kernel3Ideal.main_v61_3) = v3 c
          ∧ r.2.mem ((c.tc : Thread Cert.Kernel3Ideal.nD Cert.Kernel3Ideal.τ).loc Cert.Kernel3Ideal.main_v61_4) = v4 c
          ∧ r.2.mem ((c.tc : Thread Cert.Kernel3Ideal.nD Cert.Kernel3Ideal.τ).loc Cert.Kernel3Ideal.main_v61_5) = v5 c
          ∧ r.2.mem ((c.tc : Thread Cert.Kernel3Ideal.nD Cert.Kernel3Ideal.τ).loc Cert.Kernel3Ideal.main_v61_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v168) = v0 c
          ∧ r.2.mem ((c.tc : Thread Cert.Reference3Ideal.nD Cert.Reference3Ideal.τ).loc Cert.Reference3Ideal.main_v169) = v1 c
          ∧ r.2.mem ((c.tc : Thread Cert.Reference3Ideal.nD Cert.Reference3Ideal.τ).loc Cert.Reference3Ideal.main_v170) = v2 c
          ∧ r.2.mem ((c.tc : Thread Cert.Reference3Ideal.nD Cert.Reference3Ideal.τ).loc Cert.Reference3Ideal.main_v171) = v3 c
          ∧ r.2.mem ((c.tc : Thread Cert.Reference3Ideal.nD Cert.Reference3Ideal.τ).loc Cert.Reference3Ideal.main_v172) = v4 c
          ∧ r.2.mem ((c.tc : Thread Cert.Reference3Ideal.nD Cert.Reference3Ideal.τ).loc Cert.Reference3Ideal.main_v173) = v5 c
          ∧ r.2.mem ((c.tc : Thread Cert.Reference3Ideal.nD Cert.Reference3Ideal.τ).loc Cert.Reference3Ideal.main_v174) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S16x4096x512 : Shape := ⟨3, ![16, 4096, 512]⟩
abbrev S16x4096x128 : Shape := ⟨3, ![16, 4096, 128]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16x4096x128 : S_.BroadcastsInDim S16x4096x128 (![] : Fin 0 → Fin S16x4096x128.rank)
  reducesTo_S16x4096x128_S_d0_1_2 : S16x4096x128.ReducesTo [0, 1, 2] S_

variable [Facts]

def fn {F : FTy → Type} [FloatOps F] (main_arg0 : FVec F S16x4096x512 .f32) (main_arg1 : FVec F S16x4096x128 .f32) (main_arg2 : FVec F S16x4096x128 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16x4096x128 .f32 := Host.absf main_arg1
  let main_cst_0 : FVec F S_ .f32 := constant S_ .f32 0x7F800000#32
  let main_v5 : FVec F S16x4096x128 .f32 := broadcastInDim S16x4096x128 ![] bcast_S_S16x4096x128 main_cst_0
  let main_v6 : IVec S16x4096x128 1 := cmpf .olt main_v4 main_v5
  let main_c_1 : IVec S_ 1 := constantI S_ 1 1#1
  let main_v7 : IVec S_ 1 := (fun x v => Host.reduce IntOp.andi x v reducesTo_S16x4096x128_S_d0_1_2 h_S_) main_v6 main_c_1
  let main_v8 : IVec S_ 1 := andi main_v3 main_v7
  let main_v9 : FVec F S16x4096x128 .f32 := Host.absf main_arg2
  let main_cst_2 : FVec F S_ .f32 := constant S_ .f32 0x7F800000#32
  let main_v10 : FVec F S16x4096x128 .f32 := broadcastInDim S16x4096x128 ![] bcast_S_S16x4096x128 main_cst_2
  let main_v11 : IVec S16x4096x128 1 := cmpf .olt main_v9 main_v10
  let main_c_3 : IVec S_ 1 := constantI S_ 1 1#1
  let main_v12 : IVec S_ 1 := (fun x v => Host.reduce IntOp.andi x v reducesTo_S16x4096x128_S_d0_1_2 h_S_) main_v11 main_c_3
  let main_v13 : IVec S_ 1 := andi main_v8 main_v12
  main_v13
-- ==== Pre_finite3.lean ====
abbrev S16x4096x1024 : Shape := ⟨3, ![16, 4096, 1024]⟩
abbrev S16x1024 : Shape := ⟨2, ![16, 1024]⟩
abbrev S1024 : Shape := ⟨1, ![1024]⟩
abbrev S1024x3328 : Shape := ⟨2, ![1024, 3328]⟩
abbrev S64 : Shape := ⟨1, ![64]⟩
abbrev S4096x8 : Shape := ⟨2, ![4096, 8]⟩
abbrev S4096x2x16 : Shape := ⟨3, ![4096, 2, 16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S1024x3328 : S_.BroadcastsInDim S1024x3328 (![] : Fin 0 → Fin S1024x3328.rank)
  reducesTo_S1024x3328_S_d0_1 : S1024x3328.ReducesTo [0, 1] S_

variable [Facts]

def fn_part1 {F : FTy → Type} [FloatOps F] (main_arg4 : FVec F S1024x3328 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x3328 .f32 := Host.absf main_arg4
  let main_cst_6 : FVec F S_ .f32 := constant S_ .f32 0x7F800000#32
  let main_v20 : FVec F S1024x3328 .f32 := broadcastInDim S1024x3328 ![] bcast_S_S1024x3328 main_cst_6
  let main_v21 : IVec S1024x3328 1 := cmpf .olt main_v19 main_v20
  let main_c_7 : IVec S_ 1 := constantI S_ 1 1#1
  let main_v22 : IVec S_ 1 := (fun x v => Host.reduce IntOp.andi x v reducesTo_S1024x3328_S_d0_1 h_S_) main_v21 main_c_7
  let main_v23 : IVec S_ 1 := andi main_v18 main_v22
  main_v23

def fn {F : FTy → Type} [FloatOps F] (main_arg0 : FVec F S16x4096x1024 .f32) (main_arg1 : FVec F S16x1024 .f32) (main_arg2 : FVec F S16x1024 .f32) (main_arg3 : FVec F S1024 .f32) (main_arg4 : FVec F S1024x3328 .f32) (main_arg5 : FVec F S64 .f32) (main_arg6 : FVec F S64 .f32) (main_arg7 : FVec F S4096x8 .f32) (main_arg8 : FVec F S4096x2x16 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S16x4096x512 : Shape := ⟨3, ![16, 4096, 512]⟩
abbrev S16x4096x128 : Shape := ⟨3, ![16, 4096, 128]⟩
abbrev S_ : Shape := ⟨0, ![]⟩
abbrev S16x4096x2x64 : Shape := ⟨4, ![16, 4096, 2, 64]⟩
abbrev S16x2x64x4096 : Shape := ⟨4, ![16, 2, 64, 4096]⟩
abbrev S16x2x128x4096 : Shape := ⟨4, ![16, 2, 128, 4096]⟩
abbrev S16x2x4096x64 : Shape := ⟨4, ![16, 2, 4096, 64]⟩
abbrev S16x2x4096x128 : Shape := ⟨4, ![16, 2, 4096, 128]⟩
abbrev S1x1024x256 : Shape := ⟨3, ![1, 1024, 256]⟩
abbrev S1x1x128x4096 : Shape := ⟨4, ![1, 1, 128, 4096]⟩
abbrev S1x1x4096x128 : Shape := ⟨4, ![1, 1, 4096, 128]⟩
abbrev S1x128 : Shape := ⟨2, ![1, 128]⟩
abbrev S1x1024x128 : Shape := ⟨3, ![1, 1024, 128]⟩
abbrev S1024x128 : Shape := ⟨2, ![1024, 128]⟩
abbrev S4096x128 : Shape := ⟨2, ![4096, 128]⟩
abbrev S4096x1 : Shape := ⟨2, ![4096, 1]⟩
abbrev S1x1x128x512 : Shape := ⟨4, ![1, 1, 128, 512]⟩
abbrev S128x512 : Shape := ⟨2, ![128, 512]⟩
abbrev S4096x512 : Shape := ⟨2, ![4096, 512]⟩
abbrev S4096 : Shape := ⟨1, ![4096]⟩
abbrev S1x1x512x128 : Shape := ⟨4, ![1, 1, 512, 128]⟩
abbrev S512x128 : Shape := ⟨2, ![512, 128]⟩

abbrev nBuf : Space → Nat
  | .hbm => 32
  | .vmem => 8
  | .smem => 0
  | _ => 0

abbrev bufTy : (tb : Table) → Fin (tcTables nBuf tb) → BufTy
  | .hbm, ⟨0, _⟩ => ⟨S16x4096x512, .f32⟩
  | .hbm, ⟨1, _⟩ => ⟨S16x4096x128, .f32⟩
  | .hbm, ⟨2, _⟩ => ⟨S16x4096x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x4096x512, .f32⟩
  | .hbm, ⟨8, _⟩ => ⟨S16x4096x512, .f32⟩
  | .hbm, ⟨9, _⟩ => ⟨S16x4096x512, .bf16⟩
  | .hbm, ⟨10, _⟩ => ⟨S16x4096x2x64, .f32⟩
  | .hbm, ⟨11, _⟩ => ⟨S16x2x64x4096, .f32⟩
  | .hbm, ⟨12, _⟩ => ⟨S16x2x64x4096, .bf16⟩
  | .hbm, ⟨13, _⟩ => ⟨S16x2x128x4096, .bf16⟩
  | .hbm, ⟨14, _⟩ => ⟨S16x4096x2x64, .f32⟩
  | .hbm, ⟨15, _⟩ => ⟨S16x2x4096x64, .f32⟩
  | .hbm, ⟨16, _⟩ => ⟨S16x2x4096x128, .f32⟩
  | .hbm, ⟨17, _⟩ => ⟨S16x2x4096x128, .i32⟩
  | .hbm, ⟨18, _⟩ => ⟨S_, .i32⟩
  | .hbm, ⟨19, _⟩ => ⟨S16x2x4096x128, .i32⟩
  | .hbm, ⟨20, _⟩ => ⟨S16x2x4096x128, .i1⟩
  | .hbm, ⟨21, _⟩ => ⟨S_, .f32⟩
  | .hbm, ⟨22, _⟩ => ⟨S16x2x4096x128, .f32⟩
  | .hbm, ⟨23, _⟩ => ⟨S_, .f32⟩
  | .hbm, ⟨24, _⟩ => ⟨S16x2x4096x128, .f32⟩
  | .hbm, ⟨25, _⟩ => ⟨S16x2x4096x128, .f32⟩
  | .hbm, ⟨26, _⟩ => ⟨S_, .i32⟩
  | .hbm, ⟨27, _⟩ => ⟨S16x2x4096x128, .i32⟩
  | .hbm, ⟨28, _⟩ => ⟨S16x2x4096x128, .i1⟩
  | .hbm, ⟨29, _⟩ => ⟨S16x2x4096x128, .f32⟩
  | .hbm, ⟨30, _⟩ => ⟨S16x2x4096x128, .bf16⟩
  | .hbm, ⟨31, _⟩ => ⟨S16x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1x128x4096, .bf16⟩
  | .local _ .vmem, ⟨3, _⟩ => ⟨S1x1x128x4096, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1024x256, .bf16⟩
  | .local _ .vmem, ⟨7, _⟩ => ⟨S1x1024x256, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_mult1 : BitVec 32 :=
  let c0_i32 : BitVec 32 := 0#32
  let c512_i32 : BitVec 32 := 512#32
  let v26 : BitVec 32 := Scalar.muli c0_i32 c512_i32
  v26
def k0_off1 (c0_i32 : BitVec 32) : Fin 4 → Nat :=
  let c0_9 : Index := 0#32
  let c0_10 : Index := 0#32
  let c0_11 : Index := 0#32
  let c512_i32 : BitVec 32 := 512#32
  let v26 : BitVec 32 := Scalar.muli c0_i32 c512_i32
  let v27 : BitVec 32 := v26
  let v28 : Index := Scalar.indexCast v27
  ![0, 0, 0, v28.toNat]
def k0_off2 (c0_i32 : BitVec 32) : Fin 4 → Nat :=
  let c0_14 : Index := 0#32
  let c0_15 : Index := 0#32
  let c512_i32 : BitVec 32 := 512#32
  let v26 : BitVec 32 := Scalar.muli c0_i32 c512_i32
  let v27 : BitVec 32 := v26
  let v43 : Index := Scalar.indexCast v27
  let c0_16 : Index := 0#32
  ![0, 0, v43.toNat, 0]
def k0_mult2 : BitVec 32 :=
  let c1_i32 : BitVec 32 := 1#32
  let c512_i32_18 : BitVec 32 := 512#32
  let v48 : BitVec 32 := Scalar.muli c1_i32 c512_i32_18
  v48
def k0_mult3 : BitVec 32 :=
  let c2_i32 : BitVec 32 := 2#32
  let c512_i32_28 : BitVec 32 := 512#32
  let v70 : BitVec 32 := Scalar.muli c2_i32 c512_i32_28
  v70
def k0_mult4 : BitVec 32 :=
  let c3_i32 : BitVec 32 := 3#32
  let c512_i32_38 : BitVec 32 := 512#32
  let v92 : BitVec 32 := Scalar.muli c3_i32 c512_i32_38
  v92
def k0_mult5 : BitVec 32 :=
  let c4_i32 : BitVec 32 := 4#32
  let c512_i32_48 : BitVec 32 := 512#32
  let v114 : BitVec 32 := Scalar.muli c4_i32 c512_i32_48
  v114
def k0_mult6 : BitVec 32 :=
  let c5_i32 : BitVec 32 := 5#32
  let c512_i32_58 : BitVec 32 := 512#32
  let v136 : BitVec 32 := Scalar.muli c5_i32 c512_i32_58
  v136
def k0_mult7 : BitVec 32 :=
  let c6_i32 : BitVec 32 := 6#32
  let c512_i32_68 : BitVec 32 := 512#32
  let v158 : BitVec 32 := Scalar.muli c6_i32 c512_i32_68
  v158
def k0_mult8 : BitVec 32 :=
  let c7_i32 : BitVec 32 := 7#32
  let c512_i32_78 : BitVec 32 := 512#32
  let v180 : BitVec 32 := Scalar.muli c7_i32 c512_i32_78
  v180
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x4096x512 : Shape := ⟨3, ![16, 4096, 512]⟩
abbrev S16x4096x128 : Shape := ⟨3, ![16, 4096, 128]⟩
abbrev S16x4096x2x4x64 : Shape := ⟨5, ![16, 4096, 2, 4, 64]⟩
abbrev S16x4096x2x64 : Shape := ⟨4, ![16, 4096, 2, 64]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x128, .f32⟩
  | .hbm, ⟨2, _⟩ => ⟨S16x4096x128, .f32⟩
  | .hbm, ⟨3, _⟩ => ⟨S16x4096x2x4x64, .f32⟩
  | .hbm, ⟨4, _⟩ => ⟨S16x4096x2x64, .f32⟩
  | .hbm, ⟨5, _⟩ => ⟨S16x4096x2x64, .f32⟩
  | .hbm, ⟨6, _⟩ => ⟨S16x2x4096x4096x4, .f32⟩
  | .hbm, ⟨7, _⟩ => ⟨S16x2x4x4096x4096, .f32⟩
  | .hbm, ⟨8, _⟩ => ⟨S_, .f32⟩
  | .hbm, ⟨9, _⟩ => ⟨S16x2x4x4096x4096, .f32⟩
  | .hbm, ⟨10, _⟩ => ⟨S16x2x4x4096x4096, .f32⟩
  | .hbm, ⟨11, _⟩ => ⟨S_, .f32⟩
  | .hbm, ⟨12, _⟩ => ⟨S16x2x4x4096, .f32⟩
  | .hbm, ⟨13, _⟩ => ⟨S_, .f32⟩
  | .hbm, ⟨14, _⟩ => ⟨S16x2x4x4096, .f32⟩
  | .hbm, ⟨15, _⟩ => ⟨S16x2x4x4096, .f32⟩
  | .hbm, ⟨16, _⟩ => ⟨S16x2x4x4096x1, .f32⟩
  | .hbm, ⟨17, _⟩ => ⟨S16x2x4x4096x4096, .f32⟩
  | .hbm, ⟨18, _⟩ => ⟨S16x2x4x4096x4096, .f32⟩
  | .hbm, ⟨19, _⟩ => ⟨S16x2x4x4096x4096, .f32⟩
  | .hbm, ⟨20, _⟩ => ⟨S_, .f32⟩
  | .hbm, ⟨21, _⟩ => ⟨S16x2x4x4096, .f32⟩
  | .hbm, ⟨22, _⟩ => ⟨S16x2x4x4096x1, .f32⟩
  | .hbm, ⟨23, _⟩ => ⟨S16x2x4x4096x4096, .f32⟩
  | .hbm, ⟨24, _⟩ => ⟨S16x2x4x4096x4096, .f32⟩
  | .hbm, ⟨25, _⟩ => ⟨S16x2x64x4x4096, .f32⟩
  | .hbm, ⟨26, _⟩ => ⟨S16x4096x2x4x64, .f32⟩
  | .hbm, ⟨27, _⟩ => ⟨S16x4096x512, .f32⟩
  | .hbm, ⟨28, _⟩ => ⟨S16x4096x512, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x512 : Shape := ⟨3, ![16, 4096, 512]⟩
abbrev S16x1024 : Shape := ⟨2, ![16, 1024]⟩
abbrev S1024 : Shape := ⟨1, ![1024]⟩
abbrev S1024x1024 : Shape := ⟨2, ![1024, 1024]⟩
abbrev S1024x2048 : Shape := ⟨2, ![1024, 2048]⟩
abbrev S4x256x256 : Shape := ⟨3, ![4, 256, 256]⟩
abbrev S16x1x1024 : Shape := ⟨3, ![16, 1, 1024]⟩
abbrev S1x1024 : Shape := ⟨2, ![1, 1024]⟩
abbrev S1x8x1024 : Shape := ⟨3, ![1, 8, 1024]⟩
abbrev S1x512x1024 : Shape := ⟨3, ![1, 512, 1024]⟩
abbrev S1x16x512 : Shape := ⟨3, ![1, 16, 512]⟩
abbrev S1x512x512 : Shape := ⟨3, ![1, 512, 512]⟩
abbrev S1x16x1024 : Shape := ⟨3, ![1, 16, 1024]⟩
abbrev S1x1x1024 : Shape := ⟨3, ![1, 1, 1024]⟩
abbrev S544x1024 : Shape := ⟨2, ![544, 1024]⟩
abbrev S544x256 : Shape := ⟨2, ![544, 256]⟩
abbrev S8x1024 : Shape := ⟨2, ![8, 1024]⟩
abbrev S512x1024 : Shape := ⟨2, ![512, 1024]⟩
abbrev S528x1024 : Shape := ⟨2, ![528, 1024]⟩
abbrev S16x512 : Shape := ⟨2, ![16, 512]⟩
abbrev S8x512 : Shape := ⟨2, ![8, 512]⟩
abbrev S512x512 : Shape := ⟨2, ![512, 512]⟩
abbrev S528x512 : Shape := ⟨2, ![528, 512]⟩
abbrev S176x1024 : Shape := ⟨2, ![176, 1024]⟩
abbrev S176x512 : Shape := ⟨2, ![176, 512]⟩
abbrev S176 : Shape := ⟨1, ![176]⟩
abbrev S176x1 : Shape := ⟨2, ![176, 1]⟩
abbrev S528x1 : Shape := ⟨2, ![528, 1]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S256x1024 : Shape := ⟨2, ![256, 1024]⟩
abbrev S536x256 : Shape := ⟨2, ![536, 256]⟩
abbrev S528x256 : Shape := ⟨2, ![528, 256]⟩
abbrev S520x256 : Shape := ⟨2, ![520, 256]⟩
abbrev S512 : Shape := ⟨1, ![512]⟩

abbrev nBuf : Space → Nat
  | .hbm => 32
  | .vmem => 45
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x4096x1024, .f32⟩
  | .hbm, ⟨4, _⟩ => ⟨S16x1024, .f32⟩
  | .hbm, ⟨5, _⟩ => ⟨S1024, .f32⟩
  | .hbm, ⟨6, _⟩ => ⟨S1024x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S1024, .f32⟩
  | .hbm, ⟨11, _⟩ => ⟨S1024, .f32⟩
  | .hbm, ⟨12, _⟩ => ⟨S1024x2048, .f32⟩
  | .hbm, ⟨13, _⟩ => ⟨S4x256x256, .f32⟩
  | .hbm, ⟨14, _⟩ => ⟨S1024, .f32⟩
  | .hbm, ⟨15, _⟩ => ⟨S1024x1024, .f32⟩
  | .hbm, ⟨16, _⟩ => ⟨S16x4096x512, .bf16⟩
  | .hbm, ⟨17, _⟩ => ⟨S16x4096x512, .bf16⟩
  | .hbm, ⟨18, _⟩ => ⟨S16x4096x1024, .bf16⟩
  | .hbm, ⟨19, _⟩ => ⟨S16x1x1024, .f32⟩
  | .hbm, ⟨20, _⟩ => ⟨S1x1024, .f32⟩
  | .hbm, ⟨21, _⟩ => ⟨S1024x1024, .bf16⟩
  | .hbm, ⟨22, _⟩ => ⟨S16x1x1024, .f32⟩
  | .hbm, ⟨23, _⟩ => ⟨S16x1x1024, .f32⟩
  | .hbm, ⟨24, _⟩ => ⟨S16x1x1024, .f32⟩
  | .hbm, ⟨25, _⟩ => ⟨S1x1024, .f32⟩
  | .hbm, ⟨26, _⟩ => ⟨S1x1024, .f32⟩
  | .hbm, ⟨27, _⟩ => ⟨S1024x2048, .bf16⟩
  | .hbm, ⟨28, _⟩ => ⟨S4x256x256, .bf16⟩
  | .hbm, ⟨29, _⟩ => ⟨S1x1024, .f32⟩
  | .hbm, ⟨30, _⟩ => ⟨S1024x1024, .bf16⟩
  | .hbm, ⟨31, _⟩ => ⟨S16x4096x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x16x512, .bf16⟩
  | .local _ .vmem, ⟨7, _⟩ => ⟨S1x16x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x16x512, .bf16⟩
  | .local _ .vmem, ⟨17, _⟩ => ⟨S1x16x512, .bf16⟩
  | .local _ .vmem, ⟨18, _⟩ => ⟨S1x16x1024, .bf16⟩
  | .local _ .vmem, ⟨19, _⟩ => ⟨S1x16x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x16x1024, .bf16⟩
  | .local _ .vmem, ⟨23, _⟩ => ⟨S1x16x1024, .bf16⟩
  | .local _ .vmem, ⟨24, _⟩ => ⟨S1x1x1024, .f32⟩
  | .local _ .vmem, ⟨25, _⟩ => ⟨S1x1x1024, .f32⟩
  | .local _ .vmem, ⟨26, _⟩ => ⟨S1x1024, .f32⟩
  | .local _ .vmem, ⟨27, _⟩ => ⟨S1024x1024, .bf16⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1x1024, .f32⟩
  | .local _ .vmem, ⟨32, _⟩ => ⟨S1x1x1024, .f32⟩
  | .local _ .vmem, ⟨33, _⟩ => ⟨S1x1x1024, .f32⟩
  | .local _ .vmem, ⟨34, _⟩ => ⟨S1x1024, .f32⟩
  | .local _ .vmem, ⟨35, _⟩ => ⟨S1x1024, .f32⟩
  | .local _ .vmem, ⟨36, _⟩ => ⟨S1024x2048, .bf16⟩
  | .local _ .vmem, ⟨37, _⟩ => ⟨S4x256x256, .bf16⟩
  | .local _ .vmem, ⟨38, _⟩ => ⟨S1x1024, .f32⟩
  | .local _ .vmem, ⟨39, _⟩ => ⟨S1024x1024, .bf16⟩
  | .local _ .vmem, ⟨40, _⟩ => ⟨S1x512x1024, .f32⟩
  | .local _ .vmem, ⟨41, _⟩ => ⟨S1x512x1024, .f32⟩
  | .local _ .vmem, ⟨42, _⟩ => ⟨S544x1024, .f32⟩
  | .local _ .vmem, ⟨43, _⟩ => ⟨S544x256, .f32⟩
  | .local _ .vmem, ⟨44, _⟩ => ⟨S544x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg24_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S4x256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S1x512x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference2Ideal.lean ====
abbrev S16x4096x1024 : Shape := ⟨3, ![16, 4096, 1024]⟩
abbrev S16x4096x512 : Shape := ⟨3, ![16, 4096, 512]⟩
abbrev S16x1024 : Shape := ⟨2, ![16, 1024]⟩
abbrev S1024 : Shape := ⟨1, ![1024]⟩
abbrev S1024x1024 : Shape := ⟨2, ![1024, 1024]⟩
abbrev S1024x2048 : Shape := ⟨2, ![1024, 2048]⟩
abbrev S4x256x256 : Shape := ⟨3, ![4, 256, 256]⟩
abbrev S16x1x1024 : Shape := ⟨3, ![16, 1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2048 : Shape := ⟨3, ![16, 4096, 2048]⟩
abbrev S4 : Shape := ⟨1, ![4]⟩
abbrev S4096 : Shape := ⟨1, ![4096]⟩
abbrev S1x4096 : Shape := ⟨2, ![1, 4096]⟩
abbrev S4x1 : Shape := ⟨2, ![4, 1]⟩
abbrev S4x4096 : Shape := ⟨2, ![4, 4096]⟩
abbrev S1x1x4096 : Shape := ⟨3, ![1, 1, 4096]⟩
abbrev S4x4096x1 : Shape := ⟨3, ![4, 4096, 1]⟩
abbrev S4x4096x4096 : Shape := ⟨3, ![4, 4096, 4096]⟩
abbrev S16x4096x4x256 : Shape := ⟨4, ![16, 4096, 4, 256]⟩
abbrev S4x16x256x4096 : Shape := ⟨4, ![4, 16, 256, 4096]⟩
abbrev S4096x4 : Shape := ⟨2, ![4096, 4]⟩
abbrev S1x4096x4x1 : Shape := ⟨4, ![1, 4096, 4, 1]⟩
abbrev S4x256x16x4096 : Shape := ⟨4, ![4, 256, 16, 4096]⟩

abbrev nBuf : Space → Nat
  | .hbm => 144
  | .vmem => 0
  | .smem => 0
  | _ => 0

abbrev hbmTy0_0 (i : Nat) : BufTy := match i % 128 with
  | 0 => ⟨S16x4096x1024, .f32⟩
  | 1 => ⟨S16x4096x512, .f32⟩
  | 2 => ⟨S16x4096x512, .f32⟩
  | 3 => ⟨S16x4096x1024, .f32⟩
  | 4 => ⟨S16x1024, .f32⟩
  | 5 => ⟨S1024, .f32⟩
  | 6 => ⟨S1024x1024, .f32⟩
  | 7 => ⟨S16x1024, .f32⟩
  | 8 => ⟨S16x1024, .f32⟩
  | 9 => ⟨S16x1024, .f32⟩
  | 10 => ⟨S1024, .f32⟩
  | 11 => ⟨S1024, .f32⟩
  | 12 => ⟨S1024x2048, .f32⟩
  | 13 => ⟨S4x256x256, .f32⟩
  | 14 => ⟨S1024, .f32⟩
  | 15 => ⟨S1024x1024, .f32⟩
  | 16 => ⟨S16x4096x1024, .f32⟩
  | 17 => ⟨S16x4096x1024, .f32⟩
  | 18 => ⟨S16x4096x1024, .f32⟩
  | 19 => ⟨S16x1x1024, .f32⟩
  | 20 => ⟨S16x4096x1024, .f32⟩
  | 21 => ⟨S_, .f32⟩
  | 22 => ⟨S16x4096, .f32⟩
  | 23 => ⟨S16x4096x1, .f32⟩
  | 24 => ⟨S_, .f32⟩
  | 25 => ⟨S16x4096x1, .f32⟩
  | 26 => ⟨S16x4096x1, .f32⟩
  | 27 => ⟨S_, .f32⟩
  | 28 => ⟨S16x4096x1, .f32⟩
  | 29 => ⟨S16x4096x1, .f32⟩
  | 30 => ⟨S16x4096x1, .f32⟩
  | 31 => ⟨S16x4096x1024, .f32⟩
  | 32 => ⟨S16x4096x1024, .f32⟩
  | 33 => ⟨S1x1x1024, .f32⟩
  | 34 => ⟨S16x4096x1024, .f32⟩
  | 35 => ⟨S16x4096x1024, .f32⟩
  | 36 => ⟨S16x4096x1024, .f32⟩
  | 37 => ⟨S16x4096x1024, .f32⟩
  | 38 => ⟨S16x4096x1024, .f32⟩
  | 39 => ⟨S16x4096x1024, .f32⟩
  | 40 => ⟨S_, .f32⟩
  | 41 => ⟨S16x4096, .f32⟩
  | 42 => ⟨S16x4096x1, .f32⟩
  | 43 => ⟨S_, .f32⟩
  | 44 => ⟨S16x4096x1, .f32⟩
  | 45 => ⟨S16x4096x1, .f32⟩
  | 46 => ⟨S_, .f32⟩
  | 47 => ⟨S16x4096x1, .f32⟩
  | 48 => ⟨S16x4096x1, .f32⟩
  | 49 => ⟨S16x4096x1, .f32⟩
  | 50 => ⟨S16x4096x1024, .f32⟩
  | 51 => ⟨S16x4096x1024, .f32⟩
  | 52 => ⟨S1x1x1024, .f32⟩
  | 53 => ⟨S16x4096x1024, .f32⟩
  | 54 => ⟨S16x4096x1024, .f32⟩
  | 55 => ⟨S16x1x1024, .f32⟩
  | 56 => ⟨S_, .f32⟩
  | 57 => ⟨S16x1x1024, .f32⟩
  | 58 => ⟨S16x1x1024, .f32⟩
  | 59 => ⟨S16x4096x1024, .f32⟩
  | 60 => ⟨S16x4096x1024, .f32⟩
  | 61 => ⟨S16x1x1024, .f32⟩
  | 62 => ⟨S16x4096x1024, .f32⟩
  | 63 => ⟨S16x4096x1024, .f32⟩
  | 64 => ⟨S16x4096x2048, .f32⟩
  | 65 => ⟨S16x4096x1024, .f32⟩
  | 66 => ⟨S16x4096x1024, .f32⟩
  | 67 => ⟨S4, .i32⟩
  | 68 => ⟨S_, .i32⟩
  | 69 => ⟨S4, .i32⟩
  | 70 => ⟨S4, .i32⟩
  | 71 => ⟨S4096, .i32⟩
  | 72 => ⟨S1x4096, .i32⟩
  | 73 => ⟨S4x1, .i32⟩
  | 74 => ⟨S4x4096, .i32⟩
  | 75 => ⟨S4x4096, .i32⟩
  | 76 => ⟨S4x4096, .i32⟩
  | 77 => ⟨S_, .i32⟩
  | 78 => ⟨S4x4096, .i32⟩
  | 79 => ⟨S4x4096, .i32⟩
  | 80 => ⟨S1x4096, .i32⟩
  | 81 => ⟨S4x1, .i32⟩
  | 82 => ⟨S4x4096, .i32⟩
  | 83 => ⟨S4x4096, .i32⟩
  | 84 => ⟨S4x4096, .i32⟩
  | 85 => ⟨S_, .i32⟩
  | 86 => ⟨S4x4096, .i32⟩
  | 87 => ⟨S4x4096, .i32⟩
  | 88 => ⟨S1x1x4096, .i32⟩
  | 89 => ⟨S4x4096x1, .i32⟩
  | 90 => ⟨S4x4096x4096, .i32⟩
  | 91 => ⟨S4x4096x4096, .i32⟩
  | 92 => ⟨S4x4096x4096, .i1⟩
  | 93 => ⟨S1x1x4096, .i32⟩
  | 94 => ⟨S4x4096x1, .i32⟩
  | 95 => ⟨S4x4096x4096, .i32⟩
  | 96 => ⟨S4x4096x4096, .i32⟩
  | 97 => ⟨S4x4096x4096, .i1⟩
  | 98 => ⟨S4x4096x4096, .i1⟩
  | 99 => ⟨S16x4096x4x256, .f32⟩
  | 100 => ⟨S4x4096x4096, .f32⟩
  | 101 => ⟨S4x16x256x4096, .f32⟩
  | 102 => ⟨S16x4096x4x256, .f32⟩
  | 103 => ⟨S4x4096, .i32⟩
  | 104 => ⟨S4x4096, .f32⟩
  | 105 => ⟨S4096x4, .f32⟩
  | 106 => ⟨S1x4096x4x1, .f32⟩
  | 107 => ⟨S16x4096x4x256, .f32⟩
  | 108 => ⟨S16x4096x4x256, .f32⟩
  | 109 => ⟨S16x4096x4x256, .f32⟩
  | 110 => ⟨S4x256x16x4096, .f32⟩
  | 111 => ⟨S16x4096x4x256, .f32⟩
  | 112 => ⟨S16x4096x1024, .f32⟩
  | 113 => ⟨S1x1x1024, .f32⟩
  | 114 => ⟨S16x4096x1024, .f32⟩
  | 115 => ⟨S16x4096x1024, .f32⟩
  | 116 => ⟨S16x4096x1024, .f32⟩
  | 117 => ⟨S16x4096x1024, .f32⟩
  | 118 => ⟨S_, .f32⟩
  | 119 => ⟨S16x4096x1024, .f32⟩
  | 120 => ⟨S16x4096x1024, .f32⟩
  | 121 => ⟨S16x4096x1024, .f32⟩
  | 122 => ⟨S16x4096x1024, .f32⟩
  | 123 => ⟨S16x4096x1024, .f32⟩
  | 124 => ⟨S16x1x1024, .f32⟩
  | 125 => ⟨S16x4096x1024, .f32⟩
  | 126 => ⟨S_, .f32⟩
  | 127 => ⟨S16x4096, .f32⟩
  | _ => ⟨S16x4096x1024, .f32⟩

abbrev hbmTy0_1 (i : Nat) : BufTy := match i % 128 with
  | 0 => ⟨S16x4096x1, .f32⟩
  | 1 => ⟨S_, .f32⟩
  | 2 => ⟨S16x4096x1, .f32⟩
  | 3 => ⟨S16x4096x1, .f32⟩
  | 4 => ⟨S_, .f32⟩
  | 5 => ⟨S16x4096x1, .f32⟩
  | 6 => ⟨S16x4096x1, .f32⟩
  | 7 => ⟨S16x4096x1, .f32⟩
  | 8 => ⟨S16x4096x1024, .f32⟩
  | 9 => ⟨S16x4096x1024, .f32⟩
  | 10 => ⟨S1x1x1024, .f32⟩
  | 11 => ⟨S16x4096x1024, .f32⟩
  | 12 => ⟨S16x4096x1024, .f32⟩
  | 13 => ⟨S16x4096x1024, .f32⟩
  | 14 => ⟨S16x4096x1024, .f32⟩
  | 15 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_8 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_9 : Ref sig .tc := ⟨.hbm, 126, rfl⟩
abbrev main_v99 : Ref sig .tc := ⟨.hbm, 127, rfl⟩
abbrev main_v100 : Ref sig .tc := ⟨.hbm, 128, rfl⟩
abbrev main_cst_10 : Ref sig .tc := ⟨.hbm, 129, rfl⟩
abbrev main_v101 : Ref sig .tc := ⟨.hbm, 130, rfl⟩
abbrev main_v102 : Ref sig .tc := ⟨.hbm, 131, rfl⟩
abbrev main_cst_11 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x1024 : Shape := ⟨2, ![16, 1024]⟩
abbrev S1024 : Shape := ⟨1, ![1024]⟩
abbrev S1024x3328 : Shape := ⟨2, ![1024, 3328]⟩
abbrev S64 : Shape := ⟨1, ![64]⟩
abbrev S4096x8 : Shape := ⟨2, ![4096, 8]⟩
abbrev S4096x2x16 : Shape := ⟨3, ![4096, 2, 16]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x1x1024 : Shape := ⟨3, ![16, 1, 1024]⟩
abbrev S1x1024 : Shape := ⟨2, ![1, 1024]⟩
abbrev S4096x2x8x8 : Shape := ⟨4, ![4096, 2, 8, 8]⟩
abbrev S4096x2x2x2x16 : Shape := ⟨5, ![4096, 2, 2, 2, 16]⟩
abbrev S4096x128 : Shape := ⟨2, ![4096, 128]⟩
abbrev S16x4096x512 : Shape := ⟨3, ![16, 4096, 512]⟩
abbrev S16x2x128x4096 : Shape := ⟨4, ![16, 2, 128, 4096]⟩
abbrev S16x2x4096x128 : Shape := ⟨4, ![16, 2, 4096, 128]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x512 : Shape := ⟨3, ![1, 1024, 512]⟩
abbrev S1x2x128x1024 : Shape := ⟨4, ![1, 2, 128, 1024]⟩
abbrev S1x2x1024x128 : Shape := ⟨4, ![1, 2, 1024, 128]⟩
abbrev S1x256x1024 : Shape := ⟨3, ![1, 256, 1024]⟩
abbrev S256x1024 : Shape := ⟨2, ![256, 1024]⟩
abbrev S256x128 : Shape := ⟨2, ![256, 128]⟩
abbrev S1024x512 : Shape := ⟨2, ![1024, 512]⟩
abbrev S256x512 : Shape := ⟨2, ![256, 512]⟩
abbrev S1x256x128 : Shape := ⟨3, ![1, 256, 128]⟩
abbrev S1x256x512 : Shape := ⟨3, ![1, 256, 512]⟩
abbrev S128x128 : Shape := ⟨2, ![128, 128]⟩
abbrev S128x256 : Shape := ⟨2, ![128, 256]⟩
abbrev S64x256 : Shape := ⟨2, ![64, 256]⟩
abbrev S1x1x128x256 : Shape := ⟨4, ![1, 1, 128, 256]⟩
abbrev S1x1x256x128 : Shape := ⟨4, ![1, 1, 256, 128]⟩
abbrev S1024x1024 : Shape := ⟨2, ![1024, 1024]⟩

abbrev nBuf : Space → Nat
  | .hbm => 86
  | .vmem => 37
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16x1024, .f32⟩
  | .hbm, ⟨3, _⟩ => ⟨S1024, .f32⟩
  | .hbm, ⟨4, _⟩ => ⟨S1024x3328, .f32⟩
  | .hbm, ⟨5, _⟩ => ⟨S64, .f32⟩
  | .hbm, ⟨6, _⟩ => ⟨S64, .f32⟩
  | .hbm, ⟨7, _⟩ => ⟨S4096x8, .f32⟩
  | .hbm, ⟨8, _⟩ => ⟨S4096x2x16, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S1x256, .i32⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .bf16⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S16x1x1024, .f32⟩
  | .hbm, ⟨28, _⟩ => ⟨S16x1x1024, .f32⟩
  | .hbm, ⟨29, _⟩ => ⟨S1x1024, .f32⟩
  | .hbm, ⟨30, _⟩ => ⟨S1024x3328, .bf16⟩
  | .hbm, ⟨31, _⟩ => ⟨S4096x2x8x8, .i32⟩
  | .hbm, ⟨32, _⟩ => ⟨S4096x2x2x2x16, .i32⟩
  | .hbm, ⟨33, _⟩ => ⟨S_, .f32⟩
  | .hbm, ⟨34, _⟩ => ⟨S4096x2x8x8, .f32⟩
  | .hbm, ⟨35, _⟩ => ⟨S_, .f32⟩
  | .hbm, ⟨36, _⟩ => ⟨S4096x2x8x8, .f32⟩
  | .hbm, ⟨37, _⟩ => ⟨S_, .f32⟩
  | .hbm, ⟨38, _⟩ => ⟨S4096x2x2x2x16, .f32⟩
  | .hbm, ⟨39, _⟩ => ⟨S_, .i32⟩
  | .hbm, ⟨40, _⟩ => ⟨S4096x2x8x8, .i32⟩
  | .hbm, ⟨41, _⟩ => ⟨S4096x2x8x8, .i1⟩
  | .hbm, ⟨42, _⟩ => ⟨S4096x8, .f32⟩
  | .hbm, ⟨43, _⟩ => ⟨S4096x2x8x8, .f32⟩
  | .hbm, ⟨44, _⟩ => ⟨S4096x2x8x8, .f32⟩
  | .hbm, ⟨45, _⟩ => ⟨S4096x128, .f32⟩
  | .hbm, ⟨46, _⟩ => ⟨S_, .i32⟩
  | .hbm, ⟨47, _⟩ => ⟨S4096x2x8x8, .i32⟩
  | .hbm, ⟨48, _⟩ => ⟨S4096x2x8x8, .i1⟩
  | .hbm, ⟨49, _⟩ => ⟨S4096x8, .f32⟩
  | .hbm, ⟨50, _⟩ => ⟨S4096x2x8x8, .f32⟩
  | .hbm, ⟨51, _⟩ => ⟨S4096x2x8x8, .f32⟩
  | .hbm, ⟨52, _⟩ => ⟨S4096x2x8x8, .f32⟩
  | .hbm, ⟨53, _⟩ => ⟨S4096x128, .f32⟩
  | .hbm, ⟨54, _⟩ => ⟨S_, .i32⟩
  | .hbm, ⟨55, _⟩ => ⟨S4096x2x8x8, .i32⟩
  | .hbm, ⟨56, _⟩ => ⟨S4096x2x8x8, .i1⟩
  | .hbm, ⟨57, _⟩ => ⟨S4096x8, .f32⟩
  | .hbm, ⟨58, _⟩ => ⟨S4096x2x8x8, .f32⟩
  | .hbm, ⟨59, _⟩ => ⟨S4096x2x8x8, .f32⟩
  | .hbm, ⟨60, _⟩ => ⟨S4096x128, .f32⟩
  | .hbm, ⟨61, _⟩ => ⟨S4096x2x16, .f32⟩
  | .hbm, ⟨62, _⟩ => ⟨S4096x2x2x2x16, .f32⟩
  | .hbm, ⟨63, _⟩ => ⟨S4096x128, .f32⟩
  | .hbm, ⟨64, _⟩ => ⟨S_, .i32⟩
  | .hbm, ⟨65, _⟩ => ⟨S4096x2x2x2x16, .i32⟩
  | .hbm, ⟨66, _⟩ => ⟨S4096x2x2x2x16, .i1⟩
  | .hbm, ⟨67, _⟩ => ⟨S4096x2x16, .f32⟩
  | .hbm, ⟨68, _⟩ => ⟨S4096x2x2x2x16, .f32⟩
  | .hbm, ⟨69, _⟩ => ⟨S4096x2x2x2x16, .f32⟩
  | .hbm, ⟨70, _⟩ => ⟨S4096x2x2x2x16, .f32⟩
  | .hbm, ⟨71, _⟩ => ⟨S4096x128, .f32⟩
  | .hbm, ⟨72, _⟩ => ⟨S_, .i32⟩
  | .hbm, ⟨73, _⟩ => ⟨S4096x2x2x2x16, .i32⟩
  | .hbm, ⟨74, _⟩ => ⟨S4096x2x2x2x16, .i1⟩
  | .hbm, ⟨75, _⟩ => ⟨S4096x2x16, .f32⟩
  | .hbm, ⟨76, _⟩ => ⟨S4096x2x2x2x16, .f32⟩
  | .hbm, ⟨77, _⟩ => ⟨S4096x2x2x2x16, .f32⟩
  | .hbm, ⟨78, _⟩ => ⟨S4096x128, .f32⟩
  | .hbm, ⟨79, _⟩ => ⟨S16x4096x512, .bf16⟩
  | .hbm, ⟨80, _⟩ => ⟨S16x4096x512, .bf16⟩
  | .hbm, ⟨81, _⟩ => ⟨S16x4096x512, .bf16⟩
  | .hbm, ⟨82, _⟩ => ⟨S16x4096x512, .bf16⟩
  | .hbm, ⟨83, _⟩ => ⟨S16x2x128x4096, .bf16⟩
  | .hbm, ⟨84, _⟩ => ⟨S16x2x4096x128, .bf16⟩
  | .hbm, ⟨85, _⟩ => ⟨S16x4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3328, .bf16⟩
  | .local _ .vmem, ⟨8, _⟩ => ⟨S1x128, .f32⟩
  | .local _ .vmem, ⟨9, _⟩ => ⟨S1x128, .f32⟩
  | .local _ .vmem, ⟨10, _⟩ => ⟨S256x256, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x2x128x1024, .bf16⟩
  | .local _ .vmem, ⟨32, _⟩ => ⟨S1x2x128x1024, .bf16⟩
  | .local _ .vmem, ⟨33, _⟩ => ⟨S1x2x1024x128, .bf16⟩
  | .local _ .vmem, ⟨34, _⟩ => ⟨S1x2x1024x128, .bf16⟩
  | .local _ .vmem, ⟨35, _⟩ => ⟨S1x1024x1024, .bf16⟩
  | .local _ .vmem, ⟨36, _⟩ => ⟨S1x1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev main_v61_5 : Ref sig .tc := ⟨.hbm, 84, rfl⟩
abbrev main_v61_6 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S16x4096x1024 : Shape := ⟨3, ![16, 4096, 1024]⟩
abbrev S16x1024 : Shape := ⟨2, ![16, 1024]⟩
abbrev S1024 : Shape := ⟨1, ![1024]⟩
abbrev S1024x3328 : Shape := ⟨2, ![1024, 3328]⟩
abbrev S64 : Shape := ⟨1, ![64]⟩
abbrev S4096x8 : Shape := ⟨2, ![4096, 8]⟩
abbrev S4096x2x16 : Shape := ⟨3, ![4096, 2, 16]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x3328 : Shape := ⟨3, ![16, 4096, 3328]⟩
abbrev S16x4096x512 : Shape := ⟨3, ![16, 4096, 512]⟩
abbrev S16x4096x8x64 : Shape := ⟨4, ![16, 4096, 8, 64]⟩
abbrev S16x4096x8x16 : Shape := ⟨4, ![16, 4096, 8, 16]⟩
abbrev S4096x1x8 : Shape := ⟨3, ![4096, 1, 8]⟩
abbrev S16x4096x8x8 : Shape := ⟨4, ![16, 4096, 8, 8]⟩
abbrev S1x4096x1x8 : Shape := ⟨4, ![1, 4096, 1, 8]⟩
abbrev S16x4096x8x48 : Shape := ⟨4, ![16, 4096, 8, 48]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x2x32 : Shape := ⟨5, ![16, 4096, 8, 2, 32]⟩
abbrev S4096x1x2x16 : Shape := ⟨4, ![4096, 1, 2, 16]⟩
abbrev S16x4096x8x2x16 : Shape := ⟨5, ![16, 4096, 8, 2, 16]⟩
abbrev S1x4096x1x2x16 : Shape := ⟨5, ![1, 4096, 1, 2, 16]⟩
abbrev S16x4096x128 : Shape := ⟨3, ![16, 4096, 128]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S16x4096x2x2x32 : Shape := ⟨5, ![16, 4096, 2, 2, 32]⟩
abbrev S16x4096x2x2x16 : Shape := ⟨5, ![16, 4096, 2, 2, 16]⟩
abbrev S16x2x64x4096 : Shape := ⟨4, ![16, 2, 64, 4096]⟩
abbrev S16x2x4096x64 : Shape := ⟨4, ![16, 2, 4096, 64]⟩
abbrev S16x2x4096x1 : Shape := ⟨4, ![16, 2, 4096, 1]⟩
abbrev S16x2x128x4096 : Shape := ⟨4, ![16, 2, 128, 4096]⟩
abbrev S16x2x4096x128 : Shape := ⟨4, ![16, 2, 4096, 128]⟩

abbrev nBuf : Space → Nat
  | .hbm => 200
  | .vmem => 0
  | .smem => 0
  | _ => 0

abbrev hbmTy0_0 (i : Nat) : BufTy := match i % 128 with
  | 0 => ⟨S16x4096x1024, .f32⟩
  | 1 => ⟨S16x1024, .f32⟩
  | 2 => ⟨S16x1024, .f32⟩
  | 3 => ⟨S1024, .f32⟩
  | 4 => ⟨S1024x3328, .f32⟩
  | 5 => ⟨S64, .f32⟩
  | 6 => ⟨S64, .f32⟩
  | 7 => ⟨S4096x8, .f32⟩
  | 8 => ⟨S4096x2x16, .f32⟩
  | 9 => ⟨S16x4096x1024, .f32⟩
  | 10 => ⟨S_, .f32⟩
  | 11 => ⟨S16x4096, .f32⟩
  | 12 => ⟨S16x4096x1, .f32⟩
  | 13 => ⟨S_, .f32⟩
  | 14 => ⟨S16x4096x1, .f32⟩
  | 15 => ⟨S16x4096x1, .f32⟩
  | 16 => ⟨S_, .f32⟩
  | 17 => ⟨S16x4096x1, .f32⟩
  | 18 => ⟨S16x4096x1, .f32⟩
  | 19 => ⟨S16x4096x1, .f32⟩
  | 20 => ⟨S16x4096x1024, .f32⟩
  | 21 => ⟨S16x4096x1024, .f32⟩
  | 22 => ⟨S1x1x1024, .f32⟩
  | 23 => ⟨S16x4096x1024, .f32⟩
  | 24 => ⟨S16x4096x1024, .f32⟩
  | 25 => ⟨S16x1x1024, .f32⟩
  | 26 => ⟨S_, .f32⟩
  | 27 => ⟨S16x1x1024, .f32⟩
  | 28 => ⟨S16x1x1024, .f32⟩
  | 29 => ⟨S16x4096x1024, .f32⟩
  | 30 => ⟨S16x4096x1024, .f32⟩
  | 31 => ⟨S16x1x1024, .f32⟩
  | 32 => ⟨S16x4096x1024, .f32⟩
  | 33 => ⟨S16x4096x1024, .f32⟩
  | 34 => ⟨S16x4096x3328, .f32⟩
  | 35 => ⟨S16x4096x512, .f32⟩
  | 36 => ⟨S16x4096x8x64, .f32⟩
  | 37 => ⟨S16x4096x8x16, .f32⟩
  | 38 => ⟨S4096x1x8, .f32⟩
  | 39 => ⟨S16x4096x8x8, .f32⟩
  | 40 => ⟨S16x4096x8x8, .f32⟩
  | 41 => ⟨S4096x1x8, .f32⟩
  | 42 => ⟨S4096x1x8, .f32⟩
  | 43 => ⟨S1x4096x1x8, .f32⟩
  | 44 => ⟨S16x4096x8x8, .f32⟩
  | 45 => ⟨S16x4096x8x8, .f32⟩
  | 46 => ⟨S1x4096x1x8, .f32⟩
  | 47 => ⟨S16x4096x8x8, .f32⟩
  | 48 => ⟨S16x4096x8x8, .f32⟩
  | 49 => ⟨S16x4096x8x8, .f32⟩
  | 50 => ⟨S1x4096x1x8, .f32⟩
  | 51 => ⟨S16x4096x8x8, .f32⟩
  | 52 => ⟨S16x4096x8x8, .f32⟩
  | 53 => ⟨S1x4096x1x8, .f32⟩
  | 54 => ⟨S16x4096x8x8, .f32⟩
  | 55 => ⟨S16x4096x8x8, .f32⟩
  | 56 => ⟨S16x4096x8x8, .f32⟩
  | 57 => ⟨S16x4096x8x16, .f32⟩
  | 58 => ⟨S16x4096x8x48, .f32⟩
  | 59 => ⟨S16x4096x8x64, .f32⟩
  | 60 => ⟨S16x4096x512, .f32⟩
  | 61 => ⟨S_, .f32⟩
  | 62 => ⟨S16x4096x512, .f32⟩
  | 63 => ⟨S16x4096x512, .f32⟩
  | 64 => ⟨S16x4096x512, .f32⟩
  | 65 => ⟨S16x4096x8x64, .f32⟩
  | 66 => ⟨S16x4096x8x16, .f32⟩
  | 67 => ⟨S4096x1x8, .f32⟩
  | 68 => ⟨S16x4096x8x8, .f32⟩
  | 69 => ⟨S16x4096x8x8, .f32⟩
  | 70 => ⟨S4096x1x8, .f32⟩
  | 71 => ⟨S4096x1x8, .f32⟩
  | 72 => ⟨S1x4096x1x8, .f32⟩
  | 73 => ⟨S16x4096x8x8, .f32⟩
  | 74 => ⟨S16x4096x8x8, .f32⟩
  | 75 => ⟨S1x4096x1x8, .f32⟩
  | 76 => ⟨S16x4096x8x8, .f32⟩
  | 77 => ⟨S16x4096x8x8, .f32⟩
  | 78 => ⟨S16x4096x8x8, .f32⟩
  | 79 => ⟨S1x4096x1x8, .f32⟩
  | 80 => ⟨S16x4096x8x8, .f32⟩
  | 81 => ⟨S16x4096x8x8, .f32⟩
  | 82 => ⟨S1x4096x1x8, .f32⟩
  | 83 => ⟨S16x4096x8x8, .f32⟩
  | 84 => ⟨S16x4096x8x8, .f32⟩
  | 85 => ⟨S16x4096x8x8, .f32⟩
  | 86 => ⟨S16x4096x8x16, .f32⟩
  | 87 => ⟨S16x4096x8x48, .f32⟩
  | 88 => ⟨S16x4096x8x64, .f32⟩
  | 89 => ⟨S16x4096x512, .f32⟩
  | 90 => ⟨S16x4096x512, .f32⟩
  | 91 => ⟨S16x4096x512, .f32⟩
  | 92 => ⟨S16x4096x8x64, .f32⟩
  | 93 => ⟨S16x4096x8x64, .f32⟩
  | 94 => ⟨S_, .f32⟩
  | 95 => ⟨S16x4096x8, .f32⟩
  | 96 => ⟨S16x4096x8x1, .f32⟩
  | 97 => ⟨S_, .f32⟩
  | 98 => ⟨S16x4096x8x1, .f32⟩
  | 99 => ⟨S16x4096x8x1, .f32⟩
  | 100 => ⟨S_, .f32⟩
  | 101 => ⟨S16x4096x8x1, .f32⟩
  | 102 => ⟨S16x4096x8x1, .f32⟩
  | 103 => ⟨S16x4096x8x1, .f32⟩
  | 104 => ⟨S16x4096x8x64, .f32⟩
  | 105 => ⟨S16x4096x8x64, .f32⟩
  | 106 => ⟨S1x1x1x64, .f32⟩
  | 107 => ⟨S16x4096x8x64, .f32⟩
  | 108 => ⟨S16x4096x8x64, .f32⟩
  | 109 => ⟨S16x4096x8x2x32, .f32⟩
  | 110 => ⟨S4096x1x2x16, .f32⟩
  | 111 => ⟨S16x4096x8x2x16, .f32⟩
  | 112 => ⟨S16x4096x8x2x16, .f32⟩
  | 113 => ⟨S4096x1x2x16, .f32⟩
  | 114 => ⟨S4096x1x2x16, .f32⟩
  | 115 => ⟨S1x4096x1x2x16, .f32⟩
  | 116 => ⟨S16x4096x8x2x16, .f32⟩
  | 117 => ⟨S16x4096x8x2x16, .f32⟩
  | 118 => ⟨S1x4096x1x2x16, .f32⟩
  | 119 => ⟨S16x4096x8x2x16, .f32⟩
  | 120 => ⟨S16x4096x8x2x16, .f32⟩
  | 121 => ⟨S16x4096x8x2x16, .f32⟩
  | 122 => ⟨S1x4096x1x2x16, .f32⟩
  | 123 => ⟨S16x4096x8x2x16, .f32⟩
  | 124 => ⟨S16x4096x8x2x16, .f32⟩
  | 125 => ⟨S1x4096x1x2x16, .f32⟩
  | 126 => ⟨S16x4096x8x2x16, .f32⟩
  | 127 => ⟨S16x4096x8x2x16, .f32⟩
  | _ => ⟨S16x4096x1024, .f32⟩

abbrev hbmTy0_1 (i : Nat) : BufTy := match i % 128 with
  | 0 => ⟨S16x4096x8x2x16, .f32⟩
  | 1 => ⟨S16x4096x8x2x32, .f32⟩
  | 2 => ⟨S16x4096x8x64, .f32⟩
  | 3 => ⟨S16x4096x512, .f32⟩
  | 4 => ⟨S_, .f32⟩
  | 5 => ⟨S16x4096x512, .f32⟩
  | 6 => ⟨S16x4096x512, .f32⟩
  | 7 => ⟨S16x4096x128, .f32⟩
  | 8 => ⟨S16x4096x2x64, .f32⟩
  | 9 => ⟨S16x4096x2x64, .f32⟩
  | 10 => ⟨S_, .f32⟩
  | 11 => ⟨S16x4096x2, .f32⟩
  | 12 => ⟨S16x4096x2x1, .f32⟩
  | 13 => ⟨S_, .f32⟩
  | 14 => ⟨S16x4096x2x1, .f32⟩
  | 15 => ⟨S16x4096x2x1, .f32⟩
  | 16 => ⟨S_, .f32⟩
  | 17 => ⟨S16x4096x2x1, .f32⟩
  | 18 => ⟨S16x4096x2x1, .f32⟩
  | 19 => ⟨S16x4096x2x1, .f32⟩
  | 20 => ⟨S16x4096x2x64, .f32⟩
  | 21 => ⟨S16x4096x2x64, .f32⟩
  | 22 => ⟨S1x1x1x64, .f32⟩
  | 23 => ⟨S16x4096x2x64, .f32⟩
  | 24 => ⟨S16x4096x2x64, .f32⟩
  | 25 => ⟨S16x4096x2x2x32, .f32⟩
  | 26 => ⟨S4096x1x2x16, .f32⟩
  | 27 => ⟨S16x4096x2x2x16, .f32⟩
  | 28 => ⟨S16x4096x2x2x16, .f32⟩
  | 29 => ⟨S4096x1x2x16, .f32⟩
  | 30 => ⟨S4096x1x2x16, .f32⟩
  | 31 => ⟨S1x4096x1x2x16, .f32⟩
  | 32 => ⟨S16x4096x2x2x16, .f32⟩
  | 33 => ⟨S16x4096x2x2x16, .f32⟩
  | 34 => ⟨S1x4096x1x2x16, .f32⟩
  | 35 => ⟨S16x4096x2x2x16, .f32⟩
  | 36 => ⟨S16x4096x2x2x16, .f32⟩
  | 37 => ⟨S16x4096x2x2x16, .f32⟩
  | 38 => ⟨S1x4096x1x2x16, .f32⟩
  | 39 => ⟨S16x4096x2x2x16, .f32⟩
  | 40 => ⟨S16x4096x2x2x16, .f32⟩
  | 41 => ⟨S1x4096x1x2x16, .f32⟩
  | 42 => ⟨S16x4096x2x2x16, .f32⟩
  | 43 => ⟨S16x4096x2x2x16, .f32⟩
  | 44 => ⟨S16x4096x2x2x16, .f32⟩
  | 45 => ⟨S16x4096x2x2x32, .f32⟩
  | 46 => ⟨S16x4096x2x64, .f32⟩
  | 47 => ⟨S16x2x64x4096, .f32⟩
  | 48 => ⟨S16x4096x128, .f32⟩
  | 49 => ⟨S16x4096x2x64, .f32⟩
  | 50 => ⟨S16x2x4096x64, .f32⟩
  | 51 => ⟨S_, .f32⟩
  | 52 => ⟨S16x2x4096x1, .f32⟩
  | 53 => ⟨S_, .i32⟩
  | 54 => ⟨S_, .f32⟩
  | 55 => ⟨S16x2x4096x64, .f32⟩
  | 56 => ⟨S16x4096x1024, .f32⟩
  | 57 => ⟨S16x2x128x4096, .f32⟩
  | 58 => ⟨S16x2x4096x128, .f32⟩
  | 59 => ⟨S16x4096x1024, .f32⟩
  | 60 => ⟨S16x4096x1024, .f32⟩
  | 61 => ⟨S_, .f32⟩
  | 62 => ⟨S16x4096x1024, .f32⟩
  | 63 => ⟨S16x4096x1024, .f32⟩
  | 64 => ⟨S16x4096x1024, .f32⟩
  | 65 => ⟨S16x4096x512, .bf16⟩
  | 66 => ⟨S16x4096x512, .bf16⟩
  | 67 => ⟨S16x4096x512, .bf16⟩
  | 68 => ⟨S16x4096x512, .bf16⟩
  | 69 => ⟨S16x2x128x4096, .bf16⟩
  | 70 => ⟨S16x2x4096x128, .bf16⟩
  | 71 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_4 : Ref sig .tc := ⟨.hbm, 94, rfl⟩
abbrev main_v80 : Ref sig .tc := ⟨.hbm, 95, rfl⟩
abbrev main_v81 : Ref sig .tc := ⟨.hbm, 96, rfl⟩
abbrev main_cst_5 : Ref sig .tc := ⟨.hbm, 97, rfl⟩
abbrev main_v82 : Ref sig .tc := ⟨.hbm, 98, rfl⟩
abbrev main_v83 : Ref sig .tc := ⟨.hbm, 99, rfl⟩
abbrev main_cst_6 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_7 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_cst_8 : Ref sig .tc := ⟨.hbm, 138, rfl⟩
abbrev main_v120 : Ref sig .tc := ⟨.hbm, 139, rfl⟩
abbrev main_v121 : Ref sig .tc := ⟨.hbm, 140, rfl⟩
abbrev main_cst_9 : Ref sig .tc := ⟨.hbm, 141, rfl⟩
abbrev main_v122 : Ref sig .tc := ⟨.hbm, 142, rfl⟩
abbrev main_v123 : Ref sig .tc := ⟨.hbm, 143, rfl⟩
abbrev main_cst_10 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_cst_11 : Ref sig .tc := ⟨.hbm, 179, rfl⟩
abbrev main_v158 : Ref sig .tc := ⟨.hbm, 180, rfl⟩
abbrev main_c : Ref sig .tc := ⟨.hbm, 181, rfl⟩
abbrev main_call0_v0 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_cst_12 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩

abbrev nD : Nat := 1
abbrev τ : Topo := Topo.v7x

variable {F : FTy → Type} [FloatOps F]
-- ==== Proof.Chain.lean ====
module
public import Idealize.ShloMosaic.Lib.Pointwise
public import proofs.«01_k».proof.Proof.Gen.KernelIdeal.Value
@[expose] public section
set_option maxRecDepth 16384
noncomputable section

/-! The body of the flash call as eight equal steps over the key blocks, a division and a merge of lane halves. -/

namespace Gqa
open Cert.KernelIdeal Cert.KernelIdeal.Gen Idealize.ShloMosaic Idealize.ShloMosaic.TcCoe
open Cert.KernelIdeal.Facts
variable {F : FTy → Type} [FloatOps F]

/-- The running row maximum and the running weighted sums. -/
abbrev St (F : FTy → Type) := FVec F S4096x1 .f32 × FVec F S4096x128 .f32

/-- The scores of the stacked queries against one block of 512 keys. -/
def score (qs : FVec F S4096x128 .bf16) (k : Vec F S1x1x128x512 .bf16) : FVec F S4096x512 .f32 :=
  matmul dot_S4096x128_S128x512_S4096x512_1_0_0_1_n_n none qs (shapeCast S128x512 k shapeCasts_S1x1x128x512_S128x512)
    (constant S4096x512 .f32 0x00000000#32)

/-- The row maximum after a block of scores. -/
def nextM (m : FVec F S4096x1 .f32) (sc : FVec F S4096x512 .f32) : FVec F S4096x1 .f32 :=
  maximumf m (shapeCast S4096x1 (multiReduction .maximumf [1] S4096 sc 0xFF800000#32 reduces_S4096x512_S4096 (.inl rfl) rfl)
    shapeCasts_S4096_S4096x1)

/-- The weights of a block of keys: two to the score less the maximum. -/
def weights (m : FVec F S4096x1 .f32) (sc : FVec F S4096x512 .f32) : FVec F S4096x512 .bf16 :=
  truncf .bf16 (exp2 (subf sc (broadcastTo S4096x512 m broadcasts_S4096x1_S4096x512))) bitsLt_bf16_f32

/-- The old sums, rescaled from the old maximum `m` to the new one `m'`. -/
def rescale (m m' : FVec F S4096x1 .f32) (acc : FVec F S4096x128 .f32) : FVec F S4096x128 .f32 :=
  mulf acc (broadcastTo S4096x128 (exp2 (subf m m')) broadcasts_S4096x1_S4096x128)

/-- The sums after a block of values. -/
def nextAcc (acc : FVec F S4096x128 .f32) (p : FVec F S4096x512 .bf16) (v : Vec F S1x1x512x128 .bf16) : FVec F S4096x128 .f32 :=
  addf acc (matmul dot_S4096x512_S512x128_S4096x128_1_0_0_1_n_n none p (shapeCast S512x128 v shapeCasts_S1x1x512x128_S512x128)
    (constant S4096x128 .f32 0x00000000#32))

/-- One step over a block of keys and values. -/
def step (qs : FVec F S4096x128 .bf16) (k : Vec F S1x1x128x512 .bf16) (v : Vec F S1x1x512x128 .bf16) (s : St F) : St F :=
  ⟨nextM s.1 (score qs k),
    nextAcc (rescale s.1 (nextM s.1 (score qs k)) s.2) (weights (nextM s.1 (score qs k)) (score qs k)) v⟩

/-- Before the first step. -/
def start : St F := ⟨k0_pay6, k0_pay7⟩

/-- The block of keys at step `j`. -/
def kAt (x1 : Vec F S1x1x128x4096 .bf16) (j : Fin 8) : Vec F S1x1x128x512 .bf16 :=
  View.ld x1 (Rect.unit (s := S1x1x128x4096) ![0, 0, 0, 512 * j.val] ![1, 1, 128, 512] (by
    intro a; have := j.isLt; match a with
    | 0 => exact Nat.le_refl _ | 1 => exact Nat.le_refl _ | 2 => exact Nat.le_refl _ | 3 => show 512 * j.val + 512 ≤ 4096; omega))

/-- The block of values at step `j`. -/
def vAt (x2 : Vec F S1x1x4096x128 .bf16) (j : Fin 8) : Vec F S1x1x512x128 .bf16 :=
  View.ld x2 (Rect.unit (s := S1x1x4096x128) ![0, 0, 512 * j.val, 0] ![1, 1, 512, 128] (by
    intro a; have := j.isLt; match a with
    | 0 => exact Nat.le_refl _ | 1 => exact Nat.le_refl _ | 2 => show 512 * j.val + 512 ≤ 4096; omega | 3 => exact Nat.le_refl _))

/-- The stacked, lane-masked queries of the block. -/
def stacked (x0 : Vec F S1x1024x256 .bf16) : FVec F S4096x128 .bf16 :=
  k0_pay5 (View.ld x0 (Rect.unit (s := S1x1024x256) ![0, 0, 0] ![1, 1024, 128] inb_S1x1024x256_S1x1024x128_0_0_0))
    (View.ld x0 (Rect.unit (s := S1x1024x256) ![0, 0, 128] ![1, 1024, 128] inb_S1x1024x256_S1x1024x128_0_0_128))

/-- One step over the blocks numbered `j`. -/
def stepAt (x0 : Vec F S1x1024x256 .bf16) (x1 : Vec F S1x1x128x4096 .bf16) (x2 : Vec F S1x1x4096x128 .bf16) (j : Fin 8) (s : St F) : St F :=
  step (stacked x0) (kAt x1 j) (vAt x2 j) s

/-- The state after the eight steps. -/
def final (x0 : Vec F S1x1024x256 .bf16) (x1 : Vec F S1x1x128x4096 .bf16) (x2 : Vec F S1x1x4096x128 .bf16) : St F :=
  stepAt x0 x1 x2 7 (stepAt x0 x1 x2 6 (stepAt x0 x1 x2 5 (stepAt x0 x1 x2 4
    (stepAt x0 x1 x2 3 (stepAt x0 x1 x2 2 (stepAt x0 x1 x2 1 (stepAt x0 x1 x2 0 start)))))))

/-- The sums over the weights' total, which is the sums' column 64. -/
def quot (acc : FVec F S4096x128 .f32) : FVec F S4096x128 .f32 :=
  divf acc (broadcastTo S4096x128 (extractStridedSlice S4096x1 ![0, 64] acc slices_S4096x128_o0_64_S4096x1) broadcasts_S4096x1_S4096x128)

/-- Two heads' rows side by side: the first's lanes below 64, the second's above. -/
def merge (a b : FVec F S1024x128 .f32) : FVec F S1x1024x128 .bf16 :=
  shapeCast S1x1024x128 (truncf .bf16 (select (broadcastTo S1024x128 (shapeCast S1x128 k0_pay4 shapeCasts_S1x128_S1x128) broadcasts_S1x128_S1024x128)
    a (dynamicRotate 1 64#32 none b rotates_S1024x128_d1)) bitsLt_bf16_f32) shapeCasts_S1024x128_S1x1024x128

/-- The output block's first 128 lanes. -/
def outLo (q : FVec F S4096x128 .f32) : FVec F S1x1024x128 .bf16 :=
  merge (extractStridedSlice S1024x128 ![0, 0] q slices_S4096x128_o0_0_S1024x128)
    (extractStridedSlice S1024x128 ![1024, 0] q slices_S4096x128_o1024_0_S1024x128)

/-- The output block's last 128 lanes. -/
def outHi (q : FVec F S4096x128 .f32) : FVec F S1x1024x128 .bf16 :=
  merge (extractStridedSlice S1024x128 ![2048, 0] q slices_S4096x128_o2048_0_S1024x128)
    (extractStridedSlice S1024x128 ![3072, 0] q slices_S4096x128_o3072_0_S1024x128)

/-- What the body leaves in the output's block, as its two stores over the chain of steps. -/
theorem out_eq (c : Dev nD) (i : grid0.Coords) (arg3 : Memref sig .tc .vmem S1x1024x256 .bf16) (harg3 : arg3.IsWhole) (arg4 : Memref sig .tc .vmem S1x1x128x4096 .bf16) (harg4 : arg4.IsWhole) (arg5 : Memref sig .tc .vmem S1x1x4096x128 .bf16) (harg5 : arg5.IsWhole) (arg6 : Memref sig .tc .vmem S1x1024x256 .bf16) (harg6 : arg6.IsWhole)
    (x0 : Vec F S1x1024x256 .bf16) (x1 : Vec F S1x1x128x4096 .bf16) (x2 : Vec F S1x1x4096x128 .bf16) :
    out0_A_3 c i arg3 harg3 arg4 harg4 arg5 harg5 arg6 harg6 x0 x1 x2 = View.canon
      [⟨Rect.unit (s := S1x1024x256) ![0, 0, 128] ![1, 1024, 128] inb_S1x1024x256_S1x1024x128_0_0_128, outHi (quot (final x0 x1 x2).2)⟩,
       ⟨Rect.unit (s := S1x1024x256) ![0, 0, 0] ![1, 1024, 128] inb_S1x1024x256_S1x1024x128_0_0_0, outLo (quot (final x0 x1 x2).2)⟩] := by
  unfold out0_A_3
  rw [View.read_writes_eq_canon _ _ _ (cover0_A_3 c i arg3 harg3 arg4 harg4 arg5 harg5 arg6 harg6 x0 x1 x2)]
  unfold kernelRun0_A; dsimp only
  sl_unfold_words
  simp only [View.readAt_eq_ld, harg3.read_unread, harg4.read_unread, harg5.read_unread]
  rfl

end Gqa
-- ==== Proof.Rows.lean ====
module
public import proofs.«01_k».proof.Proof.Chain
@[expose] public section
set_option maxRecDepth 16384
noncomputable section

/-! The pieces of a step read at an index. -/

namespace Gqa
open Cert.KernelIdeal Cert.KernelIdeal.Gen Idealize.ShloMosaic Idealize.ShloMosaic.TcCoe
open Cert.KernelIdeal.Facts

theorem ofBits_ninf : Ideal.ofBits .f32 0xFF800000#32 = ⊥ := by
  simp [Ideal.ofBits, Ideal.ieee]

theorem score_apply (qs : FVec Ideal S4096x128 .bf16) (k : Vec Ideal S1x1x128x512 .bf16) (r : Fin 4096) (c : Fin 512) :
    score qs k (ix2 r c) = ∑ l : Fin 128, qs (ix2 r l) * k (ix4 0 0 l c) := by
  pointwise [score]

theorem nextM_apply (m : FVec Ideal S4096x1 .f32) (sc : FVec Ideal S4096x512 .f32) (r : Fin 4096) :
    nextM m sc (ix2 r 0) = max (m (ix2 r 0)) (Finset.univ.fold max ⊥ fun c : Fin 512 => sc (ix2 r c)) := by
  pointwise [nextM, ofBits_ninf]

theorem weights_apply (m : FVec Ideal S4096x1 .f32) (sc : FVec Ideal S4096x512 .f32) (r : Fin 4096) (c : Fin 512) :
    weights m sc (ix2 r c) = Ideal.exp2 (sc (ix2 r c) - m (ix2 r 0)) := by
  pointwise [weights]
  rfl

theorem rescale_apply (m m' : FVec Ideal S4096x1 .f32) (acc : FVec Ideal S4096x128 .f32) (r : Fin 4096) (l : Fin 128) :
    rescale m m' acc (ix2 r l) = acc (ix2 r l) * Ideal.exp2 (m (ix2 r 0) - m' (ix2 r 0)) := by
  pointwise [rescale]
  rfl

theorem nextAcc_apply (acc : FVec Ideal S4096x128 .f32) (p : FVec Ideal S4096x512 .bf16) (v : Vec Ideal S1x1x512x128 .bf16) (r : Fin 4096) (l : Fin 128) :
    nextAcc acc p v (ix2 r l) = acc (ix2 r l) + ∑ c : Fin 512, p (ix2 r c) * v (ix4 0 0 c l) := by
  pointwise [nextAcc]

theorem kAt_apply (x1 : Vec Ideal S1x1x128x4096 .bf16) (j : Fin 8) (l : Fin 128) (c : Fin 512) :
    kAt x1 j (ix4 0 0 l c) = x1 (ix4 0 0 l ⟨512 * j.val + c.val, by omega⟩) := by
  pointwise [kAt]

theorem vAt_apply (x2 : Vec Ideal S1x1x4096x128 .bf16) (j : Fin 8) (c : Fin 512) (l : Fin 128) :
    vAt x2 j (ix4 0 0 c l) = x2 (ix4 0 0 ⟨512 * j.val + c.val, by omega⟩ l) := by
  pointwise [vAt]

theorem mask_apply (l : Fin 128) : k0_pay4 (ix2 (0 : Fin 1) l) = if l.val < 64 then 1#1 else 0#1 := by
  pointwise [k0_pay4]
  revert l; decide

theorem stacked_apply (x0 : Vec Ideal S1x1024x256 .bf16) (g : Fin 4) (t : Fin 1024) (l : Fin 128) :
    stacked x0 (ix2 ⟨1024 * g.val + t.val, by omega⟩ l)
      = if (l.val < 64 ↔ g.val % 2 = 0) then x0 (ix3 0 t ⟨128 * (g.val / 2) + l.val, by omega⟩) else 0 := by
  pointwise [stacked, k0_pay5, mask_apply]
  have ht := t.isLt
  obtain ⟨g, hg⟩ := g
  have h4 : g = 0 ∨ g = 1 ∨ g = 2 ∨ g = 3 := by omega
  rcases h4 with rfl | rfl | rfl | rfl
  · rw [dif_pos (by show 1024 * 0 + t.val < 1024; omega)]
    by_cases hl : l.val < 64
    · simp only [hl, if_true, iff_true, Nat.zero_mod]
      refine congrArg x0 (congrArg₂ (ix3 0) ?_ ?_) <;> apply Fin.ext <;> show _ = _ <;> simp
    · simp [hl, Scalar.select]
  · rw [dif_neg (by show ¬ (1024 * 1 + t.val < 1024); omega), dif_pos (by show 1024 * 1 + t.val - 1024 < 1024; omega)]
    by_cases hl : l.val < 64
    · simp [hl, Scalar.select]
    · simp only [hl, if_false, false_iff, Nat.one_mod, one_ne_zero, not_false_iff, if_true]
      refine congrArg x0 (congrArg₂ (ix3 0) ?_ ?_) <;> apply Fin.ext <;> show _ = _ <;> simp
  · rw [dif_neg (by show ¬ (1024 * 2 + t.val < 1024); omega), dif_neg (by show ¬ (1024 * 2 + t.val - 1024 < 1024); omega),
      dif_pos (by show 1024 * 2 + t.val - 1024 - 1024 < 1024; omega)]
    by_cases hl : l.val < 64
    · simp only [hl, if_true, iff_true, Nat.mod_self]
      refine congrArg x0 (congrArg₂ (ix3 0) ?_ ?_) <;> apply Fin.ext <;> show _ = _ <;> simp <;> omega
    · simp [hl, Scalar.select]
  · rw [dif_neg (by show ¬ (1024 * 3 + t.val < 1024); omega), dif_neg (by show ¬ (1024 * 3 + t.val - 1024 < 1024); omega),
      dif_neg (by show ¬ (1024 * 3 + t.val - 1024 - 1024 < 1024); omega)]
    by_cases hl : l.val < 64
    · simp [hl, Scalar.select]
    · simp only [hl, if_false, false_iff]
      refine congrArg x0 (congrArg₂ (ix3 0) ?_ ?_) <;> apply Fin.ext <;> show _ = _ <;> simp <;> omega

theorem quot_apply (acc : FVec Ideal S4096x128 .f32) (r : Fin 4096) (l : Fin 128) :
    quot acc (ix2 r l) = Ideal.div (acc (ix2 r l)) (acc (ix2 r 64)) := by
  pointwise [quot]

theorem merge_apply (a b : FVec Ideal S1024x128 .f32) (t : Fin 1024) (l : Fin 128) :
    merge a b (ix3 0 t l) = if h : l.val < 64 then a (ix2 t l) else b (ix2 t ⟨l.val - 64, by omega⟩) := by
  pointwise [merge, mask_apply]
  by_cases hl : l.val < 64
  · simp [hl, Scalar.select]
  · simp only [hl, if_false, dite_false]
    refine congrArg b (congrArg (ix2 t) (Fin.ext ?_))
    show (l.val + 128 - 64) % 128 = l.val - 64
    omega

theorem outLo_apply (q : FVec Ideal S4096x128 .f32) (t : Fin 1024) (l : Fin 128) :
    outLo q (ix3 0 t l) = q (ix2 ⟨1024 * (l.val / 64) + t.val, by omega⟩ ⟨l.val % 64, by omega⟩) := by
  rw [outLo, merge_apply]
  pointwise
  have := l.isLt
  split
  · refine congrArg q (congrArg₂ ix2 (Fin.ext ?_) (Fin.ext ?_)) <;> show _ = _ <;> simp <;> omega
  · refine congrArg q (congrArg₂ ix2 (Fin.ext ?_) (Fin.ext ?_)) <;> show _ = _ <;> simp <;> omega

theorem outHi_apply (q : FVec Ideal S4096x128 .f32) (t : Fin 1024) (l : Fin 128) :
    outHi q (ix3 0 t l) = q (ix2 ⟨1024 * (2 + l.val / 64) + t.val, by omega⟩ ⟨l.val % 64, by omega⟩) := by
  rw [outHi, merge_apply]
  pointwise
  have := l.isLt
  split
  · refine congrArg q (congrArg₂ ix2 (Fin.ext ?_) (Fin.ext ?_)) <;> show _ = _ <;> simp <;> omega
  · refine congrArg q (congrArg₂ ix2 (Fin.ext ?_) (Fin.ext ?_)) <;> show _ = _ <;> simp <;> omega

end Gqa
-- ==== Proof.Soft.lean ====
module
public import Idealize.ShloMosaic.Lib.Pointwise
@[expose] public section
noncomputable section

/-! Softmax-weighted averages of reals: block by block with a moving shift, and all at once. -/

namespace Gqa
open Idealize.ShloMosaic Finset

/-- A finite sum of reals, taken among the extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [sum_insert ha, sum_insert ha, ih, EReal.coe_add]

/-- The maximum of finitely many reals, at least one, is a real. -/
theorem fold_max_real {ι : Type*} (s : Finset ι) (hs : s.Nonempty) (f : ι → ℝ) :
    ∃ x : ℝ, s.fold max (⊥ : EReal) (fun i => (f i : EReal)) = (x : EReal) := by
  obtain ⟨i, -, hi⟩ := Finset.exists_mem_eq_sup s hs (fun i => (f i : EReal))
  exact ⟨f i, hi⟩

theorem max_real (x y : ℝ) : ∃ z : ℝ, max (x : EReal) (y : EReal) = (z : EReal) :=
  by
  rcases le_total (x : EReal) y with h | h
  · exact ⟨y, max_eq_right h⟩
  · exact ⟨x, max_eq_left h⟩

/-- The first `n` keys' weighted sum, the scores shifted by `M`. -/
def part (M : ℝ) (s v : ℕ → ℝ) (n : ℕ) : ℝ := ∑ k ∈ range n, Real.rpow 2 (s k - M) * v k

/-- Another block of keys, under a new shift. -/
theorem part_add (M M' : ℝ) (s v : ℕ → ℝ) (n b : ℕ) :
    part M' s v (n + b) = part M s v n * Real.rpow 2 (M - M')
      + ∑ k : Fin b, Real.rpow 2 (s (n + k.val) - M') * v (n + k.val) := by
  unfold part
  rw [sum_range_add, sum_mul, sum_range (fun k => Real.rpow 2 (s (n + k) - M') * v (n + k))]
  congr 1
  refine sum_congr rfl fun k _ => ?_
  have : Real.rpow 2 (s k - M') = Real.rpow 2 (s k - M) * Real.rpow 2 (M - M') := by
    simp only [Real.rpow_eq_pow]
    rw [← Real.rpow_add (by norm_num)]; congr 1; ring
  rw [this]; ring

/-- The quotient of the sums is the softmax-weighted average, whatever the two shifts. -/
theorem part_div (M A : ℝ) (s a v : ℕ → ℝ) (n : ℕ) (h : ∀ k < n, a k = s k * Real.log 2) :
    part M s v n / part M s (fun _ => 1) n
      = (∑ k ∈ range n, Real.exp (a k - A) / (∑ j ∈ range n, Real.exp (a j - A)) * v k) := by
  have e : ∀ k < n, Real.rpow 2 (s k - M) = Real.exp (a k - A) * Real.exp (A - M * Real.log 2) := fun k hk => by
    simp only [Real.rpow_eq_pow]
    rw [Real.rpow_def_of_pos (by norm_num), ← Real.exp_add, h k hk]; congr 1; ring
  have hc : Real.exp (A - M * Real.log 2) ≠ 0 := (Real.exp_pos _).ne'
  have e1 : ∀ w : ℕ → ℝ, part M s w n = (∑ k ∈ range n, Real.exp (a k - A) * w k) * Real.exp (A - M * Real.log 2) := fun w => by
    unfold part; rw [sum_mul]
    refine sum_congr rfl fun k hk => ?_
    rw [e k (mem_range.mp hk)]; ring
  rw [e1, e1, mul_div_mul_right _ _ hc, sum_div]
  simp only [mul_one]
  refine sum_congr rfl fun k _ => ?_
  ring

theorem part_one_pos (M : ℝ) (s : ℕ → ℝ) {n : ℕ} (h : 0 < n) : 0 < part M s (fun _ => 1) n := by
  unfold part
  refine sum_pos (fun k _ => ?_) ⟨0, mem_range.mpr h⟩
  rw [mul_one]; exact Real.rpow_pos_of_pos (by norm_num) _

/-- A quotient of reals at the extended reals. -/
theorem div_real (x : ℝ) {y : ℝ} (h : y ≠ 0) : Ideal.div (x : EReal) (y : EReal) = ((x / y : ℝ) : EReal) := by
  rw [Ideal.div_coe h, ← EReal.coe_mul, mul_one_div]

end Gqa
-- ==== Proof.Steps.lean ====
module
public import proofs.«01_k».proof.Proof.Rows
public import proofs.«01_k».proof.Proof.Soft
@[expose] public section
set_option maxRecDepth 16384
noncomputable section

/-! One row through the eight steps: after `n` keys the sums are the first `n` keys' weighted sums under a real shift. -/

namespace Gqa
open Cert.KernelIdeal Cert.KernelIdeal.Gen Idealize.ShloMosaic Idealize.ShloMosaic.TcCoe
open Cert.KernelIdeal.Facts

/-- Row `r` after `n` keys with scores `s` and values `v`. -/
def Inv (r : Fin 4096) (s : ℕ → ℝ) (v : ℕ → Fin 128 → ℝ) (n : ℕ) (st : St Ideal) : Prop :=
  ∃ M : ℝ, st.1 (ix2 r 0) = (M : EReal) ∧ ∀ l, st.2 (ix2 r l) = ((part M s (fun k => v k l) n : ℝ) : EReal)

/-- The first row maximum is a real. -/
theorem ofBits_first : ∃ x : ℝ, Ideal.ofBits .f32 0xF149F2CA#32 = (x : EReal) := by
  show ∃ x : ℝ, Ideal.ieee 8 23 0xF149F2CA#32 = (x : EReal)
  unfold Ideal.ieee
  dsimp only
  rw [if_neg (by decide), if_neg (by decide)]
  exact ⟨_, rfl⟩

theorem inv_start (r : Fin 4096) (s : ℕ → ℝ) (v : ℕ → Fin 128 → ℝ) : Inv r s v 0 start := by
  obtain ⟨x, hx⟩ := ofBits_first
  refine ⟨x, ?_, fun l => ?_⟩
  · pointwise [start, k0_pay6]
    exact hx
  · pointwise [start, k0_pay7]
    simp [part]

theorem inv_step (r : Fin 4096) (s : ℕ → ℝ) (v : ℕ → Fin 128 → ℝ) (n : ℕ) (st : St Ideal)
    (qs : FVec Ideal S4096x128 .bf16) (kb : Vec Ideal S1x1x128x512 .bf16) (vb : Vec Ideal S1x1x512x128 .bf16)
    (hs : ∀ c : Fin 512, (∑ l : Fin 128, qs (ix2 r l) * kb (ix4 0 0 l c)) = ((s (n + c.val) : ℝ) : EReal))
    (hv : ∀ (c : Fin 512) (l : Fin 128), vb (ix4 0 0 c l) = ((v (n + c.val) l : ℝ) : EReal))
    (h : Inv r s v n st) : Inv r s v (n + 512) (step qs kb vb st) := by
  obtain ⟨M, hM, hacc⟩ := h
  have hsc : ∀ c : Fin 512, score qs kb (ix2 r c) = ((s (n + c.val) : ℝ) : EReal) := fun c => by rw [score_apply, hs]
  obtain ⟨X, hX⟩ := fold_max_real (Finset.univ : Finset (Fin 512)) Finset.univ_nonempty (fun c => s (n + c.val))
  obtain ⟨M', hM'⟩ := max_real M X
  have hm : nextM st.1 (score qs kb) (ix2 r 0) = (M' : EReal) := by
    rw [nextM_apply, hM]; simp only [hsc]; rw [hX, hM']
  refine ⟨M', hm, fun l => ?_⟩
  show nextAcc _ _ _ _ = _
  rw [nextAcc_apply, rescale_apply, hacc, hM, hm]
  simp only [weights_apply, hsc, hm, hv]
  simp only [← EReal.coe_sub, Ideal.exp2_coe, ← EReal.coe_mul]
  rw [sum_coe, ← EReal.coe_add, part_add M M']

theorem inv_final (x0 : Vec Ideal S1x1024x256 .bf16) (x1 : Vec Ideal S1x1x128x4096 .bf16) (x2 : Vec Ideal S1x1x4096x128 .bf16)
    (r : Fin 4096) (s : ℕ → ℝ) (v : ℕ → Fin 128 → ℝ)
    (hs : ∀ k : Fin 4096, (∑ l : Fin 128, stacked x0 (ix2 r l) * x1 (ix4 0 0 l k)) = ((s k.val : ℝ) : EReal))
    (hv : ∀ (k : Fin 4096) (l : Fin 128), x2 (ix4 0 0 k l) = ((v k.val l : ℝ) : EReal)) :
    Inv r s v 4096 (final x0 x1 x2) := by
  have key : ∀ (j : Fin 8) (st : St Ideal), Inv r s v (512 * j.val) st → Inv r s v (512 * j.val + 512) (stepAt x0 x1 x2 j st) := fun j st h => by
    refine inv_step r s v _ st _ _ _ (fun c => ?_) (fun c l => ?_) h
    · simp only [kAt_apply]; rw [hs]
    · rw [vAt_apply, hv]
  exact key 7 _ (key 6 _ (key 5 _ (key 4 _ (key 3 _ (key 2 _ (key 1 _ (key 0 _ (inv_start r s v))))))))

/-- A row of the quotient: the softmax-weighted average of the values, for any shift `A` of the reference's scores `a`. -/
theorem quot_final (x0 : Vec Ideal S1x1024x256 .bf16) (x1 : Vec Ideal S1x1x128x4096 .bf16) (x2 : Vec Ideal S1x1x4096x128 .bf16)
    (r : Fin 4096) (s a : ℕ → ℝ) (A : ℝ) (v : ℕ → Fin 128 → ℝ)
    (hs : ∀ k : Fin 4096, (∑ l : Fin 128, stacked x0 (ix2 r l) * x1 (ix4 0 0 l k)) = ((s k.val : ℝ) : EReal))
    (hv : ∀ (k : Fin 4096) (l : Fin 128), x2 (ix4 0 0 k l) = ((v k.val l : ℝ) : EReal))
    (h1 : ∀ k < 4096, v k 64 = 1) (ha : ∀ k < 4096, a k = s k * Real.log 2) (l : Fin 128) :
    quot (final x0 x1 x2).2 (ix2 r l)
      = ((∑ k ∈ Finset.range 4096, Real.exp (a k - A) / (∑ j ∈ Finset.range 4096, Real.exp (a j - A)) * v k l : ℝ) : EReal) := by
  obtain ⟨M, -, h⟩ := inv_final x0 x1 x2 r s v hs hv
  have e : part M s (fun k => v k 64) 4096 = part M s (fun _ => 1) 4096 := by
    unfold part
    exact Finset.sum_congr rfl fun k hk => congrArg _ (h1 k (Finset.mem_range.mp hk))
  rw [quot_apply, h, h, e, div_real _ (part_one_pos M s (by norm_num)).ne', part_div M A s a _ 4096 ha]

end Gqa
-- ==== Proof.Blocks.lean ====
module
public import proofs.«01_k».proof.Proof.Steps
public import Idealize.ShloMosaic.Lib.Pipeline.ValueKit
public import Idealize.ShloMosaic.Lib.Claim
@[expose] public section
set_option maxRecDepth 16384
noncomputable section

/-! The blocks a grid point reads, as elements of the three arguments. -/

namespace Gqa
open Cert.KernelIdeal Cert.KernelIdeal.Gen Idealize.ShloMosaic Idealize.ShloMosaic.TcCoe
open Cert.KernelIdeal.Facts

variable (m : (ℓ : Loc nD τ sig) → Buf (Elt Ideal) ℓ)

/-- Grid point `t` is batch `t / 8`, key/value head `t / 4 % 2`, query block `t % 4`. -/
theorem idx : ∀ t : Fin cfg0.N, win0_0.index t = ![t.val / 8, t.val % 4, t.val / 4 % 2]
    ∧ win0_1.index t = ![t.val / 8, t.val / 4 % 2, 0, 0] ∧ win0_2.index t = ![t.val / 8, t.val / 4 % 2, 0, 0]
    ∧ win0_3.index t = ![t.val / 8, t.val % 4, t.val / 4 % 2] :=
  (by decide +kernel : ∀ t : Fin grid0.N, _)

/-- The argument arrays, as vectors. -/
abbrev Qa (c : Dev nD) : FVec Ideal S16x4096x512 .f32 := m ((c : Thread nD τ).loc main_arg0)
abbrev Ka (c : Dev nD) : FVec Ideal S16x4096x128 .f32 := m ((c : Thread nD τ).loc main_arg1)
abbrev Va (c : Dev nD) : FVec Ideal S16x4096x128 .f32 := m ((c : Thread nD τ).loc main_arg2)

theorem tlt (t : Fin cfg0.N) : t.val < 128 := t.isLt

theorem v4_at (c : Dev nD) (i : S16x4096x512.Idx) :
    (V m c main_v4 : FVec Ideal S16x4096x512 .bf16) i
      = Ideal.div (Qa m c i) (Ideal.log (Ideal.ofBits .f32 0x40000000#32) * Ideal.ofBits .f32 0x41000000#32) := by
  entry_read
  pointwise

theorem v8_at (c : Dev nD) (b : Fin 16) (g : Fin 2) (l : Fin 128) (k : Fin 4096) :
    (V m c main_v8 : FVec Ideal S16x2x128x4096 .bf16) (ix4 b g l k)
      = Ka m c (ix3 b k ⟨64 * g.val + l.val % 64, by omega⟩) := by
  entry_read
  pointwise
  have := l.isLt
  split <;> refine congrArg (Ka m c) (congrArg (ix3 b k) (Fin.ext ?_)) <;> show _ = _ <;> simp <;> omega

/-- The two lane comparisons of the padded values. -/
theorem lane_lt : ∀ l : Fin 128, IntOp.cmpi CmpIPredicate.slt (BitVec.ofNat 32 l.val) 64#32 = if l.val < 64 then 1#1 else 0#1 := by
  decide
theorem lane_eq : ∀ l : Fin 128, IntOp.cmpi CmpIPredicate.eq (BitVec.ofNat 32 l.val) 64#32 = if l.val = 64 then 1#1 else 0#1 := by
  decide

theorem pad (f : Fin 128 → EReal) (g : Fin 2) (l : Fin 128) :
    Scalar.select (IntOp.cmpi CmpIPredicate.slt (BitVec.ofNat 32 l.val) 64#32)
      (if h : l.val < 64 then f ⟨g.val * 64 + l.val, by omega⟩ else f ⟨g.val * 64 + (l.val - 64), by omega⟩)
      (Scalar.select (IntOp.cmpi CmpIPredicate.eq (BitVec.ofNat 32 l.val) 64#32) (1 : EReal) 0)
      = if h : l.val < 64 then f ⟨64 * g.val + l.val, by omega⟩ else if l.val = 64 then 1 else 0 := by
  rw [lane_lt, lane_eq]
  by_cases hl : l.val < 64
  · rw [if_pos hl, dif_pos hl, dif_pos hl]
    exact congrArg f (Fin.ext (by show g.val * 64 + l.val = 64 * g.val + l.val; omega))
  · rw [if_neg hl, dif_neg hl, dif_neg hl]
    by_cases h : l.val = 64
    · rw [if_pos h, if_pos h]; rfl
    · rw [if_neg h, if_neg h]; rfl

theorem v21_at (c : Dev nD) (b : Fin 16) (g : Fin 2) (k : Fin 4096) (l : Fin 128) :
    (V m c main_v21 : FVec Ideal S16x2x4096x128 .bf16) (ix4 b g k l)
      = if h : l.val < 64 then Va m c (ix3 b k ⟨64 * g.val + l.val, by omega⟩)
        else if l.val = 64 then 1 else 0 := by
  entry_read
  pointwise
  exact pad (fun n => Va m c (ix3 b k n)) g l

theorem blk0 (c : Dev nD) (t : Fin cfg0.N) (r : Fin 1024) (l : Fin 256) :
    (iblk m c 0 t : FVec Ideal S1x1024x256 .bf16) (ix3 0 r l)
      = Ideal.div (Qa m c (ix3 ⟨t.val / 8, by have := tlt t; omega⟩ ⟨1024 * (t.val % 4) + r.val, by omega⟩
          ⟨256 * (t.val / 4 % 2) + l.val, by omega⟩)) (Ideal.log (Ideal.ofBits .f32 0x40000000#32) * Ideal.ofBits .f32 0x41000000#32) := by
  rw [← v4_at]
  unfold iblk
  blk_simp
  blk_ext [idx t]

theorem blk1 (c : Dev nD) (t : Fin cfg0.N) (l : Fin 128) (k : Fin 4096) :
    (iblk m c 1 t : FVec Ideal S1x1x128x4096 .bf16) (ix4 0 0 l k)
      = Ka m c (ix3 ⟨t.val / 8, by have := tlt t; omega⟩ k ⟨64 * (t.val / 4 % 2) + l.val % 64, by omega⟩) := by
  refine Eq.trans ?_ (v8_at m c ⟨t.val / 8, by have := tlt t; omega⟩ ⟨t.val / 4 % 2, by omega⟩ l k)
  unfold iblk
  blk_simp
  blk_ext [idx t]

theorem blk2 (c : Dev nD) (t : Fin cfg0.N) (k : Fin 4096) (l : Fin 128) :
    (iblk m c 2 t : FVec Ideal S1x1x4096x128 .bf16) (ix4 0 0 k l)
      = if h : l.val < 64 then Va m c (ix3 ⟨t.val / 8, by have := tlt t; omega⟩ k ⟨64 * (t.val / 4 % 2) + l.val, by omega⟩)
        else if l.val = 64 then 1 else 0 := by
  refine Eq.trans ?_ (v21_at m c ⟨t.val / 8, by have := tlt t; omega⟩ ⟨t.val / 4 % 2, by omega⟩ k l)
  unfold iblk
  blk_simp
  blk_ext [idx t]

end Gqa
-- ==== Proof.RefRead.lean ====
module
public import Idealize.ShloMosaic.Lib.Pointwise
public import proofs.«01_k».proof.Proof.Gen.ReferenceIdeal.Read
public import proofs.«01_k».proof.Proof.Rows
@[expose] public section
set_option maxRecDepth 16384
noncomputable section

/-! The reference's intermediate arrays read at an index. -/

namespace Gqa
open Cert.ReferenceIdeal Cert.ReferenceIdeal.Gen Cert.ReferenceIdeal.Read Idealize.ShloMosaic Idealize.ShloMosaic.TcCoe
variable (x0 : FVec Ideal S16x4096x512 .f32) (x1 x2 : FVec Ideal S16x4096x128 .f32)

theorem r13 (b : Fin 16) (h : Fin 2) (g : Fin 4) (t k : Fin 4096) :
    val_main_v13 (F := Ideal) x0 x1 (ix5 b h g t k) = Ideal.exp (val_main_v6 (F := Ideal) x0 x1 (ix5 b h g t k) - val_main_v9 (F := Ideal) x0 x1 (ix4 b h g t)) := by
  unfold val_main_v13 val_main_v12 val_main_v11 val_main_v10
  generalize val_main_v6 (F := Ideal) x0 x1 = y
  generalize val_main_v9 (F := Ideal) x0 x1 = z
  pointwise
theorem r16 (b : Fin 16) (h : Fin 2) (g : Fin 4) (t k : Fin 4096) :
    val_main_v16 (F := Ideal) x0 x1 (ix5 b h g t k) = ∑ j : Fin 4096, val_main_v13 (F := Ideal) x0 x1 (ix5 b h g t j) := by
  unfold val_main_v16 val_main_v15 val_main_v14 val_main_cst_2
  generalize val_main_v13 (F := Ideal) x0 x1 = y
  pointwise
theorem r6 (b : Fin 16) (h : Fin 2) (g : Fin 4) (t k : Fin 4096) :
    val_main_v6 (F := Ideal) x0 x1 (ix5 b h g t k)
      = Ideal.div (∑ x : Fin 64, x1 (ix3 b k ⟨h.val * 64 + x.val, by omega⟩) * x0 (ix3 b t ⟨h.val * 256 + g.val * 64 + x.val, by omega⟩))
        (Ideal.ofBits .f32 0x41000000#32) := by
  pointwise [val_main_v6, val_main_v5, val_main_cst, val_main_v4, val_main_v3, val_main_v1, val_main_v0]

theorem r21 (b : Fin 16) (t : Fin 4096) (n : Fin 512) :
    val_main_v21 (F := Ideal) x0 x1 x2 (ix3 b t n)
      = ∑ x : Fin 4096, x2 (ix3 b x ⟨n.val / 256 * 64 + n.val % 64, by omega⟩)
        * Ideal.div (val_main_v13 (F := Ideal) x0 x1 (ix5 b ⟨n.val / 256, by omega⟩ ⟨n.val / 64 % 4, by omega⟩ t x))
          (val_main_v16 (F := Ideal) x0 x1 (ix5 b ⟨n.val / 256, by omega⟩ ⟨n.val / 64 % 4, by omega⟩ t x)) := by
  pointwise [val_main_v21, val_main_v20, val_main_v19, val_main_v18, val_main_v17, val_main_v2]

end Gqa
-- ==== Proof.RefRead2.lean ====
module
public import proofs.«01_k».proof.Proof.RefRead
public import proofs.«01_k».proof.Proof.Soft
@[expose] public section
set_option maxRecDepth 16384
noncomputable section

/-! The reference's row maximum is a real number when the scores are. -/

namespace Gqa
open Cert.ReferenceIdeal Cert.ReferenceIdeal.Gen Cert.ReferenceIdeal.Read Idealize.ShloMosaic Idealize.ShloMosaic.TcCoe
variable (x0 : FVec Ideal S16x4096x512 .f32) (x1 x2 : FVec Ideal S16x4096x128 .f32)

/-- A maximum along axes, from minus infinity, of real entries over at least one entry, is real. -/
theorem max_reduce_real {s t u : Shape} {a : Fin s.rank} (x : FVec Ideal s .f32) (init : FVec Ideal u .f32) (h' : s.ReducesTo [a] t)
    (h : s.Reduces [a] t) (hu : 0 < u.numel) (j : t.Idx) (hi : ∀ i, init i = (⊥ : EReal)) (f : s.Idx → ℝ)
    (hx : ∀ i, x i = (f i : EReal)) (hs : 0 < s.size a) :
    ∃ A : ℝ, Host.reduce (FloatOps.maximumf (F := Ideal) (φ := .f32)) x init h' hu j = (A : EReal) := by
  obtain ⟨A, hA⟩ := fold_max_real (Finset.univ : Finset (Fin (s.size a))) ⟨⟨0, hs⟩, Finset.mem_univ _⟩ fun k => f (h.lift j k)
  refine ⟨A, Eq.trans (Host.reduce_eq_fold_single (max : EReal → EReal → EReal) x init h' h hu j) ?_⟩
  rw [hi, funext hx]
  exact hA

theorem max_bot (a : FVec Ideal S16x2x4x4096 .f32) (b : FVec Ideal S16x2x4x4096 .f32) (i) (ha : a i = (⊥ : EReal)) (A : ℝ)
    (hb : b i = (A : EReal)) : maximumf a b i = (A : EReal) := by
  show max (a i : EReal) (b i) = _
  rw [ha, hb, max_eq_right bot_le]

theorem cst0_bot (i) : val_main_cst_0 (F := Ideal) i = (⊥ : EReal) := ofBits_ninf
theorem v8_bot (i) : val_main_v8 (F := Ideal) i = (⊥ : EReal) := ofBits_ninf

theorem reduces7 : S16x2x4x4096x4096.Reduces [4] S16x2x4x4096 := by decide

theorem r7 (f : S16x2x4x4096x4096.Idx → ℝ) (hf : ∀ i, val_main_v6 (F := Ideal) x0 x1 i = (f i : EReal))
    (i) : ∃ A : ℝ, val_main_v7 (F := Ideal) x0 x1 i = (A : EReal) :=
  max_reduce_real (val_main_v6 (F := Ideal) x0 x1) (val_main_cst_0 (F := Ideal))
    reducesTo_S16x2x4x4096x4096_S16x2x4x4096_d4 reduces7 h_S_ i cst0_bot f hf (Nat.succ_pos 4095)

theorem r9 (f : S16x2x4x4096x4096.Idx → ℝ) (hf : ∀ i, val_main_v6 (F := Ideal) x0 x1 i = (f i : EReal)) (i) :
    ∃ A : ℝ, val_main_v9 (F := Ideal) x0 x1 i = (A : EReal) := by
  obtain ⟨A, hA⟩ := r7 x0 x1 f hf i
  exact ⟨A, max_bot _ _ i (v8_bot i) A hA⟩
end Gqa
-- ==== Proof.RefValue.lean ====
module
public import proofs.«01_k».proof.Proof.RefRead2
public import proofs.«01_k».proof.Proof.Soft
@[expose] public section
set_option maxRecDepth 16384
noncomputable section

/-! The reference at a point, over the reals. -/

namespace Gqa
open Cert.ReferenceIdeal Cert.ReferenceIdeal.Gen Cert.ReferenceIdeal.Read Idealize.ShloMosaic Idealize.ShloMosaic.TcCoe
variable (x0 : FVec Ideal S16x4096x512 .f32) (x1 x2 : FVec Ideal S16x4096x128 .f32)

/-- The entries of a vector are real numbers. -/
def AllReal {s : Shape} (x : FVec Ideal s .f32) : Prop := ∀ i, x i = (((x i : EReal).toReal : ℝ) : EReal)

/-- The product of query row `t`, head `4 h + g`, with key row `k`. -/
def dotp (b : Fin 16) (h : Fin 2) (g : Fin 4) (t k : Fin 4096) : ℝ :=
  ∑ x : Fin 64, (x1 (ix3 b k ⟨h.val * 64 + x.val, by omega⟩) : EReal).toReal
    * (x0 (ix3 b t ⟨h.val * 256 + g.val * 64 + x.val, by omega⟩) : EReal).toReal

/-- The scores of that row, by the key row's number. -/
def scoreN (b : Fin 16) (h : Fin 2) (g : Fin 4) (t : Fin 4096) (k : ℕ) : ℝ := if hk : k < 4096 then dotp x0 x1 b h g t ⟨k, hk⟩ / 8 else 0

/-- The values of one column, by the key row's number. -/
def valueN (b : Fin 16) (n : Fin 128) (k : ℕ) : ℝ := if hk : k < 4096 then (x2 (ix3 b ⟨k, hk⟩ n) : EReal).toReal else 0

theorem ofBits_eight : Ideal.ofBits .f32 0x41000000#32 = ((8 : ℝ) : EReal) := by
  simp [Ideal.ofBits, Ideal.ieee]
  rw [← EReal.coe_mul]
  norm_num

theorem r6_real (h0 : AllReal x0) (h1 : AllReal x1) (b : Fin 16) (h : Fin 2) (g : Fin 4) (t k : Fin 4096) :
    val_main_v6 (F := Ideal) x0 x1 (ix5 b h g t k) = ((scoreN x0 x1 b h g t k.val : ℝ) : EReal) := by
  have e : (∑ x : Fin 64, x1 (ix3 b k ⟨h.val * 64 + x.val, by omega⟩) * x0 (ix3 b t ⟨h.val * 256 + g.val * 64 + x.val, by omega⟩) : EReal)
      = ((dotp x0 x1 b h g t k : ℝ) : EReal) := by
    unfold dotp
    rw [← sum_coe]
    refine Finset.sum_congr rfl fun x _ => ?_
    rw [EReal.coe_mul, ← h0, ← h1]
  rw [r6, e, ofBits_eight, div_real _ (by norm_num)]
  unfold scoreN
  rw [dif_pos k.isLt]

theorem ref_value (h0 : AllReal x0) (h1 : AllReal x1) (h2 : AllReal x2) (b : Fin 16) (t : Fin 4096) (n : Fin 512) :
    ∃ A : ℝ, val_main_v21 (F := Ideal) x0 x1 x2 (ix3 b t n)
      = ((∑ k ∈ Finset.range 4096, Real.exp (scoreN x0 x1 b ⟨n.val / 256, by omega⟩ ⟨n.val / 64 % 4, by omega⟩ t k - A)
          / (∑ j ∈ Finset.range 4096, Real.exp (scoreN x0 x1 b ⟨n.val / 256, by omega⟩ ⟨n.val / 64 % 4, by omega⟩ t j - A))
          * valueN x2 b ⟨n.val / 256 * 64 + n.val % 64, by omega⟩ k : ℝ) : EReal) := by
  have hr : ∀ i, ∃ r : ℝ, val_main_v6 (F := Ideal) x0 x1 i = (r : EReal) := by
    intro i
    idx_vars i
    exact ⟨_, r6_real x0 x1 h0 h1 _ _ _ _ _⟩
  choose f hf using hr
  generalize hh : (⟨n.val / 256, by omega⟩ : Fin 2) = h
  generalize hg : (⟨n.val / 64 % 4, by omega⟩ : Fin 4) = g
  obtain ⟨A, hA⟩ := r9 x0 x1 f hf (ix4 b h g t)
  refine ⟨A, ?_⟩
  set a := scoreN x0 x1 b h g t with ha
  have e13 : ∀ k : Fin 4096, val_main_v13 (F := Ideal) x0 x1 (ix5 b h g t k) = ((Real.exp (a k.val - A) : ℝ) : EReal) := fun k => by
    rw [r13, hA, r6_real x0 x1 h0 h1, ← EReal.coe_sub, Ideal.exp_coe]
  have e16 : ∀ k : Fin 4096, val_main_v16 (F := Ideal) x0 x1 (ix5 b h g t k)
      = ((∑ j ∈ Finset.range 4096, Real.exp (a j - A) : ℝ) : EReal) := fun k => by
    rw [r16, Finset.sum_range, ← sum_coe]
    exact Finset.sum_congr rfl fun j _ => e13 j
  have hpos : (∑ j ∈ Finset.range 4096, Real.exp (a j - A)) ≠ 0 :=
    (Finset.sum_pos (fun j _ => Real.exp_pos _) ⟨0, Finset.mem_range.mpr (by norm_num)⟩).ne'
  rw [r21, hh, hg]
  rw [Finset.sum_range (fun k => Real.exp (a k - A) / (∑ j ∈ Finset.range 4096, Real.exp (a j - A)) * valueN x2 b ⟨n.val / 256 * 64 + n.val % 64, by omega⟩ k), ← sum_coe]
  refine Finset.sum_congr rfl fun k _ => ?_
  rw [e13, e16, div_real _ hpos, h2, ← EReal.coe_mul, mul_comm]
  unfold valueN
  rw [dif_pos k.isLt]
end Gqa
-- ==== Proof.Value.lean ====
module
public import proofs.«01_k».proof.Proof.Blocks
public import proofs.«01_k».proof.Proof.RefValue
public import proofs.«01_k».proof.Proof.Gen.KernelIdeal.Value
@[expose] public section
set_option maxRecDepth 16384
noncomputable section

/-! The kernel's output array is the reference of its three arguments. -/

namespace Gqa
open Cert.KernelIdeal Cert.KernelIdeal.Gen Idealize.ShloMosaic Idealize.ShloMosaic.TcCoe
open Cert.KernelIdeal.Facts

variable (m : (ℓ : Loc nD τ sig) → Buf (Elt Ideal) ℓ)

/-- A sum over 128 lanes of which one half is zero is the sum over the other half. -/
theorem half_sum (f : Fin 128 → EReal) (p : ℕ) (hf : ∀ l : Fin 128, ¬ (l.val < 64 ↔ p % 2 = 0) → f l = 0) :
    ∑ l, f l = ∑ d : Fin 64, f ⟨64 * (p % 2) + d.val, by omega⟩ := by
  have e : ∑ l, f l = (∑ d : Fin 64, f ⟨d.val, by omega⟩) + ∑ d : Fin 64, f ⟨64 + d.val, by omega⟩ :=
    Fin.sum_univ_add (a := 64) (b := 64) f
  rw [e]
  rcases Nat.mod_two_eq_zero_or_one p with h | h
  · rw [Finset.sum_eq_zero (s := Finset.univ) (f := fun d : Fin 64 => f ⟨64 + d.val, by omega⟩), add_zero]
    · exact Finset.sum_congr rfl fun d _ => congrArg f (Fin.ext (by show d.val = 64 * (p % 2) + d.val; omega))
    · intro d _
      exact hf _ (by show ¬ (64 + d.val < 64 ↔ p % 2 = 0); omega)
  · rw [Finset.sum_eq_zero (s := Finset.univ) (f := fun d : Fin 64 => f ⟨d.val, by omega⟩), zero_add]
    · exact Finset.sum_congr rfl fun d _ => congrArg f (Fin.ext (by show 64 + d.val = 64 * (p % 2) + d.val; omega))
    · intro d _
      have := d.isLt
      exact hf _ (by show ¬ (d.val < 64 ↔ p % 2 = 0); omega)

theorem ofBits_two : Ideal.ofBits .f32 0x40000000#32 = ((2 : ℝ) : EReal) := by
  simp [Ideal.ofBits, Ideal.ieee]
  rw [← EReal.coe_mul]
  norm_num

theorem log_two_ne : Real.log 2 * 8 ≠ 0 := mul_ne_zero (Real.log_pos (by norm_num)).ne' (by norm_num)

/-- The host's divisor of the queries. -/
theorem scale_eq : Ideal.log (Ideal.ofBits .f32 0x40000000#32) * Ideal.ofBits .f32 0x41000000#32 = ((Real.log 2 * 8 : ℝ) : EReal) := by
  rw [ofBits_two, ofBits_eight, Ideal.log_coe, if_neg (by norm_num), ← EReal.coe_mul]

/-- The kernel's scores in base two, by the key row's number. -/
def twoN (x0 : FVec Ideal S16x4096x512 .f32) (x1 : FVec Ideal S16x4096x128 .f32) (b : Fin 16) (h : Fin 2) (g : Fin 4) (t : Fin 4096) (k : ℕ) : ℝ :=
  if hk : k < 4096 then dotp x0 x1 b h g t ⟨k, hk⟩ / (Real.log 2 * 8) else 0

theorem scores (c : Dev nD) (h0 : AllReal (Qa m c)) (h1 : AllReal (Ka m c)) (t : Fin cfg0.N) (p : Fin 4) (r : Fin 1024) (k : Fin 4096) :
    (∑ l : Fin 128, stacked (iblk m c 0 t) (ix2 ⟨1024 * p.val + r.val, by omega⟩ l) * (iblk m c 1 t : FVec Ideal S1x1x128x4096 .bf16) (ix4 0 0 l k) : EReal)
      = ((twoN (Qa m c) (Ka m c) ⟨t.val / 8, by have := tlt t; omega⟩ ⟨t.val / 4 % 2, by omega⟩ p
          ⟨1024 * (t.val % 4) + r.val, by omega⟩ k.val : ℝ) : EReal) := by
  have hp := p.isLt
  rw [half_sum _ p.val fun l hl => by rw [stacked_apply, if_neg hl, zero_mul]]
  unfold twoN
  rw [dif_pos k.isLt]
  unfold dotp
  rw [Finset.sum_div, ← sum_coe]
  refine Finset.sum_congr rfl fun d _ => ?_
  have hd := d.isLt
  rw [stacked_apply, if_pos (by show (64 * (p.val % 2) + d.val < 64 ↔ p.val % 2 = 0); omega), blk0, blk1, scale_eq, h0, h1, div_real _ log_two_ne, ← EReal.coe_mul]
  refine congrArg _ ?_
  rw [mul_comm, mul_div_assoc]
  refine congrArg₂ (fun (a b : EReal) => a.toReal * (b.toReal / (Real.log 2 * 8))) (congrArg (Ka m c) (congrArg (ix3 _ _) (Fin.ext ?_)))
    (congrArg (Qa m c) (congrArg (ix3 _ _) (Fin.ext ?_)))
  · show 64 * (t.val / 4 % 2) + (64 * (p.val % 2) + d.val) % 64 = t.val / 4 % 2 * 64 + d.val
    omega
  · show 256 * (t.val / 4 % 2) + (128 * (p.val / 2) + (64 * (p.val % 2) + d.val)) = t.val / 4 % 2 * 256 + p.val * 64 + d.val
    omega

/-- The padded values, by the key row's number. -/
def padN (x2 : FVec Ideal S16x4096x128 .f32) (b : Fin 16) (h : Fin 2) (k : ℕ) (l : Fin 128) : ℝ :=
  if hl : l.val < 64 then valueN x2 b ⟨64 * h.val + l.val, by omega⟩ k else if l.val = 64 then 1 else 0

theorem values (c : Dev nD) (h2 : AllReal (Va m c)) (t : Fin cfg0.N) (k : Fin 4096) (l : Fin 128) :
    (iblk m c 2 t : FVec Ideal S1x1x4096x128 .bf16) (ix4 0 0 k l)
      = ((padN (Va m c) ⟨t.val / 8, by have := tlt t; omega⟩ ⟨t.val / 4 % 2, by omega⟩ k.val l : ℝ) : EReal) := by
  rw [blk2]
  unfold padN
  by_cases hl : l.val < 64
  · rw [dif_pos hl, dif_pos hl, h2]
    unfold valueN
    rw [dif_pos k.isLt]
  · rw [dif_neg hl, dif_neg hl]
    by_cases h : l.val = 64
    · rw [if_pos h, if_pos h]; rfl
    · rw [if_neg h, if_neg h]; rfl

/-- The quotient at row `r` of piece `p`, column `d`. -/
theorem quot_ref (c : Dev nD) (h0 : AllReal (Qa m c)) (h1 : AllReal (Ka m c)) (h2 : AllReal (Va m c)) (t : Fin cfg0.N)
    (p : Fin 4) (r : Fin 1024) (d : Fin 64) (q : Fin 4096) (e : Fin 128) (b : Fin 16) (s : Fin 4096) (n : Fin 512)
    (hq : q.val = 1024 * p.val + r.val) (he : e.val = d.val)
    (hb : b.val = t.val / 8) (hs : s.val = 1024 * (t.val % 4) + r.val) (hn : n.val = 256 * (t.val / 4 % 2) + 64 * p.val + d.val) :
    quot (final (iblk m c 0 t) (iblk m c 1 t) (iblk m c 2 t)).2 (ix2 q e)
      = Cert.ReferenceIdeal.Read.val_main_v21 (F := Ideal) (Qa m c) (Ka m c) (Va m c) (ix3 b s n) := by
  obtain ⟨A, hA⟩ := ref_value (Qa m c) (Ka m c) (Va m c) h0 h1 h2 b s n
  have hd := d.isLt
  have hp := p.isLt
  have tl := tlt t
  have l1 : 1024 * p.val + r.val < 4096 := by omega
  have l2 : t.val / 8 < 16 := by omega
  have l3 : 1024 * (t.val % 4) + r.val < 4096 := by omega
  obtain rfl : q = ⟨1024 * p.val + r.val, l1⟩ := Fin.ext hq
  obtain rfl : b = ⟨t.val / 8, l2⟩ := Fin.ext hb
  obtain rfl : s = ⟨1024 * (t.val % 4) + r.val, l3⟩ := Fin.ext hs
  have g1 : (⟨n.val / 256, by omega⟩ : Fin 2) = ⟨t.val / 4 % 2, by omega⟩ := Fin.ext (by show n.val / 256 = t.val / 4 % 2; omega)
  have g2 : (⟨n.val / 64 % 4, by omega⟩ : Fin 4) = p := Fin.ext (by show n.val / 64 % 4 = p.val; omega)
  have g3 : (⟨n.val / 256 * 64 + n.val % 64, by omega⟩ : Fin 128) = ⟨64 * (t.val / 4 % 2) + e.val, by omega⟩ :=
    Fin.ext (by show n.val / 256 * 64 + n.val % 64 = 64 * (t.val / 4 % 2) + e.val; omega)
  rw [g1, g2, g3] at hA
  rw [hA, quot_final _ _ _ _ _ (scoreN (Qa m c) (Ka m c) ⟨t.val / 8, by omega⟩ ⟨t.val / 4 % 2, by omega⟩ p ⟨1024 * (t.val % 4) + r.val, by omega⟩)
    A _ (scores m c h0 h1 t p r) (values m c h2 t) (fun k hk => ?_) (fun k hk => ?_)]
  · refine congrArg _ (Finset.sum_congr rfl fun k hk => congrArg _ ?_)
    unfold padN
    rw [dif_pos (by omega)]
  · unfold padN
    rw [dif_neg (by decide), if_pos (by decide)]
  · unfold twoN scoreN
    rw [dif_pos hk, dif_pos hk, div_mul_eq_mul_div, mul_comm (Real.log 2) 8, mul_div_mul_right _ _ (Real.log_pos (by norm_num)).ne']

theorem quot_ref_at (c : Dev nD) (h0 : AllReal (Qa m c)) (h1 : AllReal (Ka m c)) (h2 : AllReal (Va m c)) (t : Fin cfg0.N)
    (p : ℕ) (hp : p < 4) (r : Fin 1024) (q : Fin 4096) (e : Fin 128) (j : S16x4096x512.Idx)
    (hq : q.val = 1024 * p + r.val) (he : e.val < 64)
    (hb : (j 0).val = t.val / 8) (hs : (j 1).val = 1024 * (t.val % 4) + r.val) (hn : (j 2).val = 256 * (t.val / 4 % 2) + 64 * p + e.val) :
    quot (final (iblk m c 0 t) (iblk m c 1 t) (iblk m c 2 t)).2 (ix2 q e)
      = Cert.ReferenceIdeal.Read.val_main_v21 (F := Ideal) (Qa m c) (Ka m c) (Va m c) j := by
  idx_vars j
  exact quot_ref m c h0 h1 h2 t ⟨p, hp⟩ r ⟨e.val, he⟩ q e _ _ _ hq rfl hb hs hn

theorem one_row (x : S1x1024x128.Idx) : ∃ (t : Fin 1024) (l : Fin 128), x = ix3 0 t l := by
  refine ⟨x 1, x 2, ?_⟩
  funext a
  match a with
  | 0 => exact Subsingleton.elim (α := Fin 1) _ _
  | 1 => rfl
  | 2 => rfl

theorem lo_at (q : FVec Ideal S4096x128 .f32) (x : S1x1024x128.Idx) :
    ∃ (r : Fin 4096) (e : Fin 128), r.val = 1024 * ((x 2).val / 64) + (x 1).val ∧ e.val = (x 2).val % 64 ∧ outLo q x = q (ix2 r e) := by
  obtain ⟨t, l, rfl⟩ := one_row x
  exact ⟨⟨1024 * (l.val / 64) + t.val, by omega⟩, ⟨l.val % 64, by omega⟩, rfl, rfl, outLo_apply q t l⟩

theorem hi_at (q : FVec Ideal S4096x128 .f32) (x : S1x1024x128.Idx) :
    ∃ (r : Fin 4096) (e : Fin 128), r.val = 1024 * (2 + (x 2).val / 64) + (x 1).val ∧ e.val = (x 2).val % 64 ∧ outHi q x = q (ix2 r e) := by
  obtain ⟨t, l, rfl⟩ := one_row x
  exact ⟨⟨1024 * (2 + l.val / 64) + t.val, by omega⟩, ⟨l.val % 64, by omega⟩, rfl, rfl, outHi_apply q t l⟩

/-- The output array after the last grid point. -/
theorem out_final (c : Dev nD) (h0 : AllReal (Qa m c)) (h1 : AllReal (Ka m c)) (h2 : AllReal (Va m c)) :
    (dats m 0 c).arrAt 3 (cfgs 0).N
      = Cert.ReferenceIdeal.Read.val_main_v21 (F := Ideal) (Qa m c) (Ka m c) (Va m c) := by
  refine (dats m 0 c).arrAt_eq_of_covers 3 _ (by decide +kernel) fun t _ y => ?_
  blk_simp
  rw [after0_3]
  unfold outsAt0
  rw [out_eq]
  have tl := tlt t
  canon_tiles x h
  · obtain ⟨r, e, hr, he, hq⟩ := hi_at (quot (final (iblk m c 0 t) (iblk m c 1 t) (iblk m c 2 t)).2) x
    obtain ⟨r1, hr1⟩ : ∃ r1 : Fin 1024, r1.val = (x 1).val := ⟨⟨_, x1_lt⟩, rfl⟩
    rw [hq]
    refine quot_ref_at m c ‹_› ‹_› ‹_› t (2 + (x 2).val / 64) (by omega) r1 r e _ (by omega) (by omega) ?_ ?_ ?_
      <;> blk_simp [idx t] <;> omega
  · obtain ⟨r, e, hr, he, hq⟩ := lo_at (quot (final (iblk m c 0 t) (iblk m c 1 t) (iblk m c 2 t)).2) x
    obtain ⟨r1, hr1⟩ : ∃ r1 : Fin 1024, r1.val = (x 1).val := ⟨⟨_, x1_lt⟩, rfl⟩
    rw [hq]
    refine quot_ref_at m c ‹_› ‹_› ‹_› t ((x 2).val / 64) (by omega) r1 r e _ (by omega) (by omega) ?_ ?_ ?_
      <;> blk_simp [idx t] <;> omega

end Gqa
-- ==== Proof.Finite.lean ====
module
public import Idealize.ShloMosaic.Lib.Pointwise
public import Idealize.ShloMosaic.Lib.ReduceAll
public import proofs.«01_k».proof.Defs
public import proofs.«01_k».proof.Proof.Gen.Pre_finite
@[expose] public section
noncomputable section

/-! Under the precondition the three arguments hold real numbers. -/

namespace Gqa
open Idealize.ShloMosaic Cert.Pre_finite

theorem ofBits_inf : Ideal.ofBits .f32 0x7F800000#32 = ⊤ := by
  simp [Ideal.ofBits, Ideal.ieee]

/-- An extended real of magnitude below infinity is its real part. -/
theorem real_of_abs_lt (x : EReal) (h : Ideal.cmp CmpFPredicate.olt (max x (-x)) ⊤ = 1#1) : x = ((x.toReal : ℝ) : EReal) := by
  have hlt : max x (-x) < ⊤ := by
    by_contra hn
    have : Ideal.cmp CmpFPredicate.olt (max x (-x)) ⊤ = 0#1 := by simp [Ideal.cmp, hn]
    rw [this] at h
    exact absurd h (by decide)
  have h1 : x ≠ ⊤ := fun e => by simp [e] at hlt
  have h2 : x ≠ ⊥ := fun e => by simp [e] at hlt
  exact (EReal.coe_toReal h1 h2).symm

instance : Subsingleton S_.Idx := ⟨fun a b => funext fun i => i.elim0⟩
theorem real_of_fn (x0 : FVec Ideal S16x4096x512 .f32) (x1 x2 : FVec Ideal S16x4096x128 .f32)
    (h : letI := Gen.facts; Cert.Pre_finite.fn (F := Ideal) x0 x1 x2 = fun _ => 1#1) :
    (∀ i, x0 i = (((x0 i : EReal).toReal : ℝ) : EReal)) ∧ (∀ i, x1 i = (((x1 i : EReal).toReal : ℝ) : EReal)) ∧ ∀ i, x2 i = (((x2 i : EReal).toReal : ℝ) : EReal) := by
  have h := congrFun h (fun i => i.elim0)
  obtain ⟨h01, h2⟩ := IntOp.andi_eq_one.1 h
  obtain ⟨h0, h1⟩ := IntOp.andi_eq_one.1 h01
  refine ⟨fun i => real_of_abs_lt _ ?_, fun i => real_of_abs_lt _ ?_, fun i => real_of_abs_lt _ ?_⟩
  · have := Host.reduce_andi_all _ _ _ _ _ h0 i
    rw [← ofBits_inf]
    exact this
  · have := Host.reduce_andi_all _ _ _ _ _ h1 i
    rw [← ofBits_inf]
    exact this
  · have := Host.reduce_andi_all _ _ _ _ _ h2 i
    rw [← ofBits_inf]
    exact this
end Gqa
-- ==== Proof.PoolRun.lean ====
/- One run of the pool call's body over whole buffers: what it writes into the output and the three scratch buffers. -/
module

public import proofs.«01_k».proof.Proof.Gen.Kernel2Ideal.Frame.Runs

@[expose] public section

set_option maxRecDepth 16384

noncomputable section

namespace Pool

open Cert.Kernel2Ideal Cert.Kernel2Ideal.Gen
open Idealize.ShloMosaic Idealize.ShloMosaic.TcCoe Idealize.ShloMosaic.Tactic
open Idealize.SL Idealize.SL.RA Idealize.SL.BI Idealize.SL.BI.BIBase Idealize.SL.BI.Laws
open Idealize.SL.ProofMode Idealize.SL.Sem Idealize.ShloMosaic.Rounds
open scoped Idealize.SL.BI
open Idealize.ShloMosaic.Pipeline (Dat BodyObligation)

variable {F : FTy → Type} [FloatOps F]

local notation "𝕄" => MT nD τ sig Unit (Elt F) ℕ (UR sig nD τ) ℕ

-- the block of one call and the buffers it runs on
variable (c : Dev nD) (i : grid0.Coords)
    (arg2 : Memref sig .tc .vmem S1x8x1024 .f32) (harg2 : arg2.IsWhole) (arg3 : Memref sig .tc .vmem S1x512x1024 .f32) (harg3 : arg3.IsWhole)
    (arg4 : Memref sig .tc .vmem S1x8x1024 .f32) (harg4 : arg4.IsWhole) (arg5 : Memref sig .tc .vmem S1x16x512 .bf16) (harg5 : arg5.IsWhole)
    (arg6 : Memref sig .tc .vmem S1x512x512 .bf16) (harg6 : arg6.IsWhole) (arg7 : Memref sig .tc .vmem S1x16x512 .bf16) (harg7 : arg7.IsWhole)
    (arg8 : Memref sig .tc .vmem S1x16x512 .bf16) (harg8 : arg8.IsWhole) (arg9 : Memref sig .tc .vmem S1x512x512 .bf16) (harg9 : arg9.IsWhole)
    (arg10 : Memref sig .tc .vmem S1x16x512 .bf16) (harg10 : arg10.IsWhole) (arg11 : Memref sig .tc .vmem S1x16x1024 .bf16) (harg11 : arg11.IsWhole)
    (arg12 : Memref sig .tc .vmem S1x512x1024 .bf16) (harg12 : arg12.IsWhole) (arg13 : Memref sig .tc .vmem S1x16x1024 .bf16) (harg13 : arg13.IsWhole)
    (arg14 : Memref sig .tc .vmem S1x1x1024 .f32) (harg14 : arg14.IsWhole) (arg15 : Memref sig .tc .vmem S1x1024 .f32) (harg15 : arg15.IsWhole)
    (arg16 : Memref sig .tc .vmem S1024x1024 .bf16) (harg16 : arg16.IsWhole) (arg17 : Memref sig .tc .vmem S1x1x1024 .f32) (harg17 : arg17.IsWhole)
    (arg18 : Memref sig .tc .vmem S1x1x1024 .f32) (harg18 : arg18.IsWhole) (arg19 : Memref sig .tc .vmem S1x1x1024 .f32) (harg19 : arg19.IsWhole)
    (arg20 : Memref sig .tc .vmem S1x1024 .f32) (harg20 : arg20.IsWhole) (arg21 : Memref sig .tc .vmem S1x1024 .f32) (harg21 : arg21.IsWhole)
    (arg22 : Memref sig .tc .vmem S1024x2048 .bf16) (harg22 : arg22.IsWhole) (arg23 : Memref sig .tc .vmem S4x256x256 .bf16) (harg23 : arg23.IsWhole)
    (arg24 : Memref sig .tc .vmem S1x1024 .f32) (harg24 : arg24.IsWhole) (arg25 : Memref sig .tc .vmem S1024x1024 .bf16) (harg25 : arg25.IsWhole)
    (arg26 : Memref sig .tc .vmem S1x512x1024 .f32) (harg26 : arg26.IsWhole) (arg27 : Memref sig .tc .vmem S544x1024 .f32) (harg27 : arg27.IsWhole)
    (arg28 : Memref sig .tc .vmem S544x256 .f32) (harg28 : arg28.IsWhole) (arg29 : Memref sig .tc .vmem S544x256 .f32) (harg29 : arg29.IsWhole)
    (x0 : Vec F S1x8x1024 .f32) (x1 : Vec F S1x512x1024 .f32) (x2 : Vec F S1x8x1024 .f32) (x3 : Vec F S1x16x512 .bf16) (x4 : Vec F S1x512x512 .bf16)
    (x5 : Vec F S1x16x512 .bf16) (x6 : Vec F S1x16x512 .bf16) (x7 : Vec F S1x512x512 .bf16) (x8 : Vec F S1x16x512 .bf16) (x9 : Vec F S1x16x1024 .bf16)
    (x10 : Vec F S1x512x1024 .bf16) (x11 : Vec F S1x16x1024 .bf16) (x12 : Vec F S1x1x1024 .f32) (x13 : Vec F S1x1024 .f32) (x14 : Vec F S1024x1024 .bf16)
    (x15 : Vec F S1x1x1024 .f32) (x16 : Vec F S1x1x1024 .f32) (x17 : Vec F S1x1x1024 .f32) (x18 : Vec F S1x1024 .f32) (x19 : Vec F S1x1024 .f32)
    (x20 : Vec F S1024x2048 .bf16) (x21 : Vec F S4x256x256 .bf16) (x22 : Vec F S1x1024 .f32) (x23 : Vec F S1024x1024 .bf16)

/-- The twenty-four input buffers held at the blocks read. -/
def held : sProp 𝕄 :=
  iprop(owns (c : Thread nD τ) arg2 fullShare x0 ∗ owns (c : Thread nD τ) arg3 fullShare x1 ∗ owns (c : Thread nD τ) arg4 fullShare x2 ∗
    owns (c : Thread nD τ) arg5 fullShare x3 ∗ owns (c : Thread nD τ) arg6 fullShare x4 ∗ owns (c : Thread nD τ) arg7 fullShare x5 ∗
    owns (c : Thread nD τ) arg8 fullShare x6 ∗ owns (c : Thread nD τ) arg9 fullShare x7 ∗ owns (c : Thread nD τ) arg10 fullShare x8 ∗
    owns (c : Thread nD τ) arg11 fullShare x9 ∗ owns (c : Thread nD τ) arg12 fullShare x10 ∗ owns (c : Thread nD τ) arg13 fullShare x11 ∗
    owns (c : Thread nD τ) arg14 fullShare x12 ∗ owns (c : Thread nD τ) arg15 fullShare x13 ∗ owns (c : Thread nD τ) arg16 fullShare x14 ∗
    owns (c : Thread nD τ) arg17 fullShare x15 ∗ owns (c : Thread nD τ) arg18 fullShare x16 ∗ owns (c : Thread nD τ) arg19 fullShare x17 ∗
    owns (c : Thread nD τ) arg20 fullShare x18 ∗ owns (c : Thread nD τ) arg21 fullShare x19 ∗ owns (c : Thread nD τ) arg22 fullShare x20 ∗
    owns (c : Thread nD τ) arg23 fullShare x21 ∗ owns (c : Thread nD τ) arg24 fullShare x22 ∗ owns (c : Thread nD τ) arg25 fullShare x23)

/-- The four buffers written, each at the pieces left in it over something. -/
def left (L : List (View.Piece (Elt F) S1x512x1024 .f32)) (U : List (View.Piece (Elt F) S544x1024 .f32))
    (A B : List (View.Piece (Elt F) S544x256 .f32)) : sProp 𝕄 :=
  iprop((∃ f, arg26.view.loc (c : Thread nD τ) ↦[arg26.view.set]{fullShare} arg26.view.writes (Elt F) f L)
    ∗ (∃ f, arg27.view.loc (c : Thread nD τ) ↦[arg27.view.set]{fullShare} arg27.view.writes (Elt F) f U)
    ∗ (∃ f, arg28.view.loc (c : Thread nD τ) ↦[arg28.view.set]{fullShare} arg28.view.writes (Elt F) f A)
    ∗ (∃ f, arg29.view.loc (c : Thread nD τ) ↦[arg29.view.set]{fullShare} arg29.view.writes (Elt F) f B))

set_option maxHeartbeats 20000000 in
/-- The pieces the body leaves in its four written buffers (output, kept rows, the two work columns), with the run that leaves them. -/
def run :
    Σ' (L : List (View.Piece (Elt F) S1x512x1024 .f32)), Σ' (U : List (View.Piece (Elt F) S544x1024 .f32)),
    Σ' (A : List (View.Piece (Elt F) S544x256 .f32)), { B : List (View.Piece (Elt F) S544x256 .f32) //
      ∀ (E : Set ℕ) (K : PUnit → sProp 𝕄),
        iprop(held c arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 x12 x13 x14 x15 x16 x17 x18 x19 x20 x21 x22 x23
            ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(held c arg2 arg3 arg4 arg5 arg6 arg7 arg8 arg9 arg10 arg11 arg12 arg13 arg14 arg15 arg16 arg17 arg18 arg19 arg20 arg21 arg22 arg23 arg24 arg25 x0 x1 x2 x3 x4 x5 x6 x7 x8 x9 x10 x11 x12 x13 x14 x15 x16 x17 x18 x19 x20 x21 x22 x23
                ∗ left c arg26 arg27 arg28 arg29 L U A B) -∗ K ⟨⟩))
          ⊢ wp frame (wpE (defs₀ (F := F)) Variants.none c none) E
              (cc0_back_pool_layer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, fun E K => ?run⟩
  case run =>
    simp only [cc0_back_pool_layer_eq_skeleton]
    unfold cc0_back_pool_layer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold held left owns
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
      ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩,
      ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩⟩,
      ⟨%d24, %f24, -, H24⟩, ⟨%d25, %f25, -, H25⟩, ⟨%d26, %f26, -, H26⟩, ⟨%d27, %f27, -, H27⟩, Hk⟩
    obtain rfl := harg2.eq_unread e0
    obtain rfl := harg3.eq_unread e1
    obtain rfl := harg4.eq_unread e2
    obtain rfl := harg5.eq_unread e3
    obtain rfl := harg6.eq_unread e4
    obtain rfl := harg7.eq_unread e5
    obtain rfl := harg8.eq_unread e6
    obtain rfl := harg9.eq_unread e7
    obtain rfl := harg10.eq_unread e8
    obtain rfl := harg11.eq_unread e9
    obtain rfl := harg12.eq_unread e10
    obtain rfl := harg13.eq_unread e11
    obtain rfl := harg14.eq_unread e12
    obtain rfl := harg15.eq_unread e13
    obtain rfl := harg16.eq_unread e14
    obtain rfl := harg17.eq_unread e15
    obtain rfl := harg18.eq_unread e16
    obtain rfl := harg19.eq_unread e17
    obtain rfl := harg20.eq_unread e18
    obtain rfl := harg21.eq_unread e19
    obtain rfl := harg22.eq_unread e20
    obtain rfl := harg23.eq_unread e21
    obtain rfl := harg24.eq_unread e22
    obtain rfl := harg25.eq_unread e23
    sl_exec
    sl_step
    iapply Hk
    isplitl [H0 H1 H2 H3 H4 H5 H6 H7 H8 H9 H10 H11 H12 H13 H14 H15 H16 H17 H18 H19 H20 H21 H22 H23]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      isplitl [H19]
      · iexists _; isplitr; · ipureintro; exact harg21.read_unread _
        iexact H19
      isplitl [H20]
      · iexists _; isplitr; · ipureintro; exact harg22.read_unread _
        iexact H20
      isplitl [H21]
      · iexists _; isplitr; · ipureintro; exact harg23.read_unread _
        iexact H21
      isplitl [H22]
      · iexists _; isplitr; · ipureintro; exact harg24.read_unread _
        iexact H22
      iexists _; isplitr; · ipureintro; exact harg25.read_unread _
      iexact H23
    isplitl [H24]; · iexists _; iexact H24
    isplitl [H25]; · iexists _; iexact H25
    isplitl [H26]; · iexists _; iexact H26
    iexists _; iexact H27

end Pool

end
-- ==== Proof.PoolChain.lean ====
/- The pool call's body as a chain of named values over the blocks it reads. -/
module

public import Idealize.ShloMosaic.Lib.Pointwise
public import proofs.«01_k».proof.Proof.PoolRun

@[expose] public section

set_option maxRecDepth 16384

noncomputable section

namespace Pool

open Cert.Kernel2Ideal Cert.Kernel2Ideal.Gen Idealize.ShloMosaic Idealize.ShloMosaic.TcCoe
open Cert.Kernel2Ideal.Facts

/-- The blocks one call of the body reads, and its row block's number. -/
structure Blk (F : FTy → Type) where
  a : BitVec 32
  x0 : Vec F S1x8x1024 .f32
  x1 : Vec F S1x512x1024 .f32
  x2 : Vec F S1x8x1024 .f32
  x3 : Vec F S1x16x512 .bf16
  x4 : Vec F S1x512x512 .bf16
  x5 : Vec F S1x16x512 .bf16
  x6 : Vec F S1x16x512 .bf16
  x7 : Vec F S1x512x512 .bf16
  x8 : Vec F S1x16x512 .bf16
  x9 : Vec F S1x16x1024 .bf16
  x10 : Vec F S1x512x1024 .bf16
  x11 : Vec F S1x16x1024 .bf16
  x12 : Vec F S1x1x1024 .f32
  x13 : Vec F S1x1024 .f32
  x14 : Vec F S1024x1024 .bf16
  x15 : Vec F S1x1x1024 .f32
  x16 : Vec F S1x1x1024 .f32
  x17 : Vec F S1x1x1024 .f32
  x18 : Vec F S1x1024 .f32
  x19 : Vec F S1x1024 .f32
  x20 : Vec F S1024x2048 .bf16
  x21 : Vec F S4x256x256 .bf16
  x22 : Vec F S1x1024 .f32
  x23 : Vec F S1024x1024 .bf16

variable {F : FTy → Type} [FloatOps F] (B : Blk F)

/-- The rows extended by eight above and below: the tokens', the two attentions' and the gates'. -/
def ex : FVec F S528x1024 .f32 :=
  k0_pay2 (View.ld B.x0 (Rect.unit (s := S1x8x1024) ![0, 0, 0] S1x8x1024.size inb_S1x8x1024_S1x8x1024_0_0_0))
    (View.ld B.x1 (Rect.unit (s := S1x512x1024) ![0, 0, 0] S1x512x1024.size inb_S1x512x1024_S1x512x1024_0_0_0))
    (View.ld B.x2 (Rect.unit (s := S1x8x1024) ![0, 0, 0] S1x8x1024.size inb_S1x8x1024_S1x8x1024_0_0_0))

def ea : FVec F S528x512 .f32 :=
  k0_pay3 (View.ld B.x3 (Rect.unit (s := S1x16x512) ![0, 0, 0] S1x16x512.size inb_S1x16x512_S1x16x512_0_0_0))
    (View.ld B.x4 (Rect.unit (s := S1x512x512) ![0, 0, 0] S1x512x512.size inb_S1x512x512_S1x512x512_0_0_0))
    (View.ld B.x5 (Rect.unit (s := S1x16x512) ![0, 0, 0] S1x16x512.size inb_S1x16x512_S1x16x512_0_0_0))

def eb : FVec F S528x512 .f32 :=
  k0_pay4 (View.ld B.x6 (Rect.unit (s := S1x16x512) ![0, 0, 0] S1x16x512.size inb_S1x16x512_S1x16x512_0_0_0))
    (View.ld B.x7 (Rect.unit (s := S1x512x512) ![0, 0, 0] S1x512x512.size inb_S1x512x512_S1x512x512_0_0_0))
    (View.ld B.x8 (Rect.unit (s := S1x16x512) ![0, 0, 0] S1x16x512.size inb_S1x16x512_S1x16x512_0_0_0))

def eg : FVec F S528x1024 .f32 :=
  k0_pay5 (View.ld B.x9 (Rect.unit (s := S1x16x1024) ![0, 0, 0] S1x16x1024.size inb_S1x16x1024_S1x16x1024_0_0_0))
    (View.ld B.x10 (Rect.unit (s := S1x512x1024) ![0, 0, 0] S1x512x1024.size inb_S1x512x1024_S1x512x1024_0_0_0))
    (View.ld B.x11 (Rect.unit (s := S1x16x1024) ![0, 0, 0] S1x16x1024.size inb_S1x16x1024_S1x16x1024_0_0_0))

/-- The two halves of the output projection. -/
def wa : Vec F S512x1024 .bf16 :=
  (View.ld B.x14 (Rect.unit (s := S1024x1024) ![0, 0] S512x1024.size inb_S1024x1024_S512x1024_0_0))

def wb : Vec F S512x1024 .bf16 :=
  (View.ld B.x14 (Rect.unit (s := S1024x1024) ![512, 0] S512x1024.size inb_S1024x1024_S512x1024_512_0))

/-- The row vectors. -/
def g0 : Vec F S1x1x1024 .f32 :=
  (View.ld B.x12 (Rect.unit (s := S1x1x1024) ![0, 0, 0] S1x1x1024.size inb_S1x1x1024_S1x1x1024_0_0_0))

def p0 : Vec F S1x1024 .f32 :=
  (View.ld B.x13 (Rect.unit (s := S1x1024) ![0, 0] S1x1024.size inb_S1x1024_S1x1024_0_0))

def sh : Vec F S1x1x1024 .f32 :=
  (View.ld B.x15 (Rect.unit (s := S1x1x1024) ![0, 0, 0] S1x1x1024.size inb_S1x1x1024_S1x1x1024_0_0_0))

def sl : Vec F S1x1x1024 .f32 :=
  (View.ld B.x16 (Rect.unit (s := S1x1x1024) ![0, 0, 0] S1x1x1024.size inb_S1x1x1024_S1x1x1024_0_0_0))

def gt : Vec F S1x1x1024 .f32 :=
  (View.ld B.x17 (Rect.unit (s := S1x1x1024) ![0, 0, 0] S1x1x1024.size inb_S1x1x1024_S1x1x1024_0_0_0))

def pr : Vec F S1x1024 .f32 :=
  (View.ld B.x18 (Rect.unit (s := S1x1024) ![0, 0] S1x1024.size inb_S1x1024_S1x1024_0_0))

def po : Vec F S1x1024 .f32 :=
  (View.ld B.x19 (Rect.unit (s := S1x1024) ![0, 0] S1x1024.size inb_S1x1024_S1x1024_0_0))

/-- The three thirds of the residual rows. -/
def ya : FVec F S176x1024 .f32 :=
  k0_pay11 (k0_pay6 (ex B)) (k0_pay7 (g0 B)) (k0_pay8 (p0 B))
    (k0_pay9 (ea B) (eb B) (View.ld B.x9 (Rect.unit (s := S1x16x1024) ![0, 0, 0] S1x16x1024.size inb_S1x16x1024_S1x16x1024_0_0_0)) (View.ld B.x10 (Rect.unit (s := S1x512x1024) ![0, 0, 0] S1x512x1024.size inb_S1x512x1024_S1x512x1024_0_0_0))
      (View.ld B.x11 (Rect.unit (s := S1x16x1024) ![0, 0, 0] S1x16x1024.size inb_S1x16x1024_S1x16x1024_0_0_0)) (wa B) (wb B))
    (k0_pay10 (ea B) (eb B) (View.ld B.x9 (Rect.unit (s := S1x16x1024) ![0, 0, 0] S1x16x1024.size inb_S1x16x1024_S1x16x1024_0_0_0)) (View.ld B.x10 (Rect.unit (s := S1x512x1024) ![0, 0, 0] S1x512x1024.size inb_S1x512x1024_S1x512x1024_0_0_0))
      (View.ld B.x11 (Rect.unit (s := S1x16x1024) ![0, 0, 0] S1x16x1024.size inb_S1x16x1024_S1x16x1024_0_0_0)) (wa B) (wb B))

def yb : FVec F S176x1024 .f32 :=
  k0_pay12 (ex B) (ea B) (eb B) (eg B) (g0 B) (p0 B) (wa B) (wb B)

def yc : FVec F S176x1024 .f32 :=
  k0_pay14 (ea B) (eb B) (eg B) (k0_pay13 (ex B)) (g0 B) (p0 B) (wa B) (wb B)

/-- The block's own residual rows. -/
def kept : FVec F S512x1024 .f32 :=
  k0_pay15 (ea B) (eb B) (eg B) (ya B) (yb B) (k0_pay13 (ex B)) (g0 B) (p0 B) (wa B) (wb B)

/-- The modulated rows. -/
def hh : FVec F S528x1024 .bf16 :=
  k0_pay21 (yc B) (k0_pay18 (ya B) (k0_pay16 (pr B)) (k0_pay17 (sl B)) (sh B)) (k0_pay19 (yb B) (pr B) (sl B)) (k0_pay20 (sh B))
    (pr B) (sl B) (sh B)

/-- Their projections, and the gates. -/
def uu : FVec F S528x1024 .f32 :=
  k0_pay22 (yc B) (k0_pay18 (ya B) (k0_pay16 (pr B)) (k0_pay17 (sl B)) (sh B)) (k0_pay19 (yb B) (pr B) (sl B)) (k0_pay20 (sh B))
    (pr B) (sl B) (sh B)
    (View.ld B.x20 (Rect.unit (s := S1024x2048) ![0, 0] S1024x1024.size inb_S1024x2048_S1024x1024_0_0))

def zz : FVec F S512x1024 .f32 :=
  k0_pay26 (hh B) (View.ld B.x20 (Rect.unit (s := S1024x2048) ![0, 1024] S1024x1024.size inb_S1024x2048_S1024x1024_0_1024))

/-- The kept rows: the projections inside the sequence, sixteen zero rows below. -/
def U : Vec F S544x1024 .f32 :=
  View.canon [⟨Rect.unit (s := S544x1024) ![528, 0] S16x1024.size inb_S544x1024_S16x1024_528_0, k0_pay25 (F := F)⟩,
    ⟨Rect.unit (s := S544x1024) ![0, 0] S528x1024.size inb_S544x1024_S528x1024_0_0, k0_pay24 (uu B) (k0_pay23 B.a) (Scalar.ofBits .f32 0x00000000#32)⟩]

/-- Pairs of rows of the second group. -/
def a1 : Vec F S544x256 .f32 :=
  View.canon [⟨Rect.unit (s := S544x256) ![0, 0] S536x256.size inb_S544x256_S536x256_0_0, k0_pay33 (View.ld (U B) (Rect.unit (s := S544x1024) ![0, 256] S536x256.size inb_S544x1024_S536x256_0_256))
    (View.ld (U B) (Rect.unit (s := S544x1024) ![1, 256] S536x256.size inb_S544x1024_S536x256_1_256))⟩]

/-- Pairs, then fours, of the third. -/
def a2 : Vec F S544x256 .f32 :=
  View.canon [⟨Rect.unit (s := S544x256) ![0, 0] S536x256.size inb_S544x256_S536x256_0_0, k0_pay37 (View.ld (U B) (Rect.unit (s := S544x1024) ![0, 512] S536x256.size inb_S544x1024_S536x256_0_512)) (View.ld (U B) (Rect.unit (s := S544x1024) ![1, 512] S536x256.size inb_S544x1024_S536x256_1_512))⟩,
    ⟨Rect.unit (s := S544x256) ![0, 0] S536x256.size inb_S544x256_S536x256_0_0, k0_pay33 (View.ld (U B) (Rect.unit (s := S544x1024) ![0, 256] S536x256.size inb_S544x1024_S536x256_0_256)) (View.ld (U B) (Rect.unit (s := S544x1024) ![1, 256] S536x256.size inb_S544x1024_S536x256_1_256))⟩]

def b2 : Vec F S544x256 .f32 :=
  View.canon [⟨Rect.unit (s := S544x256) ![0, 0] S528x256.size inb_S544x256_S528x256_0_0, k0_pay38 (View.ld (a2 B) (Rect.unit (s := S544x256) ![0, 0] S528x256.size inb_S544x256_S528x256_0_0)) (View.ld (a2 B) (Rect.unit (s := S544x256) ![2, 0] S528x256.size inb_S544x256_S528x256_2_0))⟩]

/-- Pairs, fours and eights of the fourth. -/
def a3 : Vec F S544x256 .f32 :=
  View.canon [⟨Rect.unit (s := S544x256) ![0, 0] S536x256.size inb_S544x256_S536x256_0_0, k0_pay41 (View.ld (U B) (Rect.unit (s := S544x1024) ![0, 768] S536x256.size inb_S544x1024_S536x256_0_768)) (View.ld (U B) (Rect.unit (s := S544x1024) ![1, 768] S536x256.size inb_S544x1024_S536x256_1_768))⟩,
    ⟨Rect.unit (s := S544x256) ![0, 0] S536x256.size inb_S544x256_S536x256_0_0, k0_pay37 (View.ld (U B) (Rect.unit (s := S544x1024) ![0, 512] S536x256.size inb_S544x1024_S536x256_0_512)) (View.ld (U B) (Rect.unit (s := S544x1024) ![1, 512] S536x256.size inb_S544x1024_S536x256_1_512))⟩,
    ⟨Rect.unit (s := S544x256) ![0, 0] S536x256.size inb_S544x256_S536x256_0_0, k0_pay33 (View.ld (U B) (Rect.unit (s := S544x1024) ![0, 256] S536x256.size inb_S544x1024_S536x256_0_256)) (View.ld (U B) (Rect.unit (s := S544x1024) ![1, 256] S536x256.size inb_S544x1024_S536x256_1_256))⟩]

def b3 : Vec F S544x256 .f32 :=
  View.canon [⟨Rect.unit (s := S544x256) ![0, 0] S528x256.size inb_S544x256_S528x256_0_0, k0_pay42 (View.ld (a3 B) (Rect.unit (s := S544x256) ![0, 0] S528x256.size inb_S544x256_S528x256_0_0)) (View.ld (a3 B) (Rect.unit (s := S544x256) ![2, 0] S528x256.size inb_S544x256_S528x256_2_0))⟩,
    ⟨Rect.unit (s := S544x256) ![0, 0] S528x256.size inb_S544x256_S528x256_0_0, k0_pay38 (View.ld (a2 B) (Rect.unit (s := S544x256) ![0, 0] S528x256.size inb_S544x256_S528x256_0_0)) (View.ld (a2 B) (Rect.unit (s := S544x256) ![2, 0] S528x256.size inb_S544x256_S528x256_2_0))⟩]

def c3 : Vec F S544x256 .f32 :=
  View.canon [⟨Rect.unit (s := S544x256) ![0, 0] S520x256.size inb_S544x256_S520x256_0_0, k0_pay43 (View.ld (b3 B) (Rect.unit (s := S544x256) ![0, 0] S520x256.size inb_S544x256_S520x256_0_0)) (View.ld (b3 B) (Rect.unit (s := S544x256) ![4, 0] S520x256.size inb_S544x256_S520x256_4_0))⟩,
    ⟨Rect.unit (s := S544x256) ![0, 0] S536x256.size inb_S544x256_S536x256_0_0, k0_pay41 (View.ld (U B) (Rect.unit (s := S544x1024) ![0, 768] S536x256.size inb_S544x1024_S536x256_0_768)) (View.ld (U B) (Rect.unit (s := S544x1024) ![1, 768] S536x256.size inb_S544x1024_S536x256_1_768))⟩,
    ⟨Rect.unit (s := S544x256) ![0, 0] S536x256.size inb_S544x256_S536x256_0_0, k0_pay37 (View.ld (U B) (Rect.unit (s := S544x1024) ![0, 512] S536x256.size inb_S544x1024_S536x256_0_512)) (View.ld (U B) (Rect.unit (s := S544x1024) ![1, 512] S536x256.size inb_S544x1024_S536x256_1_512))⟩,
    ⟨Rect.unit (s := S544x256) ![0, 0] S536x256.size inb_S544x256_S536x256_0_0, k0_pay33 (View.ld (U B) (Rect.unit (s := S544x1024) ![0, 256] S536x256.size inb_S544x1024_S536x256_0_256)) (View.ld (U B) (Rect.unit (s := S544x1024) ![1, 256] S536x256.size inb_S544x1024_S536x256_1_256))⟩]

/-- The sums of the groups' mixed rows, one group more each time. -/
def m0 : FVec F S512x1024 .f32 :=
  k0_pay32 (zz B) (k0_pay28 (F := F)) (k0_pay29 (View.ld (U B) (Rect.unit (s := S544x1024) ![7, 0] S512x256.size inb_S544x1024_S512x256_7_0)) (View.ld (U B) (Rect.unit (s := S544x1024) ![8, 0] S512x256.size inb_S544x1024_S512x256_8_0)))
    (k0_pay30 B.a) (k0_pay31 B.a) 0#32 (View.ld (U B) (Rect.unit (s := S544x1024) ![8, 0] S512x256.size inb_S544x1024_S512x256_8_0)) (View.ld B.x21 (Rect.unit (s := S4x256x256) ![0, 0, 0] S1x256x256.size inb_S4x256x256_S1x256x256_0_0_0))
    (View.ld B.x22 (Rect.unit (s := S1x1024) ![0, 0] S1x256.size inb_S1x1024_S1x256_0_0)) (View.ld B.x23 (Rect.unit (s := S1024x1024) ![0, 0] S256x1024.size inb_S1024x1024_S256x1024_0_0))

def m1 : FVec F S512x1024 .f32 :=
  k0_pay36 (zz B) (k0_pay27 B.a) (m0 B) (k0_pay34 (View.ld (a1 B) (Rect.unit (s := S544x256) ![6, 0] S512x256.size inb_S544x256_S512x256_6_0)) (View.ld (a1 B) (Rect.unit (s := S544x256) ![8, 0] S512x256.size inb_S544x256_S512x256_8_0)))
    (k0_pay35 (k0_pay27 B.a)) (View.ld (U B) (Rect.unit (s := S544x1024) ![8, 256] S512x256.size inb_S544x1024_S512x256_8_256)) (View.ld B.x21 (Rect.unit (s := S4x256x256) ![1, 0, 0] S1x256x256.size inb_S4x256x256_S1x256x256_1_0_0))
    (View.ld B.x22 (Rect.unit (s := S1x1024) ![0, 256] S1x256.size inb_S1x1024_S1x256_0_256)) (View.ld B.x23 (Rect.unit (s := S1024x1024) ![256, 0] S256x1024.size inb_S1024x1024_S256x1024_256_0))

def m2 : FVec F S512x1024 .f32 :=
  k0_pay40 (m1 B) (k0_pay39 (zz B) (k0_pay27 B.a) (View.ld (b2 B) (Rect.unit (s := S544x256) ![4, 0] S512x256.size inb_S544x256_S512x256_4_0)) (View.ld (b2 B) (Rect.unit (s := S544x256) ![8, 0] S512x256.size inb_S544x256_S512x256_8_0))
    (View.ld (U B) (Rect.unit (s := S544x1024) ![8, 512] S512x256.size inb_S544x1024_S512x256_8_512)) (View.ld B.x21 (Rect.unit (s := S4x256x256) ![2, 0, 0] S1x256x256.size inb_S4x256x256_S1x256x256_2_0_0)) (View.ld B.x22 (Rect.unit (s := S1x1024) ![0, 512] S1x256.size inb_S1x1024_S1x256_0_512)))
    (View.ld B.x23 (Rect.unit (s := S1024x1024) ![512, 0] S256x1024.size inb_S1024x1024_S256x1024_512_0))

/-- The last sum, normed. -/
def m3 : FVec F S512x1024 .f32 :=
  k0_pay47 (zz B) (m2 B) (k0_pay44 (View.ld (c3 B) (Rect.unit (s := S544x256) ![0, 0] S512x256.size inb_S544x256_S512x256_0_0)) (View.ld (c3 B) (Rect.unit (s := S544x256) ![8, 0] S512x256.size inb_S544x256_S512x256_8_0)))
    (k0_pay45 (k0_pay27 B.a)) (k0_pay46 (k0_pay27 B.a)) 0#32 (View.ld (U B) (Rect.unit (s := S544x1024) ![8, 768] S512x256.size inb_S544x1024_S512x256_8_768)) (View.ld B.x21 (Rect.unit (s := S4x256x256) ![3, 0, 0] S1x256x256.size inb_S4x256x256_S1x256x256_3_0_0))
    (View.ld B.x22 (Rect.unit (s := S1x1024) ![0, 768] S1x256.size inb_S1x1024_S1x256_0_768)) (View.ld B.x23 (Rect.unit (s := S1024x1024) ![768, 0] S256x1024.size inb_S1024x1024_S256x1024_768_0))

/-- The block of the result. -/
def out : Vec F S1x512x1024 .f32 :=
  k0_pay1 (kept B) (m3 B) (k0_pay48 (po B) (gt B))

/-- What the run writes into the output is `out` of the blocks it reads. -/
theorem run_out (c : Dev nD) (i : grid0.Coords)
    (arg2 : Memref sig .tc .vmem S1x8x1024 .f32) (harg2 : arg2.IsWhole) (arg3 : Memref sig .tc .vmem S1x512x1024 .f32) (harg3 : arg3.IsWhole)
    (arg4 : Memref sig .tc .vmem S1x8x1024 .f32) (harg4 : arg4.IsWhole) (arg5 : Memref sig .tc .vmem S1x16x512 .bf16) (harg5 : arg5.IsWhole)
    (arg6 : Memref sig .tc .vmem S1x512x512 .bf16) (harg6 : arg6.IsWhole) (arg7 : Memref sig .tc .vmem S1x16x512 .bf16) (harg7 : arg7.IsWhole)
    (arg8 : Memref sig .tc .vmem S1x16x512 .bf16) (harg8 : arg8.IsWhole) (arg9 : Memref sig .tc .vmem S1x512x512 .bf16) (harg9 : arg9.IsWhole)
    (arg10 : Memref sig .tc .vmem S1x16x512 .bf16) (harg10 : arg10.IsWhole) (arg11 : Memref sig .tc .vmem S1x16x1024 .bf16) (harg11 : arg11.IsWhole)
    (arg12 : Memref sig .tc .vmem S1x512x1024 .bf16) (harg12 : arg12.IsWhole) (arg13 : Memref sig .tc .vmem S1x16x1024 .bf16) (harg13 : arg13.IsWhole)
    (arg14 : Memref sig .tc .vmem S1x1x1024 .f32) (harg14 : arg14.IsWhole) (arg15 : Memref sig .tc .vmem S1x1024 .f32) (harg15 : arg15.IsWhole)
    (arg16 : Memref sig .tc .vmem S1024x1024 .bf16) (harg16 : arg16.IsWhole) (arg17 : Memref sig .tc .vmem S1x1x1024 .f32) (harg17 : arg17.IsWhole)
    (arg18 : Memref sig .tc .vmem S1x1x1024 .f32) (harg18 : arg18.IsWhole) (arg19 : Memref sig .tc .vmem S1x1x1024 .f32) (harg19 : arg19.IsWhole)
    (arg20 : Memref sig .tc .vmem S1x1024 .f32) (harg20 : arg20.IsWhole) (arg21 : Memref sig .tc .vmem S1x1024 .f32) (harg21 : arg21.IsWhole)
    (arg22 : Memref sig .tc .vmem S1024x2048 .bf16) (harg22 : arg22.IsWhole) (arg23 : Memref sig .tc .vmem S4x256x256 .bf16) (harg23 : arg23.IsWhole)
    (arg24 : Memref sig .tc .vmem S1x1024 .f32) (harg24 : arg24.IsWhole) (arg25 : Memref sig .tc .vmem S1024x1024 .bf16) (harg25 : arg25.IsWhole)
    (arg26 : Memref sig .tc .vmem S1x512x1024 .f32) (harg26 : arg26.IsWhole) (arg27 : Memref sig .tc .vmem S544x1024 .f32) (harg27 : arg27.IsWhole)
    (arg28 : Memref sig .tc .vmem S544x256 .f32) (harg28 : arg28.IsWhole) (arg29 : Memref sig .tc .vmem S544x256 .f32) (harg29 : arg29.IsWhole)
    (x0 : Vec F S1x8x1024 .f32) (x1 : Vec F S1x512x1024 .f32) (x2 : Vec F S1x8x1024 .f32) (x3 : Vec F S1x16x512 .bf16) (x4 : Vec F S1x512x512 .bf16)
    (x5 : Vec F S1x16x512 .bf16) (x6 : Vec F S1x16x512 .bf16) (x7 : Vec F S1x512x512 .bf16) (x8 : Vec F S1x16x512 .bf16) (x9 : Vec F S1x16x1024 .bf16)
    (x10 : Vec F S1x512x1024 .bf16) (x11 : Vec F S1x16x1024 .bf16) (x12 : Vec F S1x1x1024 .f32) (x13 : Vec F S1x1024 .f32) (x14 : Vec F S1024x1024 .bf16)
    (x15 : Vec F S1x1x1024 .f32) (x16 : Vec F S1x1x1024 .f32) (x17 : Vec F S1x1x1024 .f32) (x18 : Vec F S1x1024 .f32) (x19 : Vec F S1x1024 .f32)
    (x20 : Vec F S1024x2048 .bf16) (x21 : Vec F S4x256x256 .bf16) (x22 : Vec F S1x1024 .f32) (x23 : Vec F S1024x1024 .bf16) :
    (run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 x16 x17 x18 x19 x20 x21 x22 x23).1
      = [⟨Rect.unit (s := S1x512x1024) ![0, 0, 0] S1x512x1024.size inb_S1x512x1024_S1x512x1024_0_0_0, out ⟨BitVec.ofNat 32 (i 1).val, x0, x1, x2, x3, x4, x5, x6, x7, x8, x9, x10, x11, x12, x13, x14, x15, x16, x17, x18, x19, x20, x21, x22, x23⟩⟩] := by
  unfold run; dsimp only
  sl_unfold_words
  simp only [View.readAt_eq_ld, View.readCov_eq_canon', harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread]
  rfl

end Pool

end
-- ==== Proof.PoolSpec.lean ====
module
public import Idealize.ShloMosaic.Lib.Pointwise
@[expose] public section
noncomputable section

/-! The rows of the pooling call over the extended reals: what both the kernel and the reference compute of a token. -/

namespace Pool
open Idealize.ShloMosaic

/-- The reciprocal root of a row's mean square, the norms' small constant added. -/
def rs (f : Fin 1024 → EReal) : EReal :=
  Ideal.rsqrt (Ideal.div (∑ d, f d * f d) (Ideal.ofBits .f32 0x44800000#32) + Ideal.ofBits .f32 0x358637BD#32)

/-- The output projection of a token's two gated halves. -/
def mix (a ga b gb : Fin 512 → EReal) (wa wb : Fin 512 → Fin 1024 → EReal) (d : Fin 1024) : EReal :=
  (∑ k, a k * ga k * wa k d) + ∑ k, b k * gb k * wb k d

/-- A normed row added to the residual. -/
def res (x m gate post : Fin 1024 → EReal) (d : Fin 1024) : EReal :=
  x d + m d * rs m * (gate d * post d)

/-- The normed and modulated row. -/
def modn (x pre scl sh : Fin 1024 → EReal) (d : Fin 1024) : EReal :=
  x d * rs x * (pre d * (1 + scl d)) + sh d

/-- A row times a matrix, at a column. -/
def dot (h : Fin 1024 → EReal) (w : Fin 1024 → Fin 1024 → EReal) (d : Fin 1024) : EReal := ∑ k, h k * w k d

/-- The gate of the pooled half. -/
def silu (z : EReal) : EReal := z * Ideal.div 1 (1 + Ideal.exp (0 - z))

/-- Whether the number of a row lies in the sequence. -/
def inRow (t : BitVec 32) : BitVec 1 := IntOp.andi (IntOp.cmpi .sge t 0#32) (IntOp.cmpi .slt t 4096#32)

/-- The number of rows in the window of half width `h` at row `t`. -/
def cnt (h t : BitVec 32) : EReal :=
  FloatOps.sitofp (F := Ideal) .f32 (IntOp.subi (IntOp.minsi (IntOp.addi t h) 4096#32) (IntOp.maxsi (IntOp.subi t h) 0#32))

/-- A group's pooled columns, mixed, scaled and gated. -/
def grp (win : Fin 256 → EReal) (n : EReal) (u : Fin 256 → EReal) (w : Fin 256 → Fin 256 → EReal) (sc ga : Fin 256 → EReal) (k : Fin 256) : EReal :=
  (∑ c, (win c * Ideal.div 1 n - u c) * w c k) * sc k * ga k

end Pool
-- ==== Proof.PoolWord.lean ====
module
public import Idealize.ShloMosaic.Lib.Pointwise
public import proofs.«01_k».proof.Proof.PoolSpec
@[expose] public section
noncomputable section

/-! The window's bounds, computed on words, as bounds on numbers. -/

namespace Pool
open Idealize.ShloMosaic

/-- Group `g`'s half width. -/
abbrev half (g : Fin 4) : ℕ := 2 ^ g.val

theorem half_pos (g : Fin 4) : 1 ≤ half g := Nat.one_le_two_pow
theorem half_le (g : Fin 4) : half g ≤ 8 := by revert g; decide

/-- The word of a small number is that number. -/
theorem toInt_small (n : ℕ) (h : n < 2 ^ 31) : (BitVec.ofNat 32 n).toInt = n := by
  rw [BitVec.toInt_eq_toNat_cond, BitVec.toNat_ofNat, Nat.mod_eq_of_lt (by omega), if_pos (by omega)]

theorem toInt_sub_small (n k : ℕ) (h : n < 2 ^ 30) (hk : k < 2 ^ 30) : (BitVec.ofNat 32 n - BitVec.ofNat 32 k).toInt = (n : ℤ) - k := by
  rw [BitVec.toInt_sub, toInt_small n (by omega), toInt_small k (by omega)]
  exact Int.bmod_eq_of_le (by omega) (by omega)

theorem add_small (n k : ℕ) : BitVec.ofNat 32 n + BitVec.ofNat 32 k = BitVec.ofNat 32 (n + k) := (BitVec.ofNat_add n k).symm

/-- The window's lower and upper ends. -/
theorem lo_int (t h : ℕ) (ht : t < 4096) (hh : h ≤ 8) :
    (IntOp.maxsi (IntOp.subi (BitVec.ofNat 32 t) (BitVec.ofNat 32 h)) 0#32).toInt = ((t - h : ℕ) : ℤ) := by
  have e := toInt_sub_small t h (by omega) (by omega)
  have z : (0#32).toInt = 0 := rfl
  unfold IntOp.maxsi IntOp.subi
  by_cases c : (0#32).slt (BitVec.ofNat 32 t - BitVec.ofNat 32 h) = true
  · rw [if_pos c, e]
    rw [BitVec.slt_iff_toInt_lt] at c
    omega
  · rw [if_neg c, z]
    rw [BitVec.slt_iff_toInt_lt] at c
    omega

theorem hi_int (t h : ℕ) (ht : t < 4096) (hh : h ≤ 8) :
    (IntOp.minsi (IntOp.addi (BitVec.ofNat 32 t) (BitVec.ofNat 32 h)) 4096#32).toInt = ((min (t + h) 4096 : ℕ) : ℤ) := by
  unfold IntOp.minsi IntOp.addi
  rw [add_small]
  have e := toInt_small (t + h) (by omega)
  have z : (4096#32).toInt = 4096 := rfl
  by_cases c : (BitVec.ofNat 32 (t + h)).slt 4096#32 = true
  · rw [if_pos c, e]
    rw [BitVec.slt_iff_toInt_lt] at c
    omega
  · rw [if_neg c, z]
    rw [BitVec.slt_iff_toInt_lt] at c
    omega

/-- A window holds at least one row. -/
theorem cnt_ne (t h : ℕ) (ht : t < 4096) (h0 : 1 ≤ h) (hh : h ≤ 8) : cnt (BitVec.ofNat 32 h) (BitVec.ofNat 32 t) ≠ 0 := by
  unfold cnt
  have a := lo_int t h ht hh
  have b := hi_int t h ht hh
  show (((IntOp.subi _ _ : BitVec 32).toInt : ℝ) : EReal) ≠ 0
  unfold IntOp.subi at a ⊢
  rw [BitVec.toInt_sub, b, a, Int.bmod_eq_of_le (by omega) (by omega)]
  intro e
  have e' : (((min (t + h) 4096 : ℕ) : ℤ) - ((t - h : ℕ) : ℤ) : ℤ) = 0 := by exact_mod_cast e
  omega

/-- Whether row `k` lies in the window at row `t`. -/
theorem inside_eq (t k h : ℕ) (ht : t < 4096) (hk : k < 4096) (hh : h ≤ 8) :
    IntOp.andi (IntOp.cmpi .sge (BitVec.ofNat 32 k) (IntOp.maxsi (IntOp.subi (BitVec.ofNat 32 t) (BitVec.ofNat 32 h)) 0#32))
      (IntOp.cmpi .slt (BitVec.ofNat 32 k) (IntOp.minsi (IntOp.addi (BitVec.ofNat 32 t) (BitVec.ofNat 32 h)) 4096#32))
      = if t ≤ k + h ∧ k < t + h then 1#1 else 0#1 := by
  have a := lo_int t h ht hh
  have b := hi_int t h ht hh
  have e := toInt_small k (by omega)
  generalize IntOp.maxsi _ _ = lo at a ⊢
  generalize IntOp.minsi _ _ = hi at b ⊢
  have p : IntOp.cmpi .sge (BitVec.ofNat 32 k) lo = BitVec.ofBool (decide (t ≤ k + h)) := by
    show BitVec.ofBool (lo.sle (BitVec.ofNat 32 k)) = _
    rw [BitVec.sle_eq_decide, a, e]
    exact congrArg BitVec.ofBool (decide_eq_decide.2 (by omega))
  have q : IntOp.cmpi .slt (BitVec.ofNat 32 k) hi = BitVec.ofBool (decide (k < t + h)) := by
    show BitVec.ofBool ((BitVec.ofNat 32 k).slt hi) = _
    rw [BitVec.slt_eq_decide, b, e]
    exact congrArg BitVec.ofBool (decide_eq_decide.2 (by omega))
  rw [p, q]
  by_cases c1 : t ≤ k + h <;> by_cases c2 : k < t + h <;> simp [c1, c2, IntOp.andi]

/-- Whether the row eight above the number `n` lies in the sequence. -/
theorem inRow_eq (n : ℕ) (hn : n < 2 ^ 20) : inRow (BitVec.ofNat 32 n - 8#32) = if 8 ≤ n ∧ n - 8 < 4096 then 1#1 else 0#1 := by
  have e := toInt_sub_small n 8 (by omega) (by omega)
  have z : (0#32).toInt = 0 := rfl
  have y : (4096#32).toInt = 4096 := rfl
  change (BitVec.ofNat 32 n - 8#32).toInt = _ at e
  unfold inRow
  generalize BitVec.ofNat 32 n - 8#32 = w at e ⊢
  have p : IntOp.cmpi .sge w 0#32 = BitVec.ofBool (decide (8 ≤ n)) := by
    show BitVec.ofBool ((0#32).sle w) = _
    rw [BitVec.sle_eq_decide, z, e]
    exact congrArg BitVec.ofBool (decide_eq_decide.2 (by omega))
  have q : IntOp.cmpi .slt w 4096#32 = BitVec.ofBool (decide (n < 4104)) := by
    show BitVec.ofBool (w.slt 4096#32) = _
    rw [BitVec.slt_eq_decide, y, e]
    exact congrArg BitVec.ofBool (decide_eq_decide.2 (by omega))
  rw [p, q]
  by_cases c1 : 8 ≤ n <;> by_cases c2 : n < 4104
  · rw [if_pos (by omega)]; simp [c1, c2, IntOp.andi]
  · rw [if_neg (by omega)]; simp [c1, c2, IntOp.andi]
  · rw [if_neg (by omega)]; simp [c1, c2, IntOp.andi]
  · rw [if_neg (by omega)]; simp [c1, c2, IntOp.andi]

/-- The reference's half widths. -/
theorem shift_half : ∀ g : Fin 4, IntOp.shli .host 1#32 (BitVec.ofNat 32 g.val) = BitVec.ofNat 32 (half g) := by
  decide

/-- A quotient is a product with the reciprocal, away from zero. -/
theorem div_eq (x y : EReal) (hy : y ≠ 0) : Ideal.div x y = x * Ideal.div 1 y := by
  unfold Ideal.div
  rw [if_neg hy, if_neg hy, one_mul]

theorem exp_nonneg (z : EReal) : 0 ≤ Ideal.exp z := by
  induction z using EReal.rec with
  | bot => exact le_refl _
  | coe r => exact EReal.coe_nonneg.2 (Real.exp_pos r).le
  | top => exact le_top

/-- The reference's gate. -/
theorem silu_eq (z : EReal) : Ideal.div z (1 + Ideal.exp (-z)) = silu z := by
  unfold silu
  rw [zero_sub]
  refine div_eq _ _ (ne_of_gt (lt_of_lt_of_le zero_lt_one ?_))
  calc (1 : EReal) = 1 + 0 := (add_zero _).symm
    _ ≤ _ := add_le_add le_rfl (exp_nonneg _)

/-- The window's masked total over all rows is its plain total over its own rows. -/
theorem window_sum (u : Fin 4096 → EReal) (t h : ℕ) (hh : h ≤ 8) :
    (∑ k : Fin 4096, if t ≤ k.val + h ∧ k.val < t + h then u k else 0)
      = ∑ i : Fin (2 * h), if H : 8 ≤ t + 8 - h + i.val ∧ t + 8 - h + i.val - 8 < 4096 then u ⟨t + 8 - h + i.val - 8, H.2⟩ else 0 := by
  let f : ℕ → EReal := fun n => if H : n < 4096 then u ⟨n, H⟩ else 0
  have e : ∀ i : Fin (2 * h), (if H : 8 ≤ t + 8 - h + i.val ∧ t + 8 - h + i.val - 8 < 4096 then u ⟨t + 8 - h + i.val - 8, H.2⟩ else 0)
      = if 8 ≤ t + 8 - h + i.val ∧ t + 8 - h + i.val - 8 < 4096 then f (t + 8 - h + i.val - 8) else 0 := fun i => by
    by_cases H : 8 ≤ t + 8 - h + i.val ∧ t + 8 - h + i.val - 8 < 4096
    · rw [dif_pos H, if_pos H]; simp only [f]; rw [dif_pos H.2]
    · rw [dif_neg H, if_neg H]
  rw [Finset.sum_congr rfl fun i _ => e i, ← Finset.sum_filter, ← Finset.sum_filter]
  refine Finset.sum_bij (fun k hk => ⟨k.val + h - t, by
      have := (Finset.mem_filter.1 hk).2; omega⟩) (fun k hk => ?_) (fun a ha b hb q => ?_) (fun i hi => ?_) (fun k hk => ?_)
  · have := (Finset.mem_filter.1 hk).2
    refine Finset.mem_filter.2 ⟨Finset.mem_univ _, ?_⟩
    have := k.isLt
    dsimp only
    omega
  · have := (Finset.mem_filter.1 ha).2
    have := (Finset.mem_filter.1 hb).2
    have := congrArg Fin.val q
    dsimp only at this
    exact Fin.ext (by omega)
  · have hi' := (Finset.mem_filter.1 hi).2
    have := i.isLt
    refine ⟨⟨t + 8 - h + i.val - 8, hi'.2⟩, Finset.mem_filter.2 ⟨Finset.mem_univ _, ?_⟩, Fin.ext ?_⟩ <;> dsimp only <;> omega
  · have hk' := (Finset.mem_filter.1 hk).2
    have hl := k.isLt
    have q : t + 8 - h + (k.val + h - t) - 8 = k.val := by omega
    dsimp only
    rw [q]
    simp only [f]
    rw [dif_pos hl]

end Pool
-- ==== Proof.PoolTok.lean ====
module
public import proofs.«01_k».proof.Proof.PoolWord
@[expose] public section
noncomputable section

/-! The pooling call's mathematics over the extended reals, token by token. -/

namespace Pool
open Idealize.ShloMosaic

/-- The call's arrays, each a function of its coordinates. -/
structure Arrays where
  x : Fin 16 → Fin 4096 → Fin 1024 → EReal
  oa : Fin 16 → Fin 4096 → Fin 512 → EReal
  ob : Fin 16 → Fin 4096 → Fin 512 → EReal
  g : Fin 16 → Fin 4096 → Fin 1024 → EReal
  gate0 : Fin 16 → Fin 1024 → EReal
  post0 : Fin 1024 → EReal
  wOut0 : Fin 1024 → Fin 1024 → EReal
  shift : Fin 16 → Fin 1024 → EReal
  scl : Fin 16 → Fin 1024 → EReal
  gate : Fin 16 → Fin 1024 → EReal
  pre : Fin 1024 → EReal
  post : Fin 1024 → EReal
  wIn : Fin 1024 → Fin 2048 → EReal
  wGrp : Fin 4 → Fin 256 → Fin 256 → EReal
  scale : Fin 1024 → EReal
  wOut : Fin 1024 → Fin 1024 → EReal

namespace Arrays
variable (A : Arrays)

/-- The attention's part, closed: the residual row the pooling reads. -/
def tok (b : Fin 16) (t : Fin 4096) : Fin 1024 → EReal :=
  res (A.x b t) (mix (A.oa b t) (fun k => A.g b t ⟨k.val, by omega⟩) (A.ob b t) (fun k => A.g b t ⟨512 + k.val, by omega⟩)
    (fun k d => A.wOut0 ⟨k.val, by omega⟩ d) fun k d => A.wOut0 ⟨512 + k.val, by omega⟩ d) (A.gate0 b) A.post0

/-- The row normed and modulated. -/
def modRow (b : Fin 16) (t : Fin 4096) : Fin 1024 → EReal := modn (A.tok b t) A.pre (A.scl b) (A.shift b)

/-- The half that is pooled. -/
def u (b : Fin 16) (t : Fin 4096) (d : Fin 1024) : EReal := dot (A.modRow b t) (fun k d => A.wIn k ⟨d.val, by omega⟩) d

/-- The half that gates. -/
def z (b : Fin 16) (t : Fin 4096) (d : Fin 1024) : EReal := dot (A.modRow b t) (fun k d => A.wIn k ⟨1024 + d.val, by omega⟩) d

/-- The pooled half at the row eight above the number `n`, zero outside the sequence. -/
def uz (b : Fin 16) (d : Fin 1024) (n : ℕ) : EReal :=
  if h : 8 ≤ n ∧ n - 8 < 4096 then A.u b ⟨n - 8, h.2⟩ d else 0

/-- Column `c` of group `q`. -/
abbrev col (q : Fin 4) (c : Fin 256) : Fin 1024 := ⟨256 * q.val + c.val, by omega⟩

/-- A window's total. -/
def win (b : Fin 16) (t : Fin 4096) (q : Fin 4) (c : Fin 256) : EReal :=
  ∑ i : Fin (2 * half q), A.uz b (col q c) (t.val + 8 - half q + i.val)

/-- A group's column after the mixing, the scale and the gate. -/
def pool (b : Fin 16) (t : Fin 4096) (q : Fin 4) (k : Fin 256) : EReal :=
  grp (A.win b t q) (cnt (BitVec.ofNat 32 (half q)) (BitVec.ofNat 32 t.val)) (fun c => A.u b t (col q c)) (A.wGrp q)
    (fun k => A.scale (col q k)) (fun k => silu (A.z b t (col q k))) k

/-- The pooled row through the output matrix. -/
def proj (b : Fin 16) (t : Fin 4096) (d : Fin 1024) : EReal :=
  ∑ q : Fin 4, ∑ k : Fin 256, A.pool b t q k * A.wOut (col q k) d

/-- The call's result at a token. -/
def result (b : Fin 16) (t : Fin 4096) : Fin 1024 → EReal := res (A.tok b t) (A.proj b t) (A.gate b) A.post

end Arrays

/-- A sum over 1024 columns, in four groups of 256. -/
theorem sum_groups (f : Fin 1024 → EReal) : ∑ k, f k = ∑ q : Fin 4, ∑ k : Fin 256, f (Arrays.col q k) := by
  rw [← Fintype.sum_prod_type' (f := fun (q : Fin 4) (k : Fin 256) => f (Arrays.col q k))]
  refine (Fintype.sum_equiv (finProdFinEquiv (m := 4) (n := 256)) _ _ fun p => congrArg f (Fin.ext ?_)).symm
  show 256 * p.1.val + p.2.val = p.2.val + 256 * p.1.val
  omega

end Pool
-- ==== Proof.PoolBlocks.lean ====
module
public import proofs.«01_k».proof.Proof.PoolChain
public import proofs.«01_k».proof.Proof.PoolTok
public import proofs.«01_k».proof.Proof.Gen.Kernel2Ideal.Launch
public import proofs.«01_k».proof.Proof.Gen.Kernel2Ideal.Points
public import Idealize.ShloMosaic.Lib.Pipeline.ValueKit
public import Idealize.ShloMosaic.Lib.Claim
@[expose] public section
set_option maxRecDepth 16384
noncomputable section

/-! The blocks a grid point of the pooling call reads, as elements of the call's arguments. -/

namespace Pool
open Cert.Kernel2Ideal Cert.Kernel2Ideal.Gen Idealize.ShloMosaic Idealize.ShloMosaic.TcCoe
open Cert.Kernel2Ideal.Facts

variable (m : (ℓ : Loc nD τ sig) → Buf (Elt Ideal) ℓ)

/-- Grid point `t` is batch `t / 8`, row block `t % 8`; a neighbour's block is the nearest at the sequence's ends. -/
theorem at0 : ∀ t : Fin cfg0.N, win0_0.index t = ![t.val / 8, 64 * (t.val % 8) - 1, 0] := (by decide +kernel : ∀ t : Fin grid0.N, _)
theorem at1 : ∀ t : Fin cfg0.N, win0_1.index t = ![t.val / 8, t.val % 8, 0] := (by decide +kernel : ∀ t : Fin grid0.N, _)
theorem at2 : ∀ t : Fin cfg0.N, win0_2.index t = ![t.val / 8, min (64 * (t.val % 8) + 64) 511, 0] := (by decide +kernel : ∀ t : Fin grid0.N, _)
theorem at3 : ∀ t : Fin cfg0.N, win0_3.index t = ![t.val / 8, 32 * (t.val % 8) - 1, 0] := (by decide +kernel : ∀ t : Fin grid0.N, _)
theorem at4 : ∀ t : Fin cfg0.N, win0_4.index t = ![t.val / 8, t.val % 8, 0] := (by decide +kernel : ∀ t : Fin grid0.N, _)
theorem at5 : ∀ t : Fin cfg0.N, win0_5.index t = ![t.val / 8, min (32 * (t.val % 8) + 32) 255, 0] := (by decide +kernel : ∀ t : Fin grid0.N, _)
theorem at6 : ∀ t : Fin cfg0.N, win0_6.index t = ![t.val / 8, 32 * (t.val % 8) - 1, 0] := (by decide +kernel : ∀ t : Fin grid0.N, _)
theorem at7 : ∀ t : Fin cfg0.N, win0_7.index t = ![t.val / 8, t.val % 8, 0] := (by decide +kernel : ∀ t : Fin grid0.N, _)
theorem at8 : ∀ t : Fin cfg0.N, win0_8.index t = ![t.val / 8, min (32 * (t.val % 8) + 32) 255, 0] := (by decide +kernel : ∀ t : Fin grid0.N, _)
theorem at9 : ∀ t : Fin cfg0.N, win0_9.index t = ![t.val / 8, 32 * (t.val % 8) - 1, 0] := (by decide +kernel : ∀ t : Fin grid0.N, _)
theorem at10 : ∀ t : Fin cfg0.N, win0_10.index t = ![t.val / 8, t.val % 8, 0] := (by decide +kernel : ∀ t : Fin grid0.N, _)
theorem at11 : ∀ t : Fin cfg0.N, win0_11.index t = ![t.val / 8, min (32 * (t.val % 8) + 32) 255, 0] := (by decide +kernel : ∀ t : Fin grid0.N, _)
theorem at12 : ∀ t : Fin cfg0.N, win0_12.index t = ![t.val / 8, 0, 0] := (by decide +kernel : ∀ t : Fin grid0.N, _)
theorem at13 : ∀ t : Fin cfg0.N, win0_13.index t = ![0, 0] := (by decide +kernel : ∀ t : Fin grid0.N, _)
theorem at14 : ∀ t : Fin cfg0.N, win0_14.index t = ![0, 0] := (by decide +kernel : ∀ t : Fin grid0.N, _)
theorem at15 : ∀ t : Fin cfg0.N, win0_15.index t = ![t.val / 8, 0, 0] := (by decide +kernel : ∀ t : Fin grid0.N, _)
theorem at16 : ∀ t : Fin cfg0.N, win0_16.index t = ![t.val / 8, 0, 0] := (by decide +kernel : ∀ t : Fin grid0.N, _)
theorem at17 : ∀ t : Fin cfg0.N, win0_17.index t = ![t.val / 8, 0, 0] := (by decide +kernel : ∀ t : Fin grid0.N, _)
theorem at18 : ∀ t : Fin cfg0.N, win0_18.index t = ![0, 0] := (by decide +kernel : ∀ t : Fin grid0.N, _)
theorem at19 : ∀ t : Fin cfg0.N, win0_19.index t = ![0, 0] := (by decide +kernel : ∀ t : Fin grid0.N, _)
theorem at20 : ∀ t : Fin cfg0.N, win0_20.index t = ![0, 0] := (by decide +kernel : ∀ t : Fin grid0.N, _)
theorem at21 : ∀ t : Fin cfg0.N, win0_21.index t = ![0, 0, 0] := (by decide +kernel : ∀ t : Fin grid0.N, _)
theorem at22 : ∀ t : Fin cfg0.N, win0_22.index t = ![0, 0] := (by decide +kernel : ∀ t : Fin grid0.N, _)
theorem at23 : ∀ t : Fin cfg0.N, win0_23.index t = ![0, 0] := (by decide +kernel : ∀ t : Fin grid0.N, _)
theorem at24 : ∀ t : Fin cfg0.N, win0_24.index t = ![t.val / 8, t.val % 8, 0] := (by decide +kernel : ∀ t : Fin grid0.N, _)
theorem coord : ∀ t : Fin cfg0.N, (grid0.coords t 1).val = t.val % 8 := (by decide +kernel : ∀ t : Fin grid0.N, _)
theorem t_lt (t : Fin cfg0.N) : t.val < 128 := t.isLt

/-- A grid point's batch. -/
abbrev bat (t : Fin cfg0.N) : Fin 16 := ⟨t.val / 8, by have := t_lt t; omega⟩

/-- The arguments, as vectors. -/
abbrev P0 (c : Dev nD) : FVec Ideal S16x4096x1024 .f32 := m ((c : Thread nD τ).loc main_arg0)
abbrev P1 (c : Dev nD) : FVec Ideal S16x4096x512 .f32 := m ((c : Thread nD τ).loc main_arg1)
abbrev P2 (c : Dev nD) : FVec Ideal S16x4096x512 .f32 := m ((c : Thread nD τ).loc main_arg2)
abbrev P3 (c : Dev nD) : FVec Ideal S16x4096x1024 .f32 := m ((c : Thread nD τ).loc main_arg3)
abbrev P4 (c : Dev nD) : FVec Ideal S16x1024 .f32 := m ((c : Thread nD τ).loc main_arg4)
abbrev P5 (c : Dev nD) : FVec Ideal S1024 .f32 := m ((c : Thread nD τ).loc main_arg5)
abbrev P6 (c : Dev nD) : FVec Ideal S1024x1024 .f32 := m ((c : Thread nD τ).loc main_arg6)
abbrev P7 (c : Dev nD) : FVec Ideal S16x1024 .f32 := m ((c : Thread nD τ).loc main_arg7)
abbrev P8 (c : Dev nD) : FVec Ideal S16x1024 .f32 := m ((c : Thread nD τ).loc main_arg8)
abbrev P9 (c : Dev nD) : FVec Ideal S16x1024 .f32 := m ((c : Thread nD τ).loc main_arg9)
abbrev P10 (c : Dev nD) : FVec Ideal S1024 .f32 := m ((c : Thread nD τ).loc main_arg10)
abbrev P11 (c : Dev nD) : FVec Ideal S1024 .f32 := m ((c : Thread nD τ).loc main_arg11)
abbrev P12 (c : Dev nD) : FVec Ideal S1024x2048 .f32 := m ((c : Thread nD τ).loc main_arg12)
abbrev P13 (c : Dev nD) : FVec Ideal S4x256x256 .f32 := m ((c : Thread nD τ).loc main_arg13)
abbrev P14 (c : Dev nD) : FVec Ideal S1024 .f32 := m ((c : Thread nD τ).loc main_arg14)
abbrev P15 (c : Dev nD) : FVec Ideal S1024x1024 .f32 := m ((c : Thread nD τ).loc main_arg15)

/-- The blocks read at grid point `t`. -/
def blkAt (c : Dev nD) (t : Fin cfg0.N) : Blk Ideal :=
  ⟨BitVec.ofNat 32 (grid0.coords t 1).val, iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t⟩

theorem h0_at (c : Dev nD) (i : S16x4096x512.Idx) : (V m c main_v0 : FVec Ideal S16x4096x512 .bf16) i = P1 m c i := by
  entry_read
  pointwise
theorem h1_at (c : Dev nD) (i : S16x4096x512.Idx) : (V m c main_v1 : FVec Ideal S16x4096x512 .bf16) i = P2 m c i := by
  entry_read
  pointwise
theorem h2_at (c : Dev nD) (i : S16x4096x1024.Idx) : (V m c main_v2 : FVec Ideal S16x4096x1024 .bf16) i = P3 m c i := by
  entry_read
  pointwise
theorem h3_at (c : Dev nD) (b : Fin 16) (d : Fin 1024) : (V m c main_v3 : FVec Ideal S16x1x1024 .f32) (ix3 b 0 d) = P4 m c (ix2 b d) := by
  entry_read
  pointwise
theorem h4_at (c : Dev nD) (d : Fin 1024) : (V m c main_v4 : FVec Ideal S1x1024 .f32) (ix2 0 d) = P5 m c (ix1 d) := by
  entry_read
  pointwise
theorem h5_at (c : Dev nD) (i : S1024x1024.Idx) : (V m c main_v5 : FVec Ideal S1024x1024 .bf16) i = P6 m c i := by
  entry_read
  pointwise
theorem h6_at (c : Dev nD) (b : Fin 16) (d : Fin 1024) : (V m c main_v6 : FVec Ideal S16x1x1024 .f32) (ix3 b 0 d) = P7 m c (ix2 b d) := by
  entry_read
  pointwise
theorem h7_at (c : Dev nD) (b : Fin 16) (d : Fin 1024) : (V m c main_v7 : FVec Ideal S16x1x1024 .f32) (ix3 b 0 d) = P8 m c (ix2 b d) := by
  entry_read
  pointwise
theorem h8_at (c : Dev nD) (b : Fin 16) (d : Fin 1024) : (V m c main_v8 : FVec Ideal S16x1x1024 .f32) (ix3 b 0 d) = P9 m c (ix2 b d) := by
  entry_read
  pointwise
theorem h9_at (c : Dev nD) (d : Fin 1024) : (V m c main_v9 : FVec Ideal S1x1024 .f32) (ix2 0 d) = P10 m c (ix1 d) := by
  entry_read
  pointwise
theorem h10_at (c : Dev nD) (d : Fin 1024) : (V m c main_v10 : FVec Ideal S1x1024 .f32) (ix2 0 d) = P11 m c (ix1 d) := by
  entry_read
  pointwise
theorem h11_at (c : Dev nD) (i : S1024x2048.Idx) : (V m c main_v11 : FVec Ideal S1024x2048 .bf16) i = P12 m c i := by
  entry_read
  pointwise
theorem h12_at (c : Dev nD) (i : S4x256x256.Idx) : (V m c main_v12 : FVec Ideal S4x256x256 .bf16) i = P13 m c i := by
  entry_read
  pointwise
theorem h13_at (c : Dev nD) (d : Fin 1024) : (V m c main_v13 : FVec Ideal S1x1024 .f32) (ix2 0 d) = P14 m c (ix1 d) := by
  entry_read
  pointwise
theorem h14_at (c : Dev nD) (i : S1024x1024.Idx) : (V m c main_v14 : FVec Ideal S1024x1024 .bf16) i = P15 m c i := by
  entry_read
  pointwise

theorem blk0 (c : Dev nD) (t : Fin cfg0.N) (r : Fin 8) (d : Fin 1024) : (iblk m c 0 t : FVec Ideal S1x8x1024 .f32) (ix3 0 r d)
    = P0 m c (ix3 (bat t) ⟨8 * (64 * (t.val % 8) - 1) + r.val, by omega⟩ d) := by
  skip
  unfold iblk
  blk_simp
  blk_ext [at0 t]
theorem blk1 (c : Dev nD) (t : Fin cfg0.N) (r : Fin 512) (d : Fin 1024) : (iblk m c 1 t : FVec Ideal S1x512x1024 .f32) (ix3 0 r d)
    = P0 m c (ix3 (bat t) ⟨512 * (t.val % 8) + r.val, by omega⟩ d) := by
  skip
  unfold iblk
  blk_simp
  blk_ext [at1 t]
theorem blk2 (c : Dev nD) (t : Fin cfg0.N) (r : Fin 8) (d : Fin 1024) : (iblk m c 2 t : FVec Ideal S1x8x1024 .f32) (ix3 0 r d)
    = P0 m c (ix3 (bat t) ⟨8 * min (64 * (t.val % 8) + 64) 511 + r.val, by omega⟩ d) := by
  skip
  unfold iblk
  blk_simp
  blk_ext [at2 t]
theorem blk3 (c : Dev nD) (t : Fin cfg0.N) (r : Fin 16) (d : Fin 512) : (iblk m c 3 t : FVec Ideal S1x16x512 .bf16) (ix3 0 r d)
    = P1 m c (ix3 (bat t) ⟨16 * (32 * (t.val % 8) - 1) + r.val, by omega⟩ d) := by
  rw [← h0_at]
  unfold iblk
  blk_simp
  blk_ext [at3 t]
theorem blk4 (c : Dev nD) (t : Fin cfg0.N) (r : Fin 512) (d : Fin 512) : (iblk m c 4 t : FVec Ideal S1x512x512 .bf16) (ix3 0 r d)
    = P1 m c (ix3 (bat t) ⟨512 * (t.val % 8) + r.val, by omega⟩ d) := by
  rw [← h0_at]
  unfold iblk
  blk_simp
  blk_ext [at4 t]
theorem blk5 (c : Dev nD) (t : Fin cfg0.N) (r : Fin 16) (d : Fin 512) : (iblk m c 5 t : FVec Ideal S1x16x512 .bf16) (ix3 0 r d)
    = P1 m c (ix3 (bat t) ⟨16 * min (32 * (t.val % 8) + 32) 255 + r.val, by omega⟩ d) := by
  rw [← h0_at]
  unfold iblk
  blk_simp
  blk_ext [at5 t]
theorem blk6 (c : Dev nD) (t : Fin cfg0.N) (r : Fin 16) (d : Fin 512) : (iblk m c 6 t : FVec Ideal S1x16x512 .bf16) (ix3 0 r d)
    = P2 m c (ix3 (bat t) ⟨16 * (32 * (t.val % 8) - 1) + r.val, by omega⟩ d) := by
  rw [← h1_at]
  unfold iblk
  blk_simp
  blk_ext [at6 t]
theorem blk7 (c : Dev nD) (t : Fin cfg0.N) (r : Fin 512) (d : Fin 512) : (iblk m c 7 t : FVec Ideal S1x512x512 .bf16) (ix3 0 r d)
    = P2 m c (ix3 (bat t) ⟨512 * (t.val % 8) + r.val, by omega⟩ d) := by
  rw [← h1_at]
  unfold iblk
  blk_simp
  blk_ext [at7 t]
theorem blk8 (c : Dev nD) (t : Fin cfg0.N) (r : Fin 16) (d : Fin 512) : (iblk m c 8 t : FVec Ideal S1x16x512 .bf16) (ix3 0 r d)
    = P2 m c (ix3 (bat t) ⟨16 * min (32 * (t.val % 8) + 32) 255 + r.val, by omega⟩ d) := by
  rw [← h1_at]
  unfold iblk
  blk_simp
  blk_ext [at8 t]
theorem blk9 (c : Dev nD) (t : Fin cfg0.N) (r : Fin 16) (d : Fin 1024) : (iblk m c 9 t : FVec Ideal S1x16x1024 .bf16) (ix3 0 r d)
    = P3 m c (ix3 (bat t) ⟨16 * (32 * (t.val % 8) - 1) + r.val, by omega⟩ d) := by
  rw [← h2_at]
  unfold iblk
  blk_simp
  blk_ext [at9 t]
theorem blk10 (c : Dev nD) (t : Fin cfg0.N) (r : Fin 512) (d : Fin 1024) : (iblk m c 10 t : FVec Ideal S1x512x1024 .bf16) (ix3 0 r d)
    = P3 m c (ix3 (bat t) ⟨512 * (t.val % 8) + r.val, by omega⟩ d) := by
  rw [← h2_at]
  unfold iblk
  blk_simp
  blk_ext [at10 t]
theorem blk11 (c : Dev nD) (t : Fin cfg0.N) (r : Fin 16) (d : Fin 1024) : (iblk m c 11 t : FVec Ideal S1x16x1024 .bf16) (ix3 0 r d)
    = P3 m c (ix3 (bat t) ⟨16 * min (32 * (t.val % 8) + 32) 255 + r.val, by omega⟩ d) := by
  rw [← h2_at]
  unfold iblk
  blk_simp
  blk_ext [at11 t]
theorem blk12 (c : Dev nD) (t : Fin cfg0.N) (d : Fin 1024) : (iblk m c 12 t : FVec Ideal S1x1x1024 .f32) (ix3 0 0 d)
    = P4 m c (ix2 (bat t) d) := by
  rw [← h3_at]
  unfold iblk
  blk_simp
  blk_ext [at12 t]
theorem blk15 (c : Dev nD) (t : Fin cfg0.N) (d : Fin 1024) : (iblk m c 15 t : FVec Ideal S1x1x1024 .f32) (ix3 0 0 d)
    = P7 m c (ix2 (bat t) d) := by
  rw [← h6_at]
  unfold iblk
  blk_simp
  blk_ext [at15 t]
theorem blk16 (c : Dev nD) (t : Fin cfg0.N) (d : Fin 1024) : (iblk m c 16 t : FVec Ideal S1x1x1024 .f32) (ix3 0 0 d)
    = P8 m c (ix2 (bat t) d) := by
  rw [← h7_at]
  unfold iblk
  blk_simp
  blk_ext [at16 t]
theorem blk17 (c : Dev nD) (t : Fin cfg0.N) (d : Fin 1024) : (iblk m c 17 t : FVec Ideal S1x1x1024 .f32) (ix3 0 0 d)
    = P9 m c (ix2 (bat t) d) := by
  rw [← h8_at]
  unfold iblk
  blk_simp
  blk_ext [at17 t]
theorem blk13 (c : Dev nD) (t : Fin cfg0.N) (d : Fin 1024) : (iblk m c 13 t : FVec Ideal S1x1024 .f32) (ix2 0 d)
    = P5 m c (ix1 d) := by
  rw [← h4_at]
  unfold iblk
  blk_simp
  blk_ext [at13 t]
theorem blk18 (c : Dev nD) (t : Fin cfg0.N) (d : Fin 1024) : (iblk m c 18 t : FVec Ideal S1x1024 .f32) (ix2 0 d)
    = P10 m c (ix1 d) := by
  rw [← h9_at]
  unfold iblk
  blk_simp
  blk_ext [at18 t]
theorem blk19 (c : Dev nD) (t : Fin cfg0.N) (d : Fin 1024) : (iblk m c 19 t : FVec Ideal S1x1024 .f32) (ix2 0 d)
    = P11 m c (ix1 d) := by
  rw [← h10_at]
  unfold iblk
  blk_simp
  blk_ext [at19 t]
theorem blk22 (c : Dev nD) (t : Fin cfg0.N) (d : Fin 1024) : (iblk m c 22 t : FVec Ideal S1x1024 .f32) (ix2 0 d)
    = P14 m c (ix1 d) := by
  rw [← h13_at]
  unfold iblk
  blk_simp
  blk_ext [at22 t]
theorem blk14 (c : Dev nD) (t : Fin cfg0.N) (k : Fin 1024) (d : Fin 1024) : (iblk m c 14 t : FVec Ideal S1024x1024 .bf16) (ix2 k d)
    = P6 m c (ix2 k d) := by
  rw [← h5_at]
  unfold iblk
  blk_simp
  blk_ext [at14 t]
theorem blk20 (c : Dev nD) (t : Fin cfg0.N) (k : Fin 1024) (d : Fin 2048) : (iblk m c 20 t : FVec Ideal S1024x2048 .bf16) (ix2 k d)
    = P12 m c (ix2 k d) := by
  rw [← h11_at]
  unfold iblk
  blk_simp
  blk_ext [at20 t]
theorem blk23 (c : Dev nD) (t : Fin cfg0.N) (k : Fin 1024) (d : Fin 1024) : (iblk m c 23 t : FVec Ideal S1024x1024 .bf16) (ix2 k d)
    = P15 m c (ix2 k d) := by
  rw [← h14_at]
  unfold iblk
  blk_simp
  blk_ext [at23 t]
theorem blk21 (c : Dev nD) (t : Fin cfg0.N) (q : Fin 4) (c' k : Fin 256) : (iblk m c 21 t : FVec Ideal S4x256x256 .bf16) (ix3 q c' k)
    = P13 m c (ix3 q c' k) := by
  rw [← h12_at]
  unfold iblk
  blk_simp
  blk_ext [at21 t]

end Pool
-- ==== Proof.PoolRow.lean ====
module
public import Idealize.ShloMosaic.Lib.Pointwise
public import proofs.«01_k».proof.Proof.PoolSpec
public import proofs.«01_k».proof.Proof.Gen.Kernel2Ideal.Skeleton
@[expose] public section
set_option maxRecDepth 16384
noncomputable section

/-! The pure values of the pooling call's body, read at a row and a column. -/

namespace Pool
open Cert.Kernel2Ideal Cert.Kernel2Ideal.Gen Idealize.ShloMosaic Idealize.ShloMosaic.TcCoe
open Cert.Kernel2Ideal.Facts

/-- The three blocks of 176 rows, as one of 528. -/
abbrev catRows {φ : FTy} (a b c : FVec Ideal S176x1024 φ) : FVec Ideal S528x1024 φ :=
  concatenate S528x1024 0 [⟨S176x1024, a⟩, ⟨S176x1024, b⟩, ⟨S176x1024, c⟩] concatenates_S176x1024_S176x1024_S176x1024_S528x1024_d0

/-- Three blocks holding the rows of `R` are `R` together. -/
theorem catRows_apply {φ : FTy} (a b c : FVec Ideal S176x1024 φ) (R : Fin 528 → Fin 1024 → EReal)
    (ha : ∀ (r : Fin 176) d, a (ix2 r d) = R ⟨r.val, by omega⟩ d) (hb : ∀ (r : Fin 176) d, b (ix2 r d) = R ⟨176 + r.val, by omega⟩ d)
    (hc : ∀ (r : Fin 176) d, c (ix2 r d) = R ⟨352 + r.val, by omega⟩ d) (e : Fin 528) (d : Fin 1024) :
    catRows a b c (ix2 e d) = R e d := by
  unfold catRows
  pointwise
  by_cases h1 : e.val < 176
  · rw [dif_pos h1, ha]
  · rw [dif_neg h1]
    by_cases h2 : e.val - 176 < 176
    · rw [dif_pos h2, hb]; exact congrArg (fun q => R q d) (Fin.ext (by show 176 + (e.val - 176) = e.val; omega))
    · rw [dif_neg h2, hc]; exact congrArg (fun q => R q d) (Fin.ext (by have := e.isLt; show 352 + (e.val - 176 - 176) = e.val; omega))

/-- The token rows after the attention's residual, of the extended inputs. -/
def rowX (v6 : FVec Ideal S528x1024 .f32) (v18 v30 : FVec Ideal S528x512 .f32) (v42 : FVec Ideal S528x1024 .f32)
    (ga po : Fin 1024 → EReal) (wa wb : Vec Ideal S512x1024 .bf16) (e : Fin 528) : Fin 1024 → EReal :=
  res (fun d => v6 (ix2 e d)) (mix (fun k => v18 (ix2 e k)) (fun k => v42 (ix2 e ⟨k.val, by omega⟩))
    (fun k => v30 (ix2 e k)) (fun k => v42 (ix2 e ⟨512 + k.val, by omega⟩)) (fun k d => wa (ix2 k d)) (fun k d => wb (ix2 k d))) ga po

theorem x1_first (v6 : FVec Ideal S528x1024 .f32) (v18 v30 : FVec Ideal S528x512 .f32) (v31 : Vec Ideal S1x16x1024 .bf16) (v35 : Vec Ideal S1x512x1024 .bf16) (v38 : Vec Ideal S1x16x1024 .bf16)
    (v47 : Vec Ideal S1x1x1024 .f32) (v49 : Vec Ideal S1x1024 .f32) (v57 v60 : Vec Ideal S512x1024 .bf16) (r : Fin 176) (d : Fin 1024) :
    k0_pay11 (k0_pay6 v6) (k0_pay7 v47) (k0_pay8 v49) (k0_pay9 v18 v30 v31 v35 v38 v57 v60) (k0_pay10 v18 v30 v31 v35 v38 v57 v60) (ix2 r d)
      = rowX v6 v18 v30 (k0_pay5 v31 v35 v38) (fun d => v47 (ix3 0 0 d)) (fun d => v49 (ix2 0 d)) v57 v60 ⟨r.val, by omega⟩ d := by
  unfold k0_pay11 k0_pay10 k0_pay9
  generalize k0_pay5 v31 v35 v38 = v42
  pointwise [k0_pay6, k0_pay7, k0_pay8, rowX, res, mix, rs]

theorem x1_second (v6 : FVec Ideal S528x1024 .f32) (v18 v30 : FVec Ideal S528x512 .f32) (v42 : FVec Ideal S528x1024 .f32)
    (v47 : Vec Ideal S1x1x1024 .f32) (v49 : Vec Ideal S1x1024 .f32) (v57 v60 : Vec Ideal S512x1024 .bf16) (r : Fin 176) (d : Fin 1024) :
    k0_pay12 v6 v18 v30 v42 v47 v49 v57 v60 (ix2 r d)
      = rowX v6 v18 v30 v42 (fun d => v47 (ix3 0 0 d)) (fun d => v49 (ix2 0 d)) v57 v60 ⟨176 + r.val, by omega⟩ d := by
  pointwise [k0_pay12, rowX, res, mix, rs]

theorem x1_third (v6 : FVec Ideal S528x1024 .f32) (v18 v30 : FVec Ideal S528x512 .f32) (v42 : FVec Ideal S528x1024 .f32)
    (v47 : Vec Ideal S1x1x1024 .f32) (v49 : Vec Ideal S1x1024 .f32) (v57 v60 : Vec Ideal S512x1024 .bf16) (r : Fin 176) (d : Fin 1024) :
    k0_pay14 v18 v30 v42 (k0_pay13 v6) v47 v49 v57 v60 (ix2 r d)
      = rowX v6 v18 v30 v42 (fun d => v47 (ix3 0 0 d)) (fun d => v49 (ix2 0 d)) v57 v60 ⟨352 + r.val, by omega⟩ d := by
  pointwise [k0_pay14, k0_pay13, rowX, res, mix, rs]

/-- The rows kept for the final residual. -/
theorem x1_kept (v18 v30 : FVec Ideal S528x512 .f32) (v42 : FVec Ideal S528x1024 .f32) (v77 v112 v113 : FVec Ideal S176x1024 .f32)
    (v117 : Vec Ideal S1x1x1024 .f32) (v119 : Vec Ideal S1x1024 .f32) (v127 v130 : Vec Ideal S512x1024 .bf16) (R : Fin 528 → Fin 1024 → EReal)
    (ha : ∀ (r : Fin 176) d, v77 (ix2 r d) = R ⟨r.val, by omega⟩ d) (hb : ∀ (r : Fin 176) d, v112 (ix2 r d) = R ⟨176 + r.val, by omega⟩ d)
    (hc : ∀ (r : Fin 176) d, k0_pay14 v18 v30 v42 v113 v117 v119 v127 v130 (ix2 r d) = R ⟨352 + r.val, by omega⟩ d)
    (r : Fin 512) (d : Fin 1024) :
    k0_pay15 v18 v30 v42 v77 v112 v113 v117 v119 v127 v130 (ix2 r d) = R ⟨8 + r.val, by omega⟩ d := by
  rw [← catRows_apply v77 v112 _ R ha hb hc]
  unfold k0_pay15
  generalize k0_pay14 v18 v30 v42 v113 v117 v119 v127 v130 = v147
  change extractStridedSlice S512x1024 ![8, 0] (catRows v77 v112 v147) slices_S528x1024_o8_0_S512x1024 (ix2 r d) = _
  generalize catRows v77 v112 v147 = V
  pointwise

/-- The modulated rows. -/
theorem h_all (v77 v112 v147 : FVec Ideal S176x1024 .f32) (v150 : Vec Ideal S1x1024 .f32) (v152 v154 : Vec Ideal S1x1x1024 .f32)
    (R : Fin 528 → Fin 1024 → EReal)
    (ha : ∀ (r : Fin 176) d, v77 (ix2 r d) = R ⟨r.val, by omega⟩ d) (hb : ∀ (r : Fin 176) d, v112 (ix2 r d) = R ⟨176 + r.val, by omega⟩ d)
    (hc : ∀ (r : Fin 176) d, v147 (ix2 r d) = R ⟨352 + r.val, by omega⟩ d) (e : Fin 528) (d : Fin 1024) :
    k0_pay21 v147 (k0_pay18 v77 (k0_pay16 v150) (k0_pay17 v152) v154) (k0_pay19 v112 v150 v152) (k0_pay20 v154) v150 v152 v154 (ix2 e d)
      = modn (R e) (fun d => v150 (ix2 0 d)) (fun d => v152 (ix3 0 0 d)) (fun d => v154 (ix3 0 0 d)) d := by
  refine catRows_apply (φ := .bf16) _ _ _ (fun e => modn (R e) (fun d => v150 (ix2 0 d)) (fun d => v152 (ix3 0 0 d)) (fun d => v154 (ix3 0 0 d))) ?_ ?_ ?_ e d
  · intro r d
    pointwise [k0_pay18, k0_pay16, k0_pay17, modn, rs, ha]
  · intro r d
    pointwise [k0_pay19, k0_pay20, modn, rs, hb]
  · intro r d
    pointwise [modn, rs, hc]

/-- The first half of the input projection. -/
theorem u_all (v147 v194 v195 : FVec Ideal S176x1024 .f32) (v173 : FVec Ideal S176x1024 .bf16) (v198 : Vec Ideal S1x1024 .f32) (v200 v202 : Vec Ideal S1x1x1024 .f32)
    (w : Vec Ideal S1024x1024 .bf16) (e : Fin 528) (d : Fin 1024) :
    k0_pay22 v147 v173 v194 v195 v198 v200 v202 w (ix2 e d)
      = dot (fun k => k0_pay21 v147 v173 v194 v195 v198 v200 v202 (ix2 e k)) (fun k d => w (ix2 k d)) d := by
  unfold k0_pay22
  generalize k0_pay21 v147 v173 v194 v195 v198 v200 v202 = V
  pointwise [dot]

/-- The rows stored: outside the sequence zero. -/
theorem u_stored (a : BitVec 32) (v230 : FVec Ideal S528x1024 .f32) (z : EReal) (e : Fin 528) (d : Fin 1024) :
    k0_pay24 (F := Ideal) v230 (k0_pay23 a) z (ix2 e d)
      = Scalar.select (inRow (IntOp.addi (Scalar.subi (Scalar.muli a 512#32) 8#32) (BitVec.ofNat 32 e.val))) (v230 (ix2 e d)) z := by
  pointwise [k0_pay24, k0_pay23, inRow]

theorem u_zero (e : Fin 16) (d : Fin 1024) : k0_pay25 (F := Ideal) (ix2 e d) = 0 := by
  pointwise [k0_pay25]

/-- The gates of the kept rows. -/
theorem gates (v222 : FVec Ideal S528x1024 .bf16) (w : Vec Ideal S1024x1024 .bf16) (r : Fin 512) (d : Fin 1024) :
    k0_pay26 v222 w (ix2 r d) = silu (dot (fun k => v222 (ix2 ⟨8 + r.val, by omega⟩ k)) (fun k d => w (ix2 k d)) d) := by
  pointwise [k0_pay26, silu, dot]

/-- The number of a kept row. -/
abbrev rowNo (a : BitVec 32) (r : Fin 512) : BitVec 32 := k0_pay27 a (ix2 r 0)

theorem rowNo_eq (a : BitVec 32) (r : Fin 512) : rowNo a r = IntOp.addi (Scalar.muli a 512#32) (BitVec.ofNat 32 r.val) := by
  pointwise [rowNo, k0_pay27]

theorem group_first (a : BitVec 32) (v258 : FVec Ideal S512x1024 .f32) (p q u : Vec Ideal S512x256 .f32) (w : Vec Ideal S1x256x256 .bf16) (sc : Vec Ideal S1x256 .f32)
    (wo : Vec Ideal S256x1024 .bf16) (r : Fin 512) (d : Fin 1024) :
    k0_pay32 v258 (k0_pay28 (F := Ideal)) (k0_pay29 p q) (k0_pay30 a) (k0_pay31 a) 0#32 u w sc wo (ix2 r d)
      = ∑ k, grp (fun c => p (ix2 r c) + q (ix2 r c)) (cnt 1#32 (rowNo a r)) (fun c => u (ix2 r c)) (fun c k => w (ix3 0 c k)) (fun k => sc (ix2 0 k))
          (fun k => v258 (ix2 r ⟨k.val, by omega⟩)) k * wo (ix2 k d) := by
  unfold k0_pay32 k0_pay30 k0_pay31
  generalize hV : k0_pay27 a = V
  pointwise [k0_pay28, k0_pay29, grp, cnt, rowNo, hV]

theorem group_second (v258 : FVec Ideal S512x1024 .f32) (v262 : IVec S512x1 32) (v297 : FVec Ideal S512x1024 .f32) (p q u : Vec Ideal S512x256 .f32) (w : Vec Ideal S1x256x256 .bf16) (sc : Vec Ideal S1x256 .f32)
    (wo : Vec Ideal S256x1024 .bf16) (r : Fin 512) (d : Fin 1024) :
    k0_pay36 v258 v262 v297 (k0_pay34 p q) (k0_pay35 v262) u w sc wo (ix2 r d)
      = v297 (ix2 r d) + ∑ k, grp (fun c => p (ix2 r c) + q (ix2 r c)) (cnt 2#32 (v262 (ix2 r 0))) (fun c => u (ix2 r c)) (fun c k => w (ix3 0 c k)) (fun k => sc (ix2 0 k))
          (fun k => v258 (ix2 r ⟨256 + k.val, by omega⟩)) k * wo (ix2 k d) := by
  pointwise [k0_pay34, k0_pay35, k0_pay36, grp, cnt]

theorem group_third (v258 : FVec Ideal S512x1024 .f32) (v262 : IVec S512x1 32) (v297 : FVec Ideal S512x1024 .f32) (p q u : Vec Ideal S512x256 .f32) (w : Vec Ideal S1x256x256 .bf16) (sc : Vec Ideal S1x256 .f32)
    (wo : Vec Ideal S256x1024 .bf16) (r : Fin 512) (d : Fin 1024) :
    k0_pay40 v297 (k0_pay39 v258 v262 p q u w sc) wo (ix2 r d)
      = v297 (ix2 r d) + ∑ k, grp (fun c => p (ix2 r c) + q (ix2 r c)) (cnt 4#32 (v262 (ix2 r 0))) (fun c => u (ix2 r c)) (fun c k => w (ix3 0 c k)) (fun k => sc (ix2 0 k))
          (fun k => v258 (ix2 r ⟨512 + k.val, by omega⟩)) k * wo (ix2 k d) := by
  pointwise [k0_pay39, k0_pay40, grp, cnt]

/-- The four groups' sum, normed. -/
theorem group_fourth (v258 : FVec Ideal S512x1024 .f32) (v262 : IVec S512x1 32) (v297 : FVec Ideal S512x1024 .f32) (p q u : Vec Ideal S512x256 .f32) (w : Vec Ideal S1x256x256 .bf16) (sc : Vec Ideal S1x256 .f32)
    (wo : Vec Ideal S256x1024 .bf16) (r : Fin 512) (M : Fin 1024 → EReal)
    (hM : ∀ d, M d = v297 (ix2 r d) + ∑ k, grp (fun c => p (ix2 r c) + q (ix2 r c)) (cnt 8#32 (v262 (ix2 r 0))) (fun c => u (ix2 r c)) (fun c k => w (ix3 0 c k)) (fun k => sc (ix2 0 k))
          (fun k => v258 (ix2 r ⟨768 + k.val, by omega⟩)) k * wo (ix2 k d)) (d : Fin 1024) :
    k0_pay47 v258 v297 (k0_pay44 p q) (k0_pay45 v262) (k0_pay46 v262) 0#32 u w sc wo (ix2 r d) = M d * rs M := by
  simp only [rs, hM]
  pointwise [k0_pay44, k0_pay45, k0_pay46, k0_pay47, grp, cnt]

/-- The result's block. -/
theorem out_row (v149 v449 : FVec Ideal S512x1024 .f32) (v436 : Vec Ideal S1x1024 .f32) (v438 : Vec Ideal S1x1x1024 .f32) (r : Fin 512) (d : Fin 1024) :
    k0_pay1 v149 v449 (k0_pay48 v436 v438) (ix3 0 r d) = v149 (ix2 r d) + v449 (ix2 r d) * (v438 (ix3 0 0 d) * v436 (ix2 0 d)) := by
  pointwise [k0_pay1, k0_pay48]

/-- Two shifted copies added. -/
theorem twice_536 (p q : Vec Ideal S536x256 .f32) (n : Fin 536) (c : Fin 256) :
    k0_pay33 p q (ix2 n c) = p (ix2 n c) + q (ix2 n c) ∧ k0_pay37 p q (ix2 n c) = p (ix2 n c) + q (ix2 n c)
      ∧ k0_pay41 p q (ix2 n c) = p (ix2 n c) + q (ix2 n c) := by
  refine ⟨?_, ?_, ?_⟩ <;> pointwise [k0_pay33, k0_pay37, k0_pay41]

theorem twice_528 (p q : Vec Ideal S528x256 .f32) (n : Fin 528) (c : Fin 256) :
    k0_pay38 p q (ix2 n c) = p (ix2 n c) + q (ix2 n c) ∧ k0_pay42 p q (ix2 n c) = p (ix2 n c) + q (ix2 n c) := by
  refine ⟨?_, ?_⟩ <;> pointwise [k0_pay38, k0_pay42]

theorem twice_520 (p q : Vec Ideal S520x256 .f32) (n : Fin 520) (c : Fin 256) :
    k0_pay43 p q (ix2 n c) = p (ix2 n c) + q (ix2 n c) := by
  pointwise [k0_pay43]

/-- The tokens' rows with the neighbours' eight rows above and below. -/
theorem ext_x (a : Vec Ideal S1x8x1024 .f32) (b : Vec Ideal S1x512x1024 .f32) (c : Vec Ideal S1x8x1024 .f32) (e : Fin 528) (d : Fin 1024) (v : EReal)
    (ha : ∀ h : e.val < 8, a (ix3 0 ⟨e.val, h⟩ d) = v) (hb : ∀ h : e.val - 8 < 512, 8 ≤ e.val → b (ix3 0 ⟨e.val - 8, h⟩ d) = v)
    (hc : 520 ≤ e.val → c (ix3 0 ⟨e.val - 8 - 512, by omega⟩ d) = v) :
    k0_pay2 a b c (ix2 e d) = v := by
  pointwise [k0_pay2]
  by_cases h1 : e.val < 8
  · rw [dif_pos h1]; exact ha h1
  · rw [dif_neg h1]
    by_cases h2 : e.val - 8 < 512
    · rw [dif_pos h2]; exact hb h2 (by omega)
    · rw [dif_neg h2]; exact hc (by omega)

/-- The first attention's rows with the neighbours' eight rows above and below. -/
theorem ext_a (a : Vec Ideal S1x16x512 .bf16) (b : Vec Ideal S1x512x512 .bf16) (c : Vec Ideal S1x16x512 .bf16) (e : Fin 528) (d : Fin 512) (v : EReal)
    (ha : ∀ h : e.val < 8, a (ix3 0 ⟨8 + e.val, by omega⟩ d) = v) (hb : ∀ h : e.val - 8 < 512, 8 ≤ e.val → b (ix3 0 ⟨e.val - 8, h⟩ d) = v)
    (hc : 520 ≤ e.val → c (ix3 0 ⟨e.val - 8 - 512, by omega⟩ d) = v) :
    k0_pay3 a b c (ix2 e d) = v := by
  pointwise [k0_pay3]
  by_cases h1 : e.val < 8
  · rw [dif_pos h1]; exact ha h1
  · rw [dif_neg h1]
    by_cases h2 : e.val - 8 < 512
    · rw [dif_pos h2]; exact hb h2 (by omega)
    · rw [dif_neg h2]; exact hc (by omega)

/-- The second attention's rows with the neighbours' eight rows above and below. -/
theorem ext_b (a : Vec Ideal S1x16x512 .bf16) (b : Vec Ideal S1x512x512 .bf16) (c : Vec Ideal S1x16x512 .bf16) (e : Fin 528) (d : Fin 512) (v : EReal)
    (ha : ∀ h : e.val < 8, a (ix3 0 ⟨8 + e.val, by omega⟩ d) = v) (hb : ∀ h : e.val - 8 < 512, 8 ≤ e.val → b (ix3 0 ⟨e.val - 8, h⟩ d) = v)
    (hc : 520 ≤ e.val → c (ix3 0 ⟨e.val - 8 - 512, by omega⟩ d) = v) :
    k0_pay4 a b c (ix2 e d) = v := by
  pointwise [k0_pay4]
  by_cases h1 : e.val < 8
  · rw [dif_pos h1]; exact ha h1
  · rw [dif_neg h1]
    by_cases h2 : e.val - 8 < 512
    · rw [dif_pos h2]; exact hb h2 (by omega)
    · rw [dif_neg h2]; exact hc (by omega)

/-- The gates' rows with the neighbours' eight rows above and below. -/
theorem ext_g (a : Vec Ideal S1x16x1024 .bf16) (b : Vec Ideal S1x512x1024 .bf16) (c : Vec Ideal S1x16x1024 .bf16) (e : Fin 528) (d : Fin 1024) (v : EReal)
    (ha : ∀ h : e.val < 8, a (ix3 0 ⟨8 + e.val, by omega⟩ d) = v) (hb : ∀ h : e.val - 8 < 512, 8 ≤ e.val → b (ix3 0 ⟨e.val - 8, h⟩ d) = v)
    (hc : 520 ≤ e.val → c (ix3 0 ⟨e.val - 8 - 512, by omega⟩ d) = v) :
    k0_pay5 a b c (ix2 e d) = v := by
  pointwise [k0_pay5]
  by_cases h1 : e.val < 8
  · rw [dif_pos h1]; exact ha h1
  · rw [dif_neg h1]
    by_cases h2 : e.val - 8 < 512
    · rw [dif_pos h2]; exact hb h2 (by omega)
    · rw [dif_neg h2]; exact hc (by omega)

end Pool
-- ==== Proof.PoolRef.lean ====
module
public import Idealize.ShloMosaic.Lib.Pointwise
public import proofs.«01_k».proof.Proof.Gen.Reference2Ideal.Read
public import proofs.«01_k».proof.Proof.PoolTok
@[expose] public section
set_option maxRecDepth 16384
noncomputable section

/-! The pooling call's reference read at a token: it is the call's mathematics. -/

namespace Pool
open Cert.Reference2Ideal Cert.Reference2Ideal.Gen Cert.Reference2Ideal.Read Idealize.ShloMosaic Idealize.ShloMosaic.TcCoe
variable (x0 : FVec Ideal S16x4096x1024 .f32) (x1 : FVec Ideal S16x4096x512 .f32) (x2 : FVec Ideal S16x4096x512 .f32) (x3 : FVec Ideal S16x4096x1024 .f32) (x4 : FVec Ideal S16x1024 .f32) (x5 : FVec Ideal S1024 .f32) (x6 : FVec Ideal S1024x1024 .f32) (x7 : FVec Ideal S16x1024 .f32) (x8 : FVec Ideal S16x1024 .f32) (x9 : FVec Ideal S16x1024 .f32) (x10 : FVec Ideal S1024 .f32) (x11 : FVec Ideal S1024 .f32) (x12 : FVec Ideal S1024x2048 .f32) (x13 : FVec Ideal S4x256x256 .f32) (x14 : FVec Ideal S1024 .f32) (x15 : FVec Ideal S1024x1024 .f32)

/-- The arguments as functions of their coordinates. -/
def arrays : Arrays where
  x b t d := x0 (ix3 b t d)
  oa b t d := x1 (ix3 b t d)
  ob b t d := x2 (ix3 b t d)
  g b t d := x3 (ix3 b t d)
  gate0 b d := x4 (ix2 b d)
  post0 d := x5 (ix1 d)
  wOut0 k d := x6 (ix2 k d)
  shift b d := x7 (ix2 b d)
  scl b d := x8 (ix2 b d)
  gate b d := x9 (ix2 b d)
  pre d := x10 (ix1 d)
  post d := x11 (ix1 d)
  wIn k d := x12 (ix2 k d)
  wGrp q c k := x13 (ix3 q c k)
  scale d := x14 (ix1 d)
  wOut k d := x15 (ix2 k d)

theorem r2 (b : Fin 16) (t : Fin 4096) (d : Fin 1024) : val_main_v2 (F := Ideal) x1 x2 x3 x6 (ix3 b t d)
    = mix (fun k => x1 (ix3 b t k)) (fun k => x3 (ix3 b t ⟨k.val, by omega⟩)) (fun k => x2 (ix3 b t k)) (fun k => x3 (ix3 b t ⟨512 + k.val, by omega⟩))
      (fun k d => x6 (ix2 ⟨k.val, by omega⟩ d)) (fun k d => x6 (ix2 ⟨512 + k.val, by omega⟩ d)) d := by
  unfold val_main_v2 val_main_v1 val_main_v0 mix
  pointwise

theorem r19 (b : Fin 16) (t : Fin 4096) (d : Fin 1024) : val_main_v19 (F := Ideal) x0 x1 x2 x3 x4 x5 x6 (ix3 b t d)
    = res (fun d => x0 (ix3 b t d)) (fun d => val_main_v2 (F := Ideal) x1 x2 x3 x6 (ix3 b t d)) (fun d => x4 (ix2 b d)) (fun d => x5 (ix1 d)) d := by
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_cst val_main_cst_0 val_main_cst_1 res rs
  generalize val_main_v2 (F := Ideal) x1 x2 x3 x6 = y
  pointwise
  rw [mul_left_comm]

theorem tok_eq (b : Fin 16) (t : Fin 4096) : (fun d => val_main_v19 (F := Ideal) x0 x1 x2 x3 x4 x5 x6 (ix3 b t d)) = (arrays x0 x1 x2 x3 x4 x5 x6 x7 x8 x9 x10 x11 x12 x13 x14 x15).tok b t := by
  funext d
  rw [r19]
  simp only [r2]
  rfl

theorem r40 (b : Fin 16) (t : Fin 4096) (d : Fin 1024) : val_main_v40 (F := Ideal) x0 x1 x2 x3 x4 x5 x6 x7 x8 x10 (ix3 b t d)
    = modn (fun d => val_main_v19 (F := Ideal) x0 x1 x2 x3 x4 x5 x6 (ix3 b t d)) (fun d => x10 (ix1 d)) (fun d => x8 (ix2 b d)) (fun d => x7 (ix2 b d)) d := by
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_cst_2 val_main_cst_3 val_main_cst_4 val_main_cst_5 modn rs
  generalize val_main_v19 (F := Ideal) x0 x1 x2 x3 x4 x5 x6 = y
  pointwise
  rw [mul_assoc (y _ * _)]

theorem r41 (b : Fin 16) (t : Fin 4096) (n : Fin 2048) : val_main_v41 (F := Ideal) x0 x1 x2 x3 x4 x5 x6 x7 x8 x10 x12 (ix3 b t n)
    = ∑ k : Fin 1024, (arrays x0 x1 x2 x3 x4 x5 x6 x7 x8 x9 x10 x11 x12 x13 x14 x15).modRow b t k * x12 (ix2 k n) := by
  have e : ∀ k : Fin 1024, val_main_v40 (F := Ideal) x0 x1 x2 x3 x4 x5 x6 x7 x8 x10 (ix3 b t k) = (arrays x0 x1 x2 x3 x4 x5 x6 x7 x8 x9 x10 x11 x12 x13 x14 x15).modRow b t k := fun k => by
    rw [r40, tok_eq x0 x1 x2 x3 x4 x5 x6 x7 x8 x9 x10 x11 x12 x13 x14 x15]
    rfl
  simp only [← e]
  unfold val_main_v41
  generalize val_main_v40 (F := Ideal) x0 x1 x2 x3 x4 x5 x6 x7 x8 x10 = y
  pointwise

theorem r73 (b : Fin 16) (t : Fin 4096) (q : Fin 4) (c : Fin 256) : val_main_v73 (F := Ideal) x0 x1 x2 x3 x4 x5 x6 x7 x8 x10 x12 (ix4 b t q c)
    = (arrays x0 x1 x2 x3 x4 x5 x6 x7 x8 x9 x10 x11 x12 x13 x14 x15).u b t (Arrays.col q c) := by
  unfold Arrays.u dot
  refine Eq.trans ?_ (r41 x0 x1 x2 x3 x4 x5 x6 x7 x8 x9 x10 x11 x12 x13 x14 x15 b t ⟨(Arrays.col q c).val, by omega⟩)
  unfold val_main_v73 val_main_v42
  generalize val_main_v41 (F := Ideal) x0 x1 x2 x3 x4 x5 x6 x7 x8 x10 x12 = y
  pointwise
  exact congrArg (fun e => y (ix3 b t e)) (Fin.ext (by show q.val * 256 + c.val = 256 * q.val + c.val; omega))

theorem r43 (b : Fin 16) (t : Fin 4096) (n : Fin 1024) : val_main_v43 (F := Ideal) x0 x1 x2 x3 x4 x5 x6 x7 x8 x10 x12 (ix3 b t n)
    = (arrays x0 x1 x2 x3 x4 x5 x6 x7 x8 x9 x10 x11 x12 x13 x14 x15).z b t n := by
  unfold Arrays.z dot
  refine Eq.trans ?_ (r41 x0 x1 x2 x3 x4 x5 x6 x7 x8 x9 x10 x11 x12 x13 x14 x15 b t ⟨1024 + n.val, by omega⟩)
  unfold val_main_v43
  generalize val_main_v41 (F := Ideal) x0 x1 x2 x3 x4 x5 x6 x7 x8 x10 x12 = y
  pointwise

theorem r46 (q : Fin 4) : val_main_v46 (F := Ideal) (ix1 q) = BitVec.ofNat 32 (half q) := by
  refine Eq.trans ?_ (shift_half q)
  pointwise [val_main_v46, val_main_v45, val_main_v44, val_main_c]

theorem r54 (q : Fin 4) (t : Fin 4096) : val_main_v54 (F := Ideal) (ix2 q t)
    = IntOp.maxsi (IntOp.subi (BitVec.ofNat 32 t.val) (BitVec.ofNat 32 (half q))) 0#32 := by
  rw [← r46]
  unfold val_main_v54 val_main_v53 val_main_v52 val_main_v51 val_main_v50 val_main_v49 val_main_v48 val_main_v47 val_main_c_6
  generalize val_main_v46 (F := Ideal) = y
  pointwise

theorem r61 (q : Fin 4) (t : Fin 4096) : val_main_v61 (F := Ideal) (ix2 q t)
    = IntOp.minsi (IntOp.addi (BitVec.ofNat 32 t.val) (BitVec.ofNat 32 (half q))) 4096#32 := by
  rw [← r46]
  unfold val_main_v61 val_main_v60 val_main_v59 val_main_v58 val_main_v57 val_main_v56 val_main_v55 val_main_v47 val_main_c_7
  generalize val_main_v46 (F := Ideal) = y
  pointwise

theorem r72 (q : Fin 4) (t k : Fin 4096) : val_main_v72 (F := Ideal) (ix3 q t k)
    = if t.val ≤ k.val + half q ∧ k.val < t.val + half q then 1#1 else 0#1 := by
  rw [← inside_eq t.val k.val (half q) t.isLt k.isLt (half_le q), ← r54, ← r61]
  unfold val_main_v72 val_main_v71 val_main_v70 val_main_v69 val_main_v68 val_main_v67 val_main_v66 val_main_v65 val_main_v64 val_main_v63 val_main_v62 val_main_v47
  generalize val_main_v54 (F := Ideal) = y
  generalize val_main_v61 (F := Ideal) = z
  pointwise

theorem r74 (q : Fin 4) (t k : Fin 4096) : val_main_v74 (F := Ideal) (ix3 q t k)
    = if t.val ≤ k.val + half q ∧ k.val < t.val + half q then 1 else 0 := by
  unfold val_main_v74
  show (((val_main_v72 (F := Ideal) (ix3 q t k)).toNat : ℝ) : EReal) = _
  rw [r72]
  split <;> simp

theorem r76 (b : Fin 16) (t : Fin 4096) (q : Fin 4) (c : Fin 256) : val_main_v76 (F := Ideal) x0 x1 x2 x3 x4 x5 x6 x7 x8 x10 x12 (ix4 b t q c)
    = (arrays x0 x1 x2 x3 x4 x5 x6 x7 x8 x9 x10 x11 x12 x13 x14 x15).win b t q c := by
  unfold Arrays.win Arrays.uz
  rw [← window_sum (fun k => (arrays x0 x1 x2 x3 x4 x5 x6 x7 x8 x9 x10 x11 x12 x13 x14 x15).u b k (Arrays.col q c)) t.val (half q) (half_le q)]
  refine Eq.trans (b := ∑ k : Fin 4096, val_main_v73 (F := Ideal) x0 x1 x2 x3 x4 x5 x6 x7 x8 x10 x12 (ix4 b k q c) * val_main_v74 (F := Ideal) (ix3 q t k)) ?_
    (Finset.sum_congr rfl fun k _ => ?_)
  · unfold val_main_v76 val_main_v75
    generalize val_main_v73 (F := Ideal) x0 x1 x2 x3 x4 x5 x6 x7 x8 x10 x12 = y
    generalize val_main_v74 (F := Ideal) = z
    pointwise
  · rw [r73, r74]
    split
    · rw [mul_one]
    · rw [mul_zero]

theorem r81 (b : Fin 16) (t : Fin 4096) (q : Fin 4) (c : Fin 256) : val_main_v81 (F := Ideal) (ix4 b t q c)
    = cnt (BitVec.ofNat 32 (half q)) (BitVec.ofNat 32 t.val) := by
  unfold cnt
  rw [← r54, ← r61]
  unfold val_main_v81 val_main_v80 val_main_v79 val_main_v78 val_main_v77
  generalize val_main_v54 (F := Ideal) = y
  generalize val_main_v61 (F := Ideal) = z
  pointwise
  try rfl

theorem r83 (b : Fin 16) (t : Fin 4096) (q : Fin 4) (c : Fin 256) : val_main_v83 (F := Ideal) x0 x1 x2 x3 x4 x5 x6 x7 x8 x10 x12 (ix4 b t q c)
    = (arrays x0 x1 x2 x3 x4 x5 x6 x7 x8 x9 x10 x11 x12 x13 x14 x15).win b t q c * Ideal.div 1 (cnt (BitVec.ofNat 32 (half q)) (BitVec.ofNat 32 t.val)) - (arrays x0 x1 x2 x3 x4 x5 x6 x7 x8 x9 x10 x11 x12 x13 x14 x15).u b t (Arrays.col q c) := by
  rw [← div_eq _ _ (cnt_ne t.val (half q) t.isLt (half_pos q) (half_le q)), ← r73, ← r76, ← r81 b t q c]
  unfold val_main_v83 val_main_v82
  generalize val_main_v73 (F := Ideal) x0 x1 x2 x3 x4 x5 x6 x7 x8 x10 x12 = y
  generalize val_main_v76 (F := Ideal) x0 x1 x2 x3 x4 x5 x6 x7 x8 x10 x12 = z
  generalize val_main_v81 (F := Ideal) = w
  pointwise

theorem r86 (b : Fin 16) (t : Fin 4096) (q : Fin 4) (k : Fin 256) : val_main_v86 (F := Ideal) x0 x1 x2 x3 x4 x5 x6 x7 x8 x10 x12 x13 (ix3 b t (Arrays.col q k))
    = ∑ c : Fin 256, val_main_v83 (F := Ideal) x0 x1 x2 x3 x4 x5 x6 x7 x8 x10 x12 (ix4 b t q c) * x13 (ix3 q c k) := by
  unfold val_main_v86 val_main_v85 val_main_v84
  generalize val_main_v83 (F := Ideal) x0 x1 x2 x3 x4 x5 x6 x7 x8 x10 x12 = y
  pointwise
  refine Finset.sum_congr rfl fun c _ => ?_
  rw [mul_comm]
  have e1 : (⟨(256 * q.val + k.val) / 256, by omega⟩ : Fin 4) = q := Fin.ext (by show (256 * q.val + k.val) / 256 = q.val; omega)
  have e2 : (⟨(256 * q.val + k.val) % 256, by omega⟩ : Fin 256) = k := Fin.ext (by show (256 * q.val + k.val) % 256 = k.val; omega)
  rw [e1, e2]

theorem r95 (b : Fin 16) (t : Fin 4096) (q : Fin 4) (k : Fin 256) : val_main_v95 (F := Ideal) x0 x1 x2 x3 x4 x5 x6 x7 x8 x10 x12 x13 x14 (ix3 b t (Arrays.col q k))
    = (arrays x0 x1 x2 x3 x4 x5 x6 x7 x8 x9 x10 x11 x12 x13 x14 x15).pool b t q k := by
  unfold Arrays.pool grp
  simp only [← silu_eq, ← r43, ← r83]
  refine Eq.trans ?_ (congrArg (fun e => e * x14 (ix1 (Arrays.col q k)) * _) (r86 x0 x1 x2 x3 x4 x5 x6 x7 x8 x10 x12 x13 b t q k))
  unfold val_main_v95 val_main_v94 val_main_v93 val_main_v92 val_main_v91 val_main_v90 val_main_v89 val_main_v88 val_main_v87 val_main_cst_8
  generalize val_main_v86 (F := Ideal) x0 x1 x2 x3 x4 x5 x6 x7 x8 x10 x12 x13 = y
  generalize val_main_v43 (F := Ideal) x0 x1 x2 x3 x4 x5 x6 x7 x8 x10 x12 = z
  generalize Arrays.col q k = n
  pointwise

theorem r96 (b : Fin 16) (t : Fin 4096) (d : Fin 1024) : val_main_v96 (F := Ideal) x0 x1 x2 x3 x4 x5 x6 x7 x8 x10 x12 x13 x14 x15 (ix3 b t d)
    = (arrays x0 x1 x2 x3 x4 x5 x6 x7 x8 x9 x10 x11 x12 x13 x14 x15).proj b t d := by
  unfold Arrays.proj
  simp only [← r95]
  refine Eq.trans ?_ (sum_groups fun k => val_main_v95 (F := Ideal) x0 x1 x2 x3 x4 x5 x6 x7 x8 x10 x12 x13 x14 (ix3 b t k) * x15 (ix2 k d))
  unfold val_main_v96
  generalize val_main_v95 (F := Ideal) x0 x1 x2 x3 x4 x5 x6 x7 x8 x10 x12 x13 x14 = y
  pointwise

theorem r113 (b : Fin 16) (t : Fin 4096) (d : Fin 1024) : val_main_v113 (F := Ideal) x0 x1 x2 x3 x4 x5 x6 x7 x8 x9 x10 x11 x12 x13 x14 x15 (ix3 b t d)
    = (arrays x0 x1 x2 x3 x4 x5 x6 x7 x8 x9 x10 x11 x12 x13 x14 x15).result b t d := by
  refine Eq.trans (b := res (fun d => val_main_v19 (F := Ideal) x0 x1 x2 x3 x4 x5 x6 (ix3 b t d)) (fun d => val_main_v96 (F := Ideal) x0 x1 x2 x3 x4 x5 x6 x7 x8 x10 x12 x13 x14 x15 (ix3 b t d)) (fun d => x9 (ix2 b d)) (fun d => x11 (ix1 d)) d) ?_ ?_
  · unfold val_main_v113 val_main_v112 val_main_v111 val_main_v110 val_main_v109 val_main_v108 val_main_v107 val_main_v106 val_main_v105 val_main_v104 val_main_v103 val_main_v102 val_main_v101 val_main_v100 val_main_v99 val_main_v98 val_main_v97 val_main_cst_9 val_main_cst_10 val_main_cst_11 res rs
    generalize val_main_v96 (F := Ideal) x0 x1 x2 x3 x4 x5 x6 x7 x8 x10 x12 x13 x14 x15 = y
    generalize val_main_v19 (F := Ideal) x0 x1 x2 x3 x4 x5 x6 = z
    pointwise
    rw [mul_left_comm]
  · rw [tok_eq x0 x1 x2 x3 x4 x5 x6 x7 x8 x9 x10 x11 x12 x13 x14 x15]
    simp only [r96 x0 x1 x2 x3 x4 x5 x6 x7 x8 x9 x10 x11 x12 x13 x14 x15]
    rfl

end Pool
-- ==== Proof.Load.lean ====
module
public import Idealize.ShloMosaic.Lib.Pipeline.ValueKit
@[expose] public section
noncomputable section

/-! Loads of a part of an array, at an index. -/

namespace Pool
open Idealize.ShloMosaic

/-- A load of a part of an array of two axes, at an index. -/
theorem ld2 {A B a b : ℕ} {e : EltTy} (X : Vec Ideal ⟨2, ![A, B]⟩ e) (o p : ℕ) (inb) (i : Fin a) (j : Fin b) (i' : Fin A) (j' : Fin B)
    (hi : i'.val = o + i.val) (hj : j'.val = p + j.val) :
    View.ld X (Rect.unit (s := ⟨2, ![A, B]⟩) ![o, p] ![a, b] inb) (ix2 i j) = X (ix2 i' j') :=
  View.ld_unit_apply_of X _ _ _ _ _ fun a => match a with
    | ⟨0, _⟩ => hi
    | ⟨1, _⟩ => hj

/-- A load of a part of an array of three axes, at an index. -/
theorem ld3 {A B C a b d : ℕ} {e : EltTy} (X : Vec Ideal ⟨3, ![A, B, C]⟩ e) (o p q : ℕ) (inb) (i : Fin a) (j : Fin b) (k : Fin d)
    (i' : Fin A) (j' : Fin B) (k' : Fin C) (hi : i'.val = o + i.val) (hj : j'.val = p + j.val) (hk : k'.val = q + k.val) :
    View.ld X (Rect.unit (s := ⟨3, ![A, B, C]⟩) ![o, p, q] ![a, b, d] inb) (ix3 i j k) = X (ix3 i' j' k') :=
  View.ld_unit_apply_of X _ _ _ _ _ fun a => match a with
    | ⟨0, _⟩ => hi
    | ⟨1, _⟩ => hj
    | ⟨2, _⟩ => hk

end Pool
-- ==== Proof.PoolBody.lean ====
module
public import proofs.«01_k».proof.Proof.PoolBlocks
public import proofs.«01_k».proof.Proof.PoolRow
public import proofs.«01_k».proof.Proof.PoolRef
public import proofs.«01_k».proof.Proof.Load
@[expose] public section
set_option maxRecDepth 16384
noncomputable section

/-! The rows of the pooling call's body at a grid point, up to the projections it keeps. -/

namespace Pool
open Cert.Kernel2Ideal Cert.Kernel2Ideal.Gen Idealize.ShloMosaic Idealize.ShloMosaic.TcCoe
open Cert.Kernel2Ideal.Facts

/-- The last store from row zero, read at one of its rows. -/
theorem canon_low {A B a : ℕ} {e : EltTy} (inb) (w : (⟨2, ![a, B]⟩ : Shape).Idx → Elt Ideal e) (L : List (View.Piece (Elt Ideal) ⟨2, ![A, B]⟩ e))
    (n : Fin A) (d : Fin B) (hn : n.val < a) :
    View.canon ((⟨Rect.unit (s := ⟨2, ![A, B]⟩) ![0, 0] ![a, B] inb, w⟩ : View.Piece (Elt Ideal) ⟨2, ![A, B]⟩ e) :: L) (ix2 n d) = w (ix2 ⟨n.val, hn⟩ d) := by
  refine Eq.trans (congrArg _ ?_) (View.canon_cons_emb (Rect.unit (s := ⟨2, ![A, B]⟩) ![0, 0] ![a, B] inb) w L (ix2 ⟨n.val, hn⟩ d))
  funext k
  refine Fin.ext ((?_ : _ = _).trans (Rect.idx_unit_val (s := ⟨2, ![A, B]⟩) ![0, 0] ![a, B] inb (ix2 ⟨n.val, hn⟩ d) k).symm)
  match k with
  | ⟨0, _⟩ => exact (Nat.zero_add _).symm
  | ⟨1, _⟩ => exact (Nat.zero_add _).symm

variable (m : (ℓ : Loc nD τ sig) → Buf (Elt Ideal) ℓ) (c : Dev nD) (t : Fin cfg0.N)

/-- The call's arrays, at a memory. -/
abbrev Ar : Arrays := arrays (P0 m c) (P1 m c) (P2 m c) (P3 m c) (P4 m c) (P5 m c) (P6 m c) (P7 m c) (P8 m c) (P9 m c) (P10 m c) (P11 m c) (P12 m c) (P13 m c) (P14 m c) (P15 m c)

/-- Row `e` of the extended block is the sequence's row eight above `512 j + e`. -/
abbrev num (e : ℕ) : ℕ := 512 * (t.val % 8) + e

theorem ex_at (e : Fin 528) (d : Fin 1024) (h1 : 8 ≤ num t e.val) (h2 : num t e.val - 8 < 4096) :
    ex (blkAt m c t) (ix2 e d) = (Ar m c).x (bat t) ⟨num t e.val - 8, h2⟩ d := by
  have h1' : 8 ≤ 512 * (t.val % 8) + e.val := h1
  have h2' : 512 * (t.val % 8) + e.val - 8 < 4096 := h2
  have he := e.isLt
  refine ext_x _ _ _ e d _ (fun h => ?_) (fun h h' => ?_) fun h => ?_
  · refine (ld3 _ 0 0 0 _ 0 _ d 0 ⟨e.val, h⟩ d rfl (Nat.zero_add _).symm (Nat.zero_add _).symm).trans ((blk0 m c t _ _).trans (congrArg (fun n => P0 m c (ix3 (bat t) n d)) (Fin.ext ?_)))
    show 8 * (64 * (t.val % 8) - 1) + e.val = 512 * (t.val % 8) + e.val - 8
    omega
  · refine (ld3 _ 0 0 0 _ 0 _ d 0 ⟨e.val - 8, h⟩ d rfl (Nat.zero_add _).symm (Nat.zero_add _).symm).trans ((blk1 m c t _ _).trans (congrArg (fun n => P0 m c (ix3 (bat t) n d)) (Fin.ext ?_)))
    show 512 * (t.val % 8) + (e.val - 8) = 512 * (t.val % 8) + e.val - 8
    omega
  · refine (ld3 _ 0 0 0 _ 0 _ d 0 ⟨e.val - 8 - 512, by omega⟩ d rfl (Nat.zero_add _).symm (Nat.zero_add _).symm).trans ((blk2 m c t _ _).trans (congrArg (fun n => P0 m c (ix3 (bat t) n d)) (Fin.ext ?_)))
    show 8 * min (64 * (t.val % 8) + 64) 511 + (e.val - 8 - 512) = 512 * (t.val % 8) + e.val - 8
    omega

theorem ea_at (e : Fin 528) (d : Fin 512) (h1 : 8 ≤ num t e.val) (h2 : num t e.val - 8 < 4096) :
    ea (blkAt m c t) (ix2 e d) = (Ar m c).oa (bat t) ⟨num t e.val - 8, h2⟩ d := by
  have h1' : 8 ≤ 512 * (t.val % 8) + e.val := h1
  have h2' : 512 * (t.val % 8) + e.val - 8 < 4096 := h2
  have he := e.isLt
  refine ext_a _ _ _ e d _ (fun h => ?_) (fun h h' => ?_) fun h => ?_
  · refine (ld3 _ 0 0 0 _ 0 _ d 0 ⟨8 + e.val, by omega⟩ d rfl (Nat.zero_add _).symm (Nat.zero_add _).symm).trans ((blk3 m c t _ _).trans (congrArg (fun n => P1 m c (ix3 (bat t) n d)) (Fin.ext ?_)))
    show 16 * (32 * (t.val % 8) - 1) + (8 + e.val) = 512 * (t.val % 8) + e.val - 8
    omega
  · refine (ld3 _ 0 0 0 _ 0 _ d 0 ⟨e.val - 8, h⟩ d rfl (Nat.zero_add _).symm (Nat.zero_add _).symm).trans ((blk4 m c t _ _).trans (congrArg (fun n => P1 m c (ix3 (bat t) n d)) (Fin.ext ?_)))
    show 512 * (t.val % 8) + (e.val - 8) = 512 * (t.val % 8) + e.val - 8
    omega
  · refine (ld3 _ 0 0 0 _ 0 _ d 0 ⟨e.val - 8 - 512, by omega⟩ d rfl (Nat.zero_add _).symm (Nat.zero_add _).symm).trans ((blk5 m c t _ _).trans (congrArg (fun n => P1 m c (ix3 (bat t) n d)) (Fin.ext ?_)))
    show 16 * min (32 * (t.val % 8) + 32) 255 + (e.val - 8 - 512) = 512 * (t.val % 8) + e.val - 8
    omega

theorem eb_at (e : Fin 528) (d : Fin 512) (h1 : 8 ≤ num t e.val) (h2 : num t e.val - 8 < 4096) :
    eb (blkAt m c t) (ix2 e d) = (Ar m c).ob (bat t) ⟨num t e.val - 8, h2⟩ d := by
  have h1' : 8 ≤ 512 * (t.val % 8) + e.val := h1
  have h2' : 512 * (t.val % 8) + e.val - 8 < 4096 := h2
  have he := e.isLt
  refine ext_b _ _ _ e d _ (fun h => ?_) (fun h h' => ?_) fun h => ?_
  · refine (ld3 _ 0 0 0 _ 0 _ d 0 ⟨8 + e.val, by omega⟩ d rfl (Nat.zero_add _).symm (Nat.zero_add _).symm).trans ((blk6 m c t _ _).trans (congrArg (fun n => P2 m c (ix3 (bat t) n d)) (Fin.ext ?_)))
    show 16 * (32 * (t.val % 8) - 1) + (8 + e.val) = 512 * (t.val % 8) + e.val - 8
    omega
  · refine (ld3 _ 0 0 0 _ 0 _ d 0 ⟨e.val - 8, h⟩ d rfl (Nat.zero_add _).symm (Nat.zero_add _).symm).trans ((blk7 m c t _ _).trans (congrArg (fun n => P2 m c (ix3 (bat t) n d)) (Fin.ext ?_)))
    show 512 * (t.val % 8) + (e.val - 8) = 512 * (t.val % 8) + e.val - 8
    omega
  · refine (ld3 _ 0 0 0 _ 0 _ d 0 ⟨e.val - 8 - 512, by omega⟩ d rfl (Nat.zero_add _).symm (Nat.zero_add _).symm).trans ((blk8 m c t _ _).trans (congrArg (fun n => P2 m c (ix3 (bat t) n d)) (Fin.ext ?_)))
    show 16 * min (32 * (t.val % 8) + 32) 255 + (e.val - 8 - 512) = 512 * (t.val % 8) + e.val - 8
    omega

theorem eg_at (e : Fin 528) (d : Fin 1024) (h1 : 8 ≤ num t e.val) (h2 : num t e.val - 8 < 4096) :
    eg (blkAt m c t) (ix2 e d) = (Ar m c).g (bat t) ⟨num t e.val - 8, h2⟩ d := by
  have h1' : 8 ≤ 512 * (t.val % 8) + e.val := h1
  have h2' : 512 * (t.val % 8) + e.val - 8 < 4096 := h2
  have he := e.isLt
  refine ext_g _ _ _ e d _ (fun h => ?_) (fun h h' => ?_) fun h => ?_
  · refine (ld3 _ 0 0 0 _ 0 _ d 0 ⟨8 + e.val, by omega⟩ d rfl (Nat.zero_add _).symm (Nat.zero_add _).symm).trans ((blk9 m c t _ _).trans (congrArg (fun n => P3 m c (ix3 (bat t) n d)) (Fin.ext ?_)))
    show 16 * (32 * (t.val % 8) - 1) + (8 + e.val) = 512 * (t.val % 8) + e.val - 8
    omega
  · refine (ld3 _ 0 0 0 _ 0 _ d 0 ⟨e.val - 8, h⟩ d rfl (Nat.zero_add _).symm (Nat.zero_add _).symm).trans ((blk10 m c t _ _).trans (congrArg (fun n => P3 m c (ix3 (bat t) n d)) (Fin.ext ?_)))
    show 512 * (t.val % 8) + (e.val - 8) = 512 * (t.val % 8) + e.val - 8
    omega
  · refine (ld3 _ 0 0 0 _ 0 _ d 0 ⟨e.val - 8 - 512, by omega⟩ d rfl (Nat.zero_add _).symm (Nat.zero_add _).symm).trans ((blk11 m c t _ _).trans (congrArg (fun n => P3 m c (ix3 (bat t) n d)) (Fin.ext ?_)))
    show 16 * min (32 * (t.val % 8) + 32) 255 + (e.val - 8 - 512) = 512 * (t.val % 8) + e.val - 8
    omega

theorem g0_at (d : Fin 1024) : g0 (blkAt m c t) (ix3 0 0 d) = (Ar m c).gate0 (bat t) d :=
  (ld3 _ 0 0 0 _ 0 0 d 0 0 d rfl rfl (Nat.zero_add _).symm).trans (blk12 m c t d)

theorem sh_at (d : Fin 1024) : sh (blkAt m c t) (ix3 0 0 d) = (Ar m c).shift (bat t) d :=
  (ld3 _ 0 0 0 _ 0 0 d 0 0 d rfl rfl (Nat.zero_add _).symm).trans (blk15 m c t d)

theorem sl_at (d : Fin 1024) : sl (blkAt m c t) (ix3 0 0 d) = (Ar m c).scl (bat t) d :=
  (ld3 _ 0 0 0 _ 0 0 d 0 0 d rfl rfl (Nat.zero_add _).symm).trans (blk16 m c t d)

theorem gt_at (d : Fin 1024) : gt (blkAt m c t) (ix3 0 0 d) = (Ar m c).gate (bat t) d :=
  (ld3 _ 0 0 0 _ 0 0 d 0 0 d rfl rfl (Nat.zero_add _).symm).trans (blk17 m c t d)

theorem p0_at (d : Fin 1024) : p0 (blkAt m c t) (ix2 0 d) = (Ar m c).post0 d :=
  (ld2 _ 0 0 _ 0 d 0 d rfl (Nat.zero_add _).symm).trans (blk13 m c t d)

theorem pr_at (d : Fin 1024) : pr (blkAt m c t) (ix2 0 d) = (Ar m c).pre d :=
  (ld2 _ 0 0 _ 0 d 0 d rfl (Nat.zero_add _).symm).trans (blk18 m c t d)

theorem po_at (d : Fin 1024) : po (blkAt m c t) (ix2 0 d) = (Ar m c).post d :=
  (ld2 _ 0 0 _ 0 d 0 d rfl (Nat.zero_add _).symm).trans (blk19 m c t d)

theorem wa_at (k : Fin 512) (d : Fin 1024) : wa (blkAt m c t) (ix2 k d) = (Ar m c).wOut0 ⟨k.val, by omega⟩ d :=
  (ld2 (iblk m c 14 t : FVec Ideal S1024x1024 .bf16) 0 0 _ k d ⟨k.val, by omega⟩ d (Nat.zero_add k.val).symm (Nat.zero_add d.val).symm).trans (blk14 m c t _ d)

theorem wb_at (k : Fin 512) (d : Fin 1024) : wb (blkAt m c t) (ix2 k d) = (Ar m c).wOut0 ⟨512 + k.val, by omega⟩ d :=
  (ld2 _ 512 0 _ k d ⟨512 + k.val, by omega⟩ d rfl (Nat.zero_add _).symm).trans (blk14 m c t _ d)

/-- The extended residual rows of the body. -/
abbrev rows : Fin 528 → Fin 1024 → EReal :=
  rowX (ex (blkAt m c t)) (ea (blkAt m c t)) (eb (blkAt m c t)) (eg (blkAt m c t)) (fun d => g0 (blkAt m c t) (ix3 0 0 d))
    (fun d => p0 (blkAt m c t) (ix2 0 d)) (wa (blkAt m c t)) (wb (blkAt m c t))

theorem rows_eq (e : Fin 528) (h1 : 8 ≤ num t e.val) (h2 : num t e.val - 8 < 4096) :
    rows m c t e = (Ar m c).tok (bat t) ⟨num t e.val - 8, h2⟩ := by
  unfold rows rowX Arrays.tok
  simp only [ex_at m c t e _ h1 h2, ea_at m c t e _ h1 h2, eb_at m c t e _ h1 h2, eg_at m c t e _ h1 h2, g0_at, p0_at, wa_at, wb_at]

theorem ya_at (r : Fin 176) (d : Fin 1024) : ya (blkAt m c t) (ix2 r d) = rows m c t ⟨r.val, by omega⟩ d :=
  x1_first _ _ _ _ _ _ _ _ _ _ r d

theorem yb_at (r : Fin 176) (d : Fin 1024) : yb (blkAt m c t) (ix2 r d) = rows m c t ⟨176 + r.val, by omega⟩ d :=
  x1_second _ _ _ _ _ _ _ _ r d

theorem yc_at (r : Fin 176) (d : Fin 1024) : yc (blkAt m c t) (ix2 r d) = rows m c t ⟨352 + r.val, by omega⟩ d :=
  x1_third _ _ _ _ _ _ _ _ r d

/-- The number of the block's own row `r`. -/
abbrev own (r : Fin 512) : Fin 4096 := ⟨512 * (t.val % 8) + r.val, by omega⟩

theorem own_eq (r : Fin 512) (h) : (⟨num t (8 + r.val) - 8, h⟩ : Fin 4096) = own t r :=
  Fin.ext (by show 512 * (t.val % 8) + (8 + r.val) - 8 = 512 * (t.val % 8) + r.val; omega)

theorem own_rows (r : Fin 512) : rows m c t ⟨8 + r.val, by omega⟩ = (Ar m c).tok (bat t) (own t r) := by
  have h1 : 8 ≤ num t (8 + r.val) := by show 8 ≤ 512 * (t.val % 8) + (8 + r.val); omega
  have h2 : num t (8 + r.val) - 8 < 4096 := by show 512 * (t.val % 8) + (8 + r.val) - 8 < 4096; omega
  rw [rows_eq m c t ⟨8 + r.val, by omega⟩ h1 h2, own_eq]

theorem kept_at (r : Fin 512) (d : Fin 1024) : kept (blkAt m c t) (ix2 r d) = (Ar m c).tok (bat t) (own t r) d := by
  rw [← own_rows]
  exact x1_kept _ _ _ _ _ _ _ _ _ _ (rows m c t) (ya_at m c t) (yb_at m c t) (yc_at m c t) r d

theorem hh_at (e : Fin 528) (d : Fin 1024) : hh (blkAt m c t) (ix2 e d)
    = modn (rows m c t e) (Ar m c).pre ((Ar m c).scl (bat t)) ((Ar m c).shift (bat t)) d := by
  refine (h_all _ _ _ _ _ _ (rows m c t) (ya_at m c t) (yb_at m c t) (yc_at m c t) e d).trans ?_
  simp only [pr_at, sl_at, sh_at]

theorem hh_row (e : Fin 528) (h1 : 8 ≤ num t e.val) (h2 : num t e.val - 8 < 4096) :
    (fun k => hh (blkAt m c t) (ix2 e k)) = (Ar m c).modRow (bat t) ⟨num t e.val - 8, h2⟩ := by
  funext k
  rw [hh_at, rows_eq m c t e h1 h2]
  rfl

theorem uu_at (e : Fin 528) (d : Fin 1024) (h1 : 8 ≤ num t e.val) (h2 : num t e.val - 8 < 4096) :
    uu (blkAt m c t) (ix2 e d) = (Ar m c).u (bat t) ⟨num t e.val - 8, h2⟩ d := by
  refine (u_all _ _ _ _ _ _ _ _ e d).trans ?_
  unfold Arrays.u dot
  refine Finset.sum_congr rfl fun k _ => congrArg₂ (· * ·) (congrFun (hh_row m c t e h1 h2) k) ?_
  exact (ld2 (iblk m c 20 t : FVec Ideal S1024x2048 .bf16) 0 0 _ k d k ⟨d.val, by omega⟩ (Nat.zero_add k.val).symm (Nat.zero_add d.val).symm).trans (blk20 m c t _ _)

theorem zz_at (r : Fin 512) (d : Fin 1024) : zz (blkAt m c t) (ix2 r d) = silu ((Ar m c).z (bat t) (own t r) d) := by
  have h1 : 8 ≤ num t (8 + r.val) := by show 8 ≤ 512 * (t.val % 8) + (8 + r.val); omega
  have h2 : num t (8 + r.val) - 8 < 4096 := by show 512 * (t.val % 8) + (8 + r.val) - 8 < 4096; omega
  refine (gates _ _ r d).trans (congrArg silu ?_)
  unfold Arrays.z dot
  refine Finset.sum_congr rfl fun k _ => congrArg₂ (· * ·) ?_ ?_
  · rw [← own_eq t r h2]
    exact congrFun (hh_row m c t ⟨8 + r.val, by omega⟩ h1 h2) k
  · exact (ld2 _ 0 1024 _ k d k ⟨1024 + d.val, by omega⟩ (Nat.zero_add _).symm rfl).trans (blk20 m c t _ _)

/-- The row number the body computes. -/
theorem word_eq (e : ℕ) : IntOp.addi (Scalar.subi (Scalar.muli (blkAt m c t).a 512#32) 8#32) (BitVec.ofNat 32 e) = BitVec.ofNat 32 (num t e) - 8#32 := by
  show BitVec.ofNat 32 (grid0.coords t 1).val * 512#32 - 8#32 + BitVec.ofNat 32 e = _
  rw [coord]
  apply BitVec.eq_of_toNat_eq
  simp only [BitVec.toNat_add, BitVec.toNat_sub, BitVec.toNat_mul, BitVec.toNat_ofNat, num]
  omega

theorem rowNo_at (r : Fin 512) : rowNo (blkAt m c t).a r = BitVec.ofNat 32 (own t r).val := by
  rw [rowNo_eq]
  show BitVec.ofNat 32 (grid0.coords t 1).val * 512#32 + BitVec.ofNat 32 r.val = _
  rw [coord]
  apply BitVec.eq_of_toNat_eq
  simp only [BitVec.toNat_add, BitVec.toNat_mul, BitVec.toNat_ofNat, own]
  omega

/-- The rows kept for the windows: the projections inside the sequence, zero outside. -/
theorem U_at (n : Fin 544) (d : Fin 1024) (hn : n.val < 528) : U (blkAt m c t) (ix2 n d) = (Ar m c).uz (bat t) d (num t n.val) := by
  unfold U
  rw [View.canon_cons_of_not_mem _ _ (by
    intro hm
    have := ((Rect.mem_set_unit (inb := inb_S544x1024_S16x1024_528_0)).1 hm (0 : Fin 2)).1
    change 528 ≤ n.val at this
    omega)]
  refine (canon_low _ _ _ n d hn).trans ((u_stored _ _ _ ⟨n.val, hn⟩ d).trans ?_)
  have hs : num t n.val < 2 ^ 20 := by show 512 * (t.val % 8) + n.val < 2 ^ 20; omega
  rw [word_eq, inRow_eq _ hs]
  unfold Arrays.uz
  by_cases h : 8 ≤ num t n.val ∧ num t n.val - 8 < 4096
  · rw [if_pos h, dif_pos h]
    exact uu_at m c t ⟨n.val, hn⟩ d h.1 h.2
  · rw [if_neg h, dif_neg h]
    show Ideal.ofBits .f32 0x00000000#32 = 0
    pointwise

end Pool
-- ==== Proof.PoolGroups.lean ====
module
public import proofs.«01_k».proof.Proof.PoolBody
@[expose] public section
set_option maxRecDepth 16384
noncomputable section

/-! The four groups of the pooling call's body at a grid point, and the block it leaves: the call's mathematics. -/

namespace Pool
open Cert.Kernel2Ideal Cert.Kernel2Ideal.Gen Idealize.ShloMosaic Idealize.ShloMosaic.TcCoe
open Cert.Kernel2Ideal.Facts

variable (m : (ℓ : Loc nD τ sig) → Buf (Elt Ideal) ℓ) (c : Dev nD) (t : Fin cfg0.N)

/-- The kept value of group `q`'s column `k` at row `n` of the extended block. -/
abbrev kv (q : Fin 4) (k : Fin 256) (n : ℕ) : EReal := (Ar m c).uz (bat t) (Arrays.col q k) (num t n)

/-- A window's total, over the extended block's rows. -/
theorem win_eq (q : Fin 4) (k : Fin 256) (r : Fin 512) (h n : ℕ) (hh : half q = h) (hn : n + h = r.val + 8) :
    (Ar m c).win (bat t) (own t r) q k = ∑ i : Fin (2 * h), kv m c t q k (n + i.val) := by
  subst hh
  unfold Arrays.win
  refine Finset.sum_congr rfl fun i _ => congrArg ((Ar m c).uz (bat t) (Arrays.col q k)) ?_
  show 512 * (t.val % 8) + r.val + 8 - half q + i.val = 512 * (t.val % 8) + (n + i.val)
  omega

/-- Sums of two, four, eight and sixteen consecutive values, as the body adds them. -/
theorem sum2 (f : ℕ → EReal) (n : ℕ) : f n + f (n + 1) = ∑ i : Fin (2 * 1), f (n + i.val) := by
  rw [Fin.sum_univ_eq_sum_range (fun i => f (n + i)) (2 * 1)]
  simp [Finset.sum_range_succ, add_assoc]

theorem sum4 (f : ℕ → EReal) (n : ℕ) : (f n + f (n + 1)) + (f (n + 2) + f (n + 2 + 1)) = ∑ i : Fin (2 * 2), f (n + i.val) := by
  rw [Fin.sum_univ_eq_sum_range (fun i => f (n + i)) (2 * 2)]
  simp [Finset.sum_range_succ, add_assoc]

theorem sum8 (f : ℕ → EReal) (n : ℕ) : (∑ i : Fin (2 * 2), f (n + i.val)) + ∑ i : Fin (2 * 2), f (n + 4 + i.val) = ∑ i : Fin (2 * 4), f (n + i.val) := by
  rw [Fin.sum_univ_eq_sum_range (fun i => f (n + i)) (2 * 2), Fin.sum_univ_eq_sum_range (fun i => f (n + 4 + i)) (2 * 2), Fin.sum_univ_eq_sum_range (fun i => f (n + i)) (2 * 4)]
  simp [Finset.sum_range_succ, add_assoc]

theorem sum16 (f : ℕ → EReal) (n : ℕ) : (∑ i : Fin (2 * 4), f (n + i.val)) + ∑ i : Fin (2 * 4), f (n + 8 + i.val) = ∑ i : Fin (2 * 8), f (n + i.val) := by
  rw [Fin.sum_univ_eq_sum_range (fun i => f (n + i)) (2 * 4), Fin.sum_univ_eq_sum_range (fun i => f (n + 8 + i)) (2 * 4), Fin.sum_univ_eq_sum_range (fun i => f (n + i)) (2 * 8)]
  simp [Finset.sum_range_succ, add_assoc]

/-- A load of the kept rows in one group's columns. -/
theorem ldU (q : Fin 4) (o p a : ℕ) (inb) (i : Fin a) (k : Fin 256) (hp : p = 256 * q.val) (hi : o + i.val < 528) :
    View.ld (U (blkAt m c t)) (Rect.unit (s := S544x1024) ![o, p] ![a, 256] inb) (ix2 i k) = kv m c t q k (o + i.val) := by
  refine (ld2 (U (blkAt m c t)) o p inb i k ⟨o + i.val, by omega⟩ (Arrays.col q k) rfl (by show 256 * q.val + k.val = p + k.val; omega)).trans ?_
  exact U_at m c t _ _ hi

theorem a1_at (n : Fin 544) (k : Fin 256) (hn : n.val < 527) : a1 (blkAt m c t) (ix2 n k)
    = kv m c t 1 k n.val + kv m c t 1 k (n.val + 1) := by
  unfold a1
  refine (canon_low _ _ _ n k (by omega)).trans (((twice_536 _ _ ⟨n.val, by omega⟩ k).1).trans (congrArg₂ (· + ·) ?_ ?_))
  · exact (ldU m c t 1 0 256 536 _ ⟨n.val, by omega⟩ k rfl (by show 0 + n.val < 528; omega)).trans (congrArg (kv m c t 1 k) (Nat.zero_add _))
  · exact (ldU m c t 1 1 256 536 _ ⟨n.val, by omega⟩ k rfl (by show 1 + n.val < 528; omega)).trans (congrArg (kv m c t 1 k) (Nat.add_comm _ _))

theorem a2_at (n : Fin 544) (k : Fin 256) (hn : n.val < 527) : a2 (blkAt m c t) (ix2 n k)
    = kv m c t 2 k n.val + kv m c t 2 k (n.val + 1) := by
  unfold a2
  refine (canon_low _ _ _ n k (by omega)).trans (((twice_536 _ _ ⟨n.val, by omega⟩ k).2.1).trans (congrArg₂ (· + ·) ?_ ?_))
  · exact (ldU m c t 2 0 512 536 _ ⟨n.val, by omega⟩ k rfl (by show 0 + n.val < 528; omega)).trans (congrArg (kv m c t 2 k) (Nat.zero_add _))
  · exact (ldU m c t 2 1 512 536 _ ⟨n.val, by omega⟩ k rfl (by show 1 + n.val < 528; omega)).trans (congrArg (kv m c t 2 k) (Nat.add_comm _ _))

theorem a3_at (n : Fin 544) (k : Fin 256) (hn : n.val < 527) : a3 (blkAt m c t) (ix2 n k)
    = kv m c t 3 k n.val + kv m c t 3 k (n.val + 1) := by
  unfold a3
  refine (canon_low _ _ _ n k (by omega)).trans (((twice_536 _ _ ⟨n.val, by omega⟩ k).2.2).trans (congrArg₂ (· + ·) ?_ ?_))
  · exact (ldU m c t 3 0 768 536 _ ⟨n.val, by omega⟩ k rfl (by show 0 + n.val < 528; omega)).trans (congrArg (kv m c t 3 k) (Nat.zero_add _))
  · exact (ldU m c t 3 1 768 536 _ ⟨n.val, by omega⟩ k rfl (by show 1 + n.val < 528; omega)).trans (congrArg (kv m c t 3 k) (Nat.add_comm _ _))

theorem b2_at (n : Fin 544) (k : Fin 256) (hn : n.val < 525) : b2 (blkAt m c t) (ix2 n k)
    = ∑ i : Fin (2 * 2), kv m c t 2 k (n.val + i.val) := by
  rw [← sum4 (kv m c t 2 k) n.val]
  unfold b2
  refine (canon_low _ _ _ n k (by omega)).trans (((twice_528 _ _ ⟨n.val, by omega⟩ k).1).trans (congrArg₂ (· + ·) ?_ ?_))
  · exact (ld2 (a2 (blkAt m c t)) 0 0 _ (⟨n.val, by omega⟩ : Fin 528) k n k (Nat.zero_add n.val).symm (Nat.zero_add k.val).symm).trans (a2_at m c t _ _ (by omega))
  · exact (ld2 (a2 (blkAt m c t)) 2 0 _ (⟨n.val, by omega⟩ : Fin 528) k ⟨n.val + 2, by omega⟩ k (Nat.add_comm n.val 2) (Nat.zero_add k.val).symm).trans (a2_at m c t _ _ (by show n.val + 2 < 527; omega))

theorem b3_at (n : Fin 544) (k : Fin 256) (hn : n.val < 525) : b3 (blkAt m c t) (ix2 n k)
    = ∑ i : Fin (2 * 2), kv m c t 3 k (n.val + i.val) := by
  rw [← sum4 (kv m c t 3 k) n.val]
  unfold b3
  refine (canon_low _ _ _ n k (by omega)).trans (((twice_528 _ _ ⟨n.val, by omega⟩ k).2).trans (congrArg₂ (· + ·) ?_ ?_))
  · exact (ld2 (a3 (blkAt m c t)) 0 0 _ (⟨n.val, by omega⟩ : Fin 528) k n k (Nat.zero_add n.val).symm (Nat.zero_add k.val).symm).trans (a3_at m c t _ _ (by omega))
  · exact (ld2 (a3 (blkAt m c t)) 2 0 _ (⟨n.val, by omega⟩ : Fin 528) k ⟨n.val + 2, by omega⟩ k (Nat.add_comm n.val 2) (Nat.zero_add k.val).symm).trans (a3_at m c t _ _ (by show n.val + 2 < 527; omega))

theorem c3_at (n : Fin 544) (k : Fin 256) (hn : n.val < 520) : c3 (blkAt m c t) (ix2 n k)
    = ∑ i : Fin (2 * 4), kv m c t 3 k (n.val + i.val) := by
  rw [← sum8 (kv m c t 3 k) n.val]
  unfold c3
  refine (canon_low _ _ _ n k (by omega)).trans ((twice_520 _ _ ⟨n.val, by omega⟩ k).trans (congrArg₂ (· + ·) ?_ ?_))
  · exact (ld2 (b3 (blkAt m c t)) 0 0 _ (⟨n.val, by omega⟩ : Fin 520) k n k (Nat.zero_add n.val).symm (Nat.zero_add k.val).symm).trans (b3_at m c t _ _ (by omega))
  · exact (ld2 (b3 (blkAt m c t)) 4 0 _ (⟨n.val, by omega⟩ : Fin 520) k ⟨n.val + 4, by omega⟩ k (Nat.add_comm n.val 4) (Nat.zero_add k.val).symm).trans (b3_at m c t _ _ (by show n.val + 4 < 525; omega))

theorem win0_at (r : Fin 512) (k : Fin 256) :
    View.ld (U (blkAt m c t)) (Rect.unit (s := S544x1024) ![7, 0] S512x256.size inb_S544x1024_S512x256_7_0) (ix2 r k)
      + View.ld (U (blkAt m c t)) (Rect.unit (s := S544x1024) ![8, 0] S512x256.size inb_S544x1024_S512x256_8_0) (ix2 r k)
      = (Ar m c).win (bat t) (own t r) 0 k := by
  rw [win_eq m c t 0 k r 1 (r.val + 7) rfl (by omega), ← sum2 (kv m c t 0 k)]
  refine congrArg₂ (· + ·) ?_ ?_
  · exact (ldU m c t 0 7 0 512 _ r k rfl (by omega)).trans (congrArg (kv m c t 0 k) (Nat.add_comm _ _))
  · exact (ldU m c t 0 8 0 512 _ r k rfl (by omega)).trans (congrArg (kv m c t 0 k) (by omega))

theorem win1_at (r : Fin 512) (k : Fin 256) :
    View.ld (a1 (blkAt m c t)) (Rect.unit (s := S544x256) ![6, 0] S512x256.size inb_S544x256_S512x256_6_0) (ix2 r k)
      + View.ld (a1 (blkAt m c t)) (Rect.unit (s := S544x256) ![8, 0] S512x256.size inb_S544x256_S512x256_8_0) (ix2 r k)
      = (Ar m c).win (bat t) (own t r) 1 k := by
  rw [win_eq m c t 1 k r 2 (r.val + 6) rfl (by omega), ← sum4 (kv m c t 1 k)]
  refine congrArg₂ (· + ·) ?_ ?_
  · exact (ld2 (a1 (blkAt m c t)) 6 0 _ r k ⟨r.val + 6, by omega⟩ k (Nat.add_comm r.val 6) (Nat.zero_add k.val).symm).trans (a1_at m c t _ _ (by show r.val + 6 < _; omega))
  · exact (ld2 (a1 (blkAt m c t)) 8 0 _ r k ⟨r.val + 8, by omega⟩ k (Nat.add_comm r.val 8) (Nat.zero_add k.val).symm).trans ((a1_at m c t _ _ (by show r.val + 8 < _; omega)))

theorem win2_at (r : Fin 512) (k : Fin 256) :
    View.ld (b2 (blkAt m c t)) (Rect.unit (s := S544x256) ![4, 0] S512x256.size inb_S544x256_S512x256_4_0) (ix2 r k)
      + View.ld (b2 (blkAt m c t)) (Rect.unit (s := S544x256) ![8, 0] S512x256.size inb_S544x256_S512x256_8_0) (ix2 r k)
      = (Ar m c).win (bat t) (own t r) 2 k := by
  rw [win_eq m c t 2 k r 4 (r.val + 4) rfl (by omega), ← sum8 (kv m c t 2 k)]
  refine congrArg₂ (· + ·) ?_ ?_
  · exact (ld2 (b2 (blkAt m c t)) 4 0 _ r k ⟨r.val + 4, by omega⟩ k (Nat.add_comm r.val 4) (Nat.zero_add k.val).symm).trans (b2_at m c t _ _ (by show r.val + 4 < _; omega))
  · exact (ld2 (b2 (blkAt m c t)) 8 0 _ r k ⟨r.val + 8, by omega⟩ k (Nat.add_comm r.val 8) (Nat.zero_add k.val).symm).trans ((b2_at m c t _ _ (by show r.val + 8 < _; omega)))

theorem win3_at (r : Fin 512) (k : Fin 256) :
    View.ld (c3 (blkAt m c t)) (Rect.unit (s := S544x256) ![0, 0] S512x256.size inb_S544x256_S512x256_0_0) (ix2 r k)
      + View.ld (c3 (blkAt m c t)) (Rect.unit (s := S544x256) ![8, 0] S512x256.size inb_S544x256_S512x256_8_0) (ix2 r k)
      = (Ar m c).win (bat t) (own t r) 3 k := by
  rw [win_eq m c t 3 k r 8 (r.val + 0) rfl (by omega), ← sum16 (kv m c t 3 k)]
  refine congrArg₂ (· + ·) ?_ ?_
  · exact (ld2 (c3 (blkAt m c t)) 0 0 _ r k ⟨r.val + 0, by omega⟩ k (Nat.add_comm r.val 0) (Nat.zero_add k.val).symm).trans (c3_at m c t _ _ (by show r.val + 0 < _; omega))
  · exact (ld2 (c3 (blkAt m c t)) 8 0 _ r k ⟨r.val + 8, by omega⟩ k (Nat.add_comm r.val 8) (Nat.zero_add k.val).symm).trans ((c3_at m c t _ _ (by show r.val + 8 < _; omega)))

/-- One group's part of the projected row, its operands the group's. -/
theorem part_eq (q : Fin 4) (r : Fin 512) (d : Fin 1024) (win : Fin 256 → EReal) (n : EReal) (u : Fin 256 → EReal) (w : Fin 256 → Fin 256 → EReal)
    (sc ga wo : Fin 256 → EReal) (h1 : ∀ k, win k = (Ar m c).win (bat t) (own t r) q k)
    (h2 : n = cnt (BitVec.ofNat 32 (half q)) (BitVec.ofNat 32 (own t r).val)) (h3 : ∀ k, u k = kv m c t q k (8 + r.val))
    (h4 : ∀ e k, w e k = (Ar m c).wGrp q e k) (h5 : ∀ k, sc k = (Ar m c).scale (Arrays.col q k)) (h6 : ∀ k, ga k = silu ((Ar m c).z (bat t) (own t r) (Arrays.col q k)))
    (h7 : ∀ k, wo k = (Ar m c).wOut (Arrays.col q k) d) :
    ∑ k, grp win n u w sc ga k * wo k = ∑ k, (Ar m c).pool (bat t) (own t r) q k * (Ar m c).wOut (Arrays.col q k) d := by
  have h8 : ∀ k, kv m c t q k (8 + r.val) = (Ar m c).u (bat t) (own t r) (Arrays.col q k) := fun k => by
    have a1 : 8 ≤ num t (8 + r.val) := by show 8 ≤ 512 * (t.val % 8) + (8 + r.val); omega
    have a2 : num t (8 + r.val) - 8 < 4096 := by show 512 * (t.val % 8) + (8 + r.val) - 8 < 4096; omega
    refine (dif_pos ⟨a1, a2⟩).trans ?_
    rw [own_eq]
  obtain rfl : win = _ := funext h1
  obtain rfl : u = _ := funext fun k => (h3 k).trans (h8 k)
  obtain rfl : w = _ := funext fun e => funext (h4 e)
  obtain rfl : sc = _ := funext h5
  obtain rfl : ga = _ := funext h6
  obtain rfl : wo = _ := funext h7
  rw [h2]
  rfl

/-- A group's part of the projected row. -/
abbrev part (q : Fin 4) (r : Fin 512) (d : Fin 1024) : EReal := ∑ k, (Ar m c).pool (bat t) (own t r) q k * (Ar m c).wOut (Arrays.col q k) d

theorem m0_at (r : Fin 512) (d : Fin 1024) : m0 (blkAt m c t) (ix2 r d) = part m c t 0 r d :=
  (group_first _ _ _ _ _ _ _ _ r d).trans (part_eq m c t 0 r d _ _ _ _ _ _ _ (win0_at m c t r) (by rw [rowNo_at]; rfl)
    (fun k => ldU m c t 0 8 0 512 _ r k rfl (by omega))
    (fun e k => (ld3 (iblk m c 21 t : FVec Ideal S4x256x256 .bf16) 0 0 0 _ 0 e k 0 e k rfl (Nat.zero_add e.val).symm (Nat.zero_add k.val).symm).trans (blk21 m c t _ _ _))
    (fun k => (ld2 (iblk m c 22 t : FVec Ideal S1x1024 .f32) 0 0 _ 0 k 0 (Arrays.col 0 k) rfl rfl).trans (blk22 m c t _))
    (fun k => (congrArg (fun n => zz (blkAt m c t) (ix2 r n)) (Fin.ext (by exact (Nat.zero_add k.val).symm))).trans (zz_at m c t r (Arrays.col 0 k)))
    (fun k => (ld2 (iblk m c 23 t : FVec Ideal S1024x1024 .bf16) 0 0 _ k d (Arrays.col 0 k) d rfl (Nat.zero_add d.val).symm).trans (blk23 m c t _ _)))

theorem m1_at (r : Fin 512) (d : Fin 1024) : m1 (blkAt m c t) (ix2 r d) = part m c t 0 r d + part m c t 1 r d :=
  (group_second _ _ _ _ _ _ _ _ _ r d).trans (congrArg₂ (· + ·) (m0_at m c t r d) (part_eq m c t 1 r d _ _ _ _ _ _ _ (win1_at m c t r) (by rw [show k0_pay27 (blkAt m c t).a (ix2 r 0) = BitVec.ofNat 32 (own t r).val from rowNo_at m c t r]; rfl)
    (fun k => ldU m c t 1 8 256 512 _ r k rfl (by omega))
    (fun e k => (ld3 (iblk m c 21 t : FVec Ideal S4x256x256 .bf16) 1 0 0 _ 0 e k 1 e k rfl (Nat.zero_add e.val).symm (Nat.zero_add k.val).symm).trans (blk21 m c t _ _ _))
    (fun k => (ld2 (iblk m c 22 t : FVec Ideal S1x1024 .f32) 0 256 _ 0 k 0 (Arrays.col 1 k) rfl rfl).trans (blk22 m c t _))
    (fun k => (congrArg (fun n => zz (blkAt m c t) (ix2 r n)) (Fin.ext (by rfl))).trans (zz_at m c t r (Arrays.col 1 k)))
    (fun k => (ld2 (iblk m c 23 t : FVec Ideal S1024x1024 .bf16) 256 0 _ k d (Arrays.col 1 k) d rfl (Nat.zero_add d.val).symm).trans (blk23 m c t _ _))))

theorem m2_at (r : Fin 512) (d : Fin 1024) : m2 (blkAt m c t) (ix2 r d) = part m c t 0 r d + part m c t 1 r d + part m c t 2 r d :=
  (group_third _ _ _ _ _ _ _ _ _ r d).trans (congrArg₂ (· + ·) (m1_at m c t r d) (part_eq m c t 2 r d _ _ _ _ _ _ _ (win2_at m c t r) (by rw [show k0_pay27 (blkAt m c t).a (ix2 r 0) = BitVec.ofNat 32 (own t r).val from rowNo_at m c t r]; rfl)
    (fun k => ldU m c t 2 8 512 512 _ r k rfl (by omega))
    (fun e k => (ld3 (iblk m c 21 t : FVec Ideal S4x256x256 .bf16) 2 0 0 _ 0 e k 2 e k rfl (Nat.zero_add e.val).symm (Nat.zero_add k.val).symm).trans (blk21 m c t _ _ _))
    (fun k => (ld2 (iblk m c 22 t : FVec Ideal S1x1024 .f32) 0 512 _ 0 k 0 (Arrays.col 2 k) rfl rfl).trans (blk22 m c t _))
    (fun k => (congrArg (fun n => zz (blkAt m c t) (ix2 r n)) (Fin.ext (by rfl))).trans (zz_at m c t r (Arrays.col 2 k)))
    (fun k => (ld2 (iblk m c 23 t : FVec Ideal S1024x1024 .bf16) 512 0 _ k d (Arrays.col 2 k) d rfl (Nat.zero_add d.val).symm).trans (blk23 m c t _ _))))

/-- The projected row is the sum of the four parts. -/
theorem proj_eq (r : Fin 512) (d : Fin 1024) : (Ar m c).proj (bat t) (own t r) d
    = part m c t 0 r d + part m c t 1 r d + part m c t 2 r d + part m c t 3 r d := by
  unfold Arrays.proj
  rw [Fin.sum_univ_four]

theorem m3_at (r : Fin 512) (d : Fin 1024) : m3 (blkAt m c t) (ix2 r d) = (Ar m c).proj (bat t) (own t r) d * rs ((Ar m c).proj (bat t) (own t r)) :=
  group_fourth _ _ _ _ _ _ _ _ _ r _ (fun d => (proj_eq m c t r d).trans (congrArg₂ (· + ·) (m2_at m c t r d).symm (part_eq m c t 3 r d _ _ _ _ _ _ _ (win3_at m c t r) (by rw [show k0_pay27 (blkAt m c t).a (ix2 r 0) = BitVec.ofNat 32 (own t r).val from rowNo_at m c t r]; rfl)
    (fun k => ldU m c t 3 8 768 512 _ r k rfl (by omega))
    (fun e k => (ld3 (iblk m c 21 t : FVec Ideal S4x256x256 .bf16) 3 0 0 _ 0 e k 3 e k rfl (Nat.zero_add e.val).symm (Nat.zero_add k.val).symm).trans (blk21 m c t _ _ _))
    (fun k => (ld2 (iblk m c 22 t : FVec Ideal S1x1024 .f32) 0 768 _ 0 k 0 (Arrays.col 3 k) rfl rfl).trans (blk22 m c t _))
    (fun k => (congrArg (fun n => zz (blkAt m c t) (ix2 r n)) (Fin.ext (by rfl))).trans (zz_at m c t r (Arrays.col 3 k)))
    (fun k => (ld2 (iblk m c 23 t : FVec Ideal S1024x1024 .bf16) 768 0 _ k d (Arrays.col 3 k) d rfl (Nat.zero_add d.val).symm).trans (blk23 m c t _ _))).symm)) d

/-- The block the body leaves holds the call's result. -/
theorem out_at (r : Fin 512) (d : Fin 1024) : out (blkAt m c t) (ix3 0 r d) = (Ar m c).result (bat t) (own t r) d := by
  refine (out_row _ _ _ _ r d).trans ?_
  rw [kept_at, m3_at, gt_at, po_at]
  rfl

end Pool
-- ==== Proof.PoolFrame.lean ====
/- Every run of the pool call ends with its arguments unchanged and its result at the blocks the points leave. -/
module

public import proofs.«01_k».proof.Proof.PoolRun
public import Idealize.ShloMosaic.Lib.Claim

@[expose] public section

set_option maxRecDepth 16384

noncomputable section

namespace Pool

open Cert.Kernel2Ideal Cert.Kernel2Ideal.Gen
open Idealize.ShloMosaic Idealize.ShloMosaic.TcCoe Idealize.ShloMosaic.Tactic
open Idealize.SL Idealize.SL.RA Idealize.SL.BI Idealize.SL.BI.BIBase Idealize.SL.BI.Laws
open Idealize.SL.ProofMode Idealize.SL.Sem Idealize.ShloMosaic.Rounds
open scoped Idealize.SL.BI
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the body at point `t`, on the point's buffers and blocks. -/
def runAt (c : Dev nD) (t : Fin cfg0.N) :=
  run c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (ms0_14 t) (hs0_14 t) (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (iblk m c 16 t) (iblk m c 17 t) (iblk m c 18 t)
    (iblk m c 19 t) (iblk m c 20 t) (iblk m c 21 t) (iblk m c 22 t) (iblk m c 23 t)

/-- Its output pieces fill the block: there is one, the whole block. -/
theorem covers (c : Dev nD) (t : Fin cfg0.N) (y : S1x512x1024.Idx) : ∃ p ∈ (runAt m c t).1, y ∈ p.1.set :=
  View.cover_of_tiledL (runAt m c t).1 S1x512x1024.size (by sl_kernel_rfl) y

/-- The block of the result left at point `t`. -/
def outAt (c : Dev nD) (t : Fin cfg0.N) : Vec F S1x512x1024 .f32 :=
  VO0_24.read (Elt F) (VO0_24.writes (Elt F) VO0_24.junk (runAt m c t).1)

/-- The pipeline's data: inputs keep their blocks, the output gets `outAt`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => outAt m c t
    | ⟨_ + 25, h⟩ => absurd h (Nat.not_lt.2 (Nat.le_add_left _ _))
  Φ _ := Pipeline.ΦA spec0 c
  q w := Pipeline.shareOf spec0 w
  owed _ := 0

theorem dat_A (c : Dev nD) (w : Fin cfg0.W) : (dat m 0 c).A w = V m c (Pipeline.arrRef spec0 w) := by
  dsimp only [dat]

theorem dat_out (c : Dev nD) (t : Fin cfg0.N) : (dat m 0 c).after 24 t = outAt m c t := by dsimp only [dat]

theorem keeps0 (c : Dev nD) (t : Fin cfg0.N) : (dat m 0 c).after 0 t = iblk m c 0 t := by dsimp only [dat]
theorem finds0 (c : Dev nD) (t : Fin cfg0.N) (d) : (dat m 0 c).before 0 t d = iblk m c 0 t :=
  before0_0_of m (dat m 0 c) (dat_A m c 0) (keeps0 m c) t d
theorem keeps1 (c : Dev nD) (t : Fin cfg0.N) : (dat m 0 c).after 1 t = iblk m c 1 t := by dsimp only [dat]
theorem finds1 (c : Dev nD) (t : Fin cfg0.N) (d) : (dat m 0 c).before 1 t d = iblk m c 1 t :=
  before0_1_of m (dat m 0 c) (dat_A m c 1) (keeps1 m c) t d
theorem keeps2 (c : Dev nD) (t : Fin cfg0.N) : (dat m 0 c).after 2 t = iblk m c 2 t := by dsimp only [dat]
theorem finds2 (c : Dev nD) (t : Fin cfg0.N) (d) : (dat m 0 c).before 2 t d = iblk m c 2 t :=
  before0_2_of m (dat m 0 c) (dat_A m c 2) (keeps2 m c) t d
theorem keeps3 (c : Dev nD) (t : Fin cfg0.N) : (dat m 0 c).after 3 t = iblk m c 3 t := by dsimp only [dat]
theorem finds3 (c : Dev nD) (t : Fin cfg0.N) (d) : (dat m 0 c).before 3 t d = iblk m c 3 t :=
  before0_3_of m (dat m 0 c) (dat_A m c 3) (keeps3 m c) t d
theorem keeps4 (c : Dev nD) (t : Fin cfg0.N) : (dat m 0 c).after 4 t = iblk m c 4 t := by dsimp only [dat]
theorem finds4 (c : Dev nD) (t : Fin cfg0.N) (d) : (dat m 0 c).before 4 t d = iblk m c 4 t :=
  before0_4_of m (dat m 0 c) (dat_A m c 4) (keeps4 m c) t d
theorem keeps5 (c : Dev nD) (t : Fin cfg0.N) : (dat m 0 c).after 5 t = iblk m c 5 t := by dsimp only [dat]
theorem finds5 (c : Dev nD) (t : Fin cfg0.N) (d) : (dat m 0 c).before 5 t d = iblk m c 5 t :=
  before0_5_of m (dat m 0 c) (dat_A m c 5) (keeps5 m c) t d
theorem keeps6 (c : Dev nD) (t : Fin cfg0.N) : (dat m 0 c).after 6 t = iblk m c 6 t := by dsimp only [dat]
theorem finds6 (c : Dev nD) (t : Fin cfg0.N) (d) : (dat m 0 c).before 6 t d = iblk m c 6 t :=
  before0_6_of m (dat m 0 c) (dat_A m c 6) (keeps6 m c) t d
theorem keeps7 (c : Dev nD) (t : Fin cfg0.N) : (dat m 0 c).after 7 t = iblk m c 7 t := by dsimp only [dat]
theorem finds7 (c : Dev nD) (t : Fin cfg0.N) (d) : (dat m 0 c).before 7 t d = iblk m c 7 t :=
  before0_7_of m (dat m 0 c) (dat_A m c 7) (keeps7 m c) t d
theorem keeps8 (c : Dev nD) (t : Fin cfg0.N) : (dat m 0 c).after 8 t = iblk m c 8 t := by dsimp only [dat]
theorem finds8 (c : Dev nD) (t : Fin cfg0.N) (d) : (dat m 0 c).before 8 t d = iblk m c 8 t :=
  before0_8_of m (dat m 0 c) (dat_A m c 8) (keeps8 m c) t d
theorem keeps9 (c : Dev nD) (t : Fin cfg0.N) : (dat m 0 c).after 9 t = iblk m c 9 t := by dsimp only [dat]
theorem finds9 (c : Dev nD) (t : Fin cfg0.N) (d) : (dat m 0 c).before 9 t d = iblk m c 9 t :=
  before0_9_of m (dat m 0 c) (dat_A m c 9) (keeps9 m c) t d
theorem keeps10 (c : Dev nD) (t : Fin cfg0.N) : (dat m 0 c).after 10 t = iblk m c 10 t := by dsimp only [dat]
theorem finds10 (c : Dev nD) (t : Fin cfg0.N) (d) : (dat m 0 c).before 10 t d = iblk m c 10 t :=
  before0_10_of m (dat m 0 c) (dat_A m c 10) (keeps10 m c) t d
theorem keeps11 (c : Dev nD) (t : Fin cfg0.N) : (dat m 0 c).after 11 t = iblk m c 11 t := by dsimp only [dat]
theorem finds11 (c : Dev nD) (t : Fin cfg0.N) (d) : (dat m 0 c).before 11 t d = iblk m c 11 t :=
  before0_11_of m (dat m 0 c) (dat_A m c 11) (keeps11 m c) t d
theorem keeps12 (c : Dev nD) (t : Fin cfg0.N) : (dat m 0 c).after 12 t = iblk m c 12 t := by dsimp only [dat]
theorem finds12 (c : Dev nD) (t : Fin cfg0.N) (d) : (dat m 0 c).before 12 t d = iblk m c 12 t :=
  before0_12_of m (dat m 0 c) (dat_A m c 12) (keeps12 m c) t d
theorem keeps13 (c : Dev nD) (t : Fin cfg0.N) : (dat m 0 c).after 13 t = iblk m c 13 t := by dsimp only [dat]
theorem finds13 (c : Dev nD) (t : Fin cfg0.N) (d) : (dat m 0 c).before 13 t d = iblk m c 13 t :=
  before0_13_of m (dat m 0 c) (dat_A m c 13) (keeps13 m c) t d
theorem keeps14 (c : Dev nD) (t : Fin cfg0.N) : (dat m 0 c).after 14 t = iblk m c 14 t := by dsimp only [dat]
theorem finds14 (c : Dev nD) (t : Fin cfg0.N) (d) : (dat m 0 c).before 14 t d = iblk m c 14 t :=
  before0_14_of m (dat m 0 c) (dat_A m c 14) (keeps14 m c) t d
theorem keeps15 (c : Dev nD) (t : Fin cfg0.N) : (dat m 0 c).after 15 t = iblk m c 15 t := by dsimp only [dat]
theorem finds15 (c : Dev nD) (t : Fin cfg0.N) (d) : (dat m 0 c).before 15 t d = iblk m c 15 t :=
  before0_15_of m (dat m 0 c) (dat_A m c 15) (keeps15 m c) t d
theorem keeps16 (c : Dev nD) (t : Fin cfg0.N) : (dat m 0 c).after 16 t = iblk m c 16 t := by dsimp only [dat]
theorem finds16 (c : Dev nD) (t : Fin cfg0.N) (d) : (dat m 0 c).before 16 t d = iblk m c 16 t :=
  before0_16_of m (dat m 0 c) (dat_A m c 16) (keeps16 m c) t d
theorem keeps17 (c : Dev nD) (t : Fin cfg0.N) : (dat m 0 c).after 17 t = iblk m c 17 t := by dsimp only [dat]
theorem finds17 (c : Dev nD) (t : Fin cfg0.N) (d) : (dat m 0 c).before 17 t d = iblk m c 17 t :=
  before0_17_of m (dat m 0 c) (dat_A m c 17) (keeps17 m c) t d
theorem keeps18 (c : Dev nD) (t : Fin cfg0.N) : (dat m 0 c).after 18 t = iblk m c 18 t := by dsimp only [dat]
theorem finds18 (c : Dev nD) (t : Fin cfg0.N) (d) : (dat m 0 c).before 18 t d = iblk m c 18 t :=
  before0_18_of m (dat m 0 c) (dat_A m c 18) (keeps18 m c) t d
theorem keeps19 (c : Dev nD) (t : Fin cfg0.N) : (dat m 0 c).after 19 t = iblk m c 19 t := by dsimp only [dat]
theorem finds19 (c : Dev nD) (t : Fin cfg0.N) (d) : (dat m 0 c).before 19 t d = iblk m c 19 t :=
  before0_19_of m (dat m 0 c) (dat_A m c 19) (keeps19 m c) t d
theorem keeps20 (c : Dev nD) (t : Fin cfg0.N) : (dat m 0 c).after 20 t = iblk m c 20 t := by dsimp only [dat]
theorem finds20 (c : Dev nD) (t : Fin cfg0.N) (d) : (dat m 0 c).before 20 t d = iblk m c 20 t :=
  before0_20_of m (dat m 0 c) (dat_A m c 20) (keeps20 m c) t d
theorem keeps21 (c : Dev nD) (t : Fin cfg0.N) : (dat m 0 c).after 21 t = iblk m c 21 t := by dsimp only [dat]
theorem finds21 (c : Dev nD) (t : Fin cfg0.N) (d) : (dat m 0 c).before 21 t d = iblk m c 21 t :=
  before0_21_of m (dat m 0 c) (dat_A m c 21) (keeps21 m c) t d
theorem keeps22 (c : Dev nD) (t : Fin cfg0.N) : (dat m 0 c).after 22 t = iblk m c 22 t := by dsimp only [dat]
theorem finds22 (c : Dev nD) (t : Fin cfg0.N) (d) : (dat m 0 c).before 22 t d = iblk m c 22 t :=
  before0_22_of m (dat m 0 c) (dat_A m c 22) (keeps22 m c) t d
theorem keeps23 (c : Dev nD) (t : Fin cfg0.N) : (dat m 0 c).after 23 t = iblk m c 23 t := by dsimp only [dat]
theorem finds23 (c : Dev nD) (t : Fin cfg0.N) (d) : (dat m 0 c).before 23 t d = iblk m c 23 t :=
  before0_23_of m (dat m 0 c) (dat_A m c 23) (keeps23 m c) t d

/-- What the body finds at point `t`. -/
def pre (c : Dev nD) (t : Fin cfg0.N) : sProp 𝕄 :=
  iprop((dat m 0 c).Φ t.castSucc ∗ (dat m 0 c).owesAt () t.castSucc ∗
    (∃ d, owns (c : Thread nD τ) (ms0_0 t) fullShare ((dat m 0 c).before 0 t d)) ∗
    (∃ d, owns (c : Thread nD τ) (ms0_1 t) fullShare ((dat m 0 c).before 1 t d)) ∗
    (∃ d, owns (c : Thread nD τ) (ms0_2 t) fullShare ((dat m 0 c).before 2 t d)) ∗
    (∃ d, owns (c : Thread nD τ) (ms0_3 t) fullShare ((dat m 0 c).before 3 t d)) ∗
    (∃ d, owns (c : Thread nD τ) (ms0_4 t) fullShare ((dat m 0 c).before 4 t d)) ∗
    (∃ d, owns (c : Thread nD τ) (ms0_5 t) fullShare ((dat m 0 c).before 5 t d)) ∗
    (∃ d, owns (c : Thread nD τ) (ms0_6 t) fullShare ((dat m 0 c).before 6 t d)) ∗
    (∃ d, owns (c : Thread nD τ) (ms0_7 t) fullShare ((dat m 0 c).before 7 t d)) ∗
    (∃ d, owns (c : Thread nD τ) (ms0_8 t) fullShare ((dat m 0 c).before 8 t d)) ∗
    (∃ d, owns (c : Thread nD τ) (ms0_9 t) fullShare ((dat m 0 c).before 9 t d)) ∗
    (∃ d, owns (c : Thread nD τ) (ms0_10 t) fullShare ((dat m 0 c).before 10 t d)) ∗
    (∃ d, owns (c : Thread nD τ) (ms0_11 t) fullShare ((dat m 0 c).before 11 t d)) ∗
    (∃ d, owns (c : Thread nD τ) (ms0_12 t) fullShare ((dat m 0 c).before 12 t d)) ∗
    (∃ d, owns (c : Thread nD τ) (ms0_13 t) fullShare ((dat m 0 c).before 13 t d)) ∗
    (∃ d, owns (c : Thread nD τ) (ms0_14 t) fullShare ((dat m 0 c).before 14 t d)) ∗
    (∃ d, owns (c : Thread nD τ) (ms0_15 t) fullShare ((dat m 0 c).before 15 t d)) ∗
    (∃ d, owns (c : Thread nD τ) (ms0_16 t) fullShare ((dat m 0 c).before 16 t d)) ∗
    (∃ d, owns (c : Thread nD τ) (ms0_17 t) fullShare ((dat m 0 c).before 17 t d)) ∗
    (∃ d, owns (c : Thread nD τ) (ms0_18 t) fullShare ((dat m 0 c).before 18 t d)) ∗
    (∃ d, owns (c : Thread nD τ) (ms0_19 t) fullShare ((dat m 0 c).before 19 t d)) ∗
    (∃ d, owns (c : Thread nD τ) (ms0_20 t) fullShare ((dat m 0 c).before 20 t d)) ∗
    (∃ d, owns (c : Thread nD τ) (ms0_21 t) fullShare ((dat m 0 c).before 21 t d)) ∗
    (∃ d, owns (c : Thread nD τ) (ms0_22 t) fullShare ((dat m 0 c).before 22 t d)) ∗
    (∃ d, owns (c : Thread nD τ) (ms0_23 t) fullShare ((dat m 0 c).before 23 t d)) ∗
    (∃ d, owns (c : Thread nD τ) (ms0_24 t) fullShare ((dat m 0 c).before 24 t d)))

/-- What it leaves there. -/
def post (c : Dev nD) (t : Fin cfg0.N) : sProp 𝕄 :=
  iprop((dat m 0 c).Φ t.succ ∗ (dat m 0 c).owesAt () t.succ ∗
    owns (c : Thread nD τ) (ms0_0 t) fullShare ((dat m 0 c).after 0 t) ∗ owns (c : Thread nD τ) (ms0_1 t) fullShare ((dat m 0 c).after 1 t) ∗
    owns (c : Thread nD τ) (ms0_2 t) fullShare ((dat m 0 c).after 2 t) ∗ owns (c : Thread nD τ) (ms0_3 t) fullShare ((dat m 0 c).after 3 t) ∗
    owns (c : Thread nD τ) (ms0_4 t) fullShare ((dat m 0 c).after 4 t) ∗ owns (c : Thread nD τ) (ms0_5 t) fullShare ((dat m 0 c).after 5 t) ∗
    owns (c : Thread nD τ) (ms0_6 t) fullShare ((dat m 0 c).after 6 t) ∗ owns (c : Thread nD τ) (ms0_7 t) fullShare ((dat m 0 c).after 7 t) ∗
    owns (c : Thread nD τ) (ms0_8 t) fullShare ((dat m 0 c).after 8 t) ∗ owns (c : Thread nD τ) (ms0_9 t) fullShare ((dat m 0 c).after 9 t) ∗
    owns (c : Thread nD τ) (ms0_10 t) fullShare ((dat m 0 c).after 10 t) ∗ owns (c : Thread nD τ) (ms0_11 t) fullShare ((dat m 0 c).after 11 t) ∗
    owns (c : Thread nD τ) (ms0_12 t) fullShare ((dat m 0 c).after 12 t) ∗ owns (c : Thread nD τ) (ms0_13 t) fullShare ((dat m 0 c).after 13 t) ∗
    owns (c : Thread nD τ) (ms0_14 t) fullShare ((dat m 0 c).after 14 t) ∗ owns (c : Thread nD τ) (ms0_15 t) fullShare ((dat m 0 c).after 15 t) ∗
    owns (c : Thread nD τ) (ms0_16 t) fullShare ((dat m 0 c).after 16 t) ∗ owns (c : Thread nD τ) (ms0_17 t) fullShare ((dat m 0 c).after 17 t) ∗
    owns (c : Thread nD τ) (ms0_18 t) fullShare ((dat m 0 c).after 18 t) ∗ owns (c : Thread nD τ) (ms0_19 t) fullShare ((dat m 0 c).after 19 t) ∗
    owns (c : Thread nD τ) (ms0_20 t) fullShare ((dat m 0 c).after 20 t) ∗ owns (c : Thread nD τ) (ms0_21 t) fullShare ((dat m 0 c).after 21 t) ∗
    owns (c : Thread nD τ) (ms0_22 t) fullShare ((dat m 0 c).after 22 t) ∗ owns (c : Thread nD τ) (ms0_23 t) fullShare ((dat m 0 c).after 23 t) ∗
    owns (c : Thread nD τ) (ms0_24 t) fullShare ((dat m 0 c).after 24 t))

set_option maxHeartbeats 4000000 in
/-- The body at a point takes what it finds to what it leaves. -/
theorem step (c : Dev nD) (t : Fin cfg0.N) :
    pre m c t ⊢ wp frame (wpE (defs₀ (F := F)) Variants.none c none) Set.univ (bodyAt0 t) (fun _ => post m c t) := by
  unfold pre post bodyAt0
  rw [show (dat m 0 c).Φ t.succ = (dat m 0 c).Φ t.castSucc from rfl,
    show (dat m 0 c).owesAt () t.succ = (dat m 0 c).owesAt () t.castSucc from rfl]
  simp only [finds0, keeps0, finds1, keeps1, finds2, keeps2, finds3, keeps3, finds4, keeps4, finds5, keeps5, finds6, keeps6, finds7, keeps7, finds8, keeps8,
    finds9, keeps9, finds10, keeps10, finds11, keeps11, finds12, keeps12, finds13, keeps13, finds14, keeps14, finds15, keeps15, finds16, keeps16,
    finds17, keeps17, finds18, keeps18, finds19, keeps19, finds20, keeps20, finds21, keeps21, finds22, keeps22, finds23, keeps23, dat_out]
  rw [show (dat m 0 c).Φ t.castSucc = Pipeline.ΦA spec0 c from rfl, PhiA0_eq]
  unfold outAt
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩⟩
  iapply ((runAt m c t).2.2.2.2 Set.univ _)
  unfold held left
  isplitl [H0 H1 H2 H3 H4 H5 H6 H7 H8 H9 H10 H11 H12 H13 H14 H15 H16 H17 H18 H19 H20 H21 H22 H23]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  isplitl [H24]; · iexists _; iexact H24
  isplitl [S0]; · iexact S0
  isplitl [S1]; · iexact S1
  isplitl [S2]; · iexact S2
  iintro ⟨⟨H0, H1, H2, H3, H4, H5, H6, H7, H8, H9, H10, H11, H12, H13, H14, H15, H16, H17, H18, H19, H20, H21, H22, H23⟩, ⟨%g24, H24⟩, ⟨%g0, S0⟩, ⟨%g1, S1⟩, ⟨%g2, S2⟩⟩
  isplitl [S0 S1 S2 Hg]
  · isplitl [S0 S1 S2]
    · isplitl [S0]
      · iexists _; unfold owns; iexists _; isplitr
        swap; · iexact S0
        ipureintro; rfl
      isplitl [S1]
      · iexists _; unfold owns; iexists _; isplitr
        swap; · iexact S1
        ipureintro; rfl
      iexists _; unfold owns; iexists _; isplitr
      swap; · iexact S2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  unfold owns; iexists _; isplitr
  swap; · iexact H24
  ipureintro; exact View.read_writes_of_cover _ _ _ _ _ (covers m c t)

theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) m 0 c) (defs₀ (F := F)) Variants.none () Set.univ := fun t => by
  rw [bigSep_W0, bigSep_W0, row]
  exact triple_restated (step m c t) rfl .rfl fun _ => .rfl

set_option backward.isDefEq.respectTransparency.types false in
/-- Every run ends at the arrays the data names, all counters at zero. -/
theorem ends : θ_run defs (onTc (τ := τ) (main (F := F))) (s₀ m ρ)
    (fun r => Pipeline.FramePost cfgs (dat m) 0 (V m) r ∧ r.2.sem = fun _ => 0) :=
  Pipeline.θ_run_frame_shared (Q' := _) cfgs (dat m) (0 : Fin 1) launch₀0 defs₀ Variants.none m ρ main
    (hbody := fun c => (obligation m c).loose) (hq := fun _ _ _ => rfl)
    (howed := fun _ _ => rfl) (V := V m) (hmain := hmain m Variants.none) (hA := dat_A m) (hΦ := fun _ _ => rfl)

theorem ends_at : θ_run defs (onTc (τ := τ) (main (F := F))) (s₀ m ρ) (Pipeline.FramePost cfgs (dat m) 0 (V m)) :=
  (θ_run defs _ _).mono (fun _ h => h.1) (ends m ρ)

/-- The argument arrays end unchanged, all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dat m) (dat_A m) (ends_at m ρ)) ((θ_run defs _ _).mono (fun _ h => h.2) (ends m ρ))

/-- Distinct points write distinct blocks of the result. -/
theorem idx_inj : ∀ t t' : Fin cfg0.N, win0_24.index t = win0_24.index t' → t = t' :=
  (by decide +kernel : ∀ t t' : Fin grid0.N, win0_24.index t = win0_24.index t' → t = t')

end Pool

end
-- ==== Proof.PoolValue.lean ====
module
public import proofs.«01_k».proof.Proof.PoolGroups
public import proofs.«01_k».proof.Proof.PoolFrame
@[expose] public section
set_option maxRecDepth 16384
noncomputable section

/-! The pooling call's result array is the reference's. -/

namespace Pool
open Cert.Kernel2Ideal Cert.Kernel2Ideal.Gen Idealize.ShloMosaic Idealize.ShloMosaic.TcCoe
open Cert.Kernel2Ideal.Facts

variable (m : (ℓ : Loc nD τ sig) → Buf (Elt Ideal) ℓ) (c : Dev nD)

/-- The block left at a grid point is the body's. -/
theorem outAt_eq (t : Fin cfg0.N) : outAt m c t = out (blkAt m c t) := by
  unfold outAt
  rw [View.read_writes_eq_canon _ _ _ (covers m c t)]
  unfold runAt
  rw [run_out]
  exact View.canon_cons_unit_lit (S := S1x512x1024) _ _ _ (by decide)

theorem one_row (x : S1x512x1024.Idx) : ∃ (r : Fin 512) (d : Fin 1024), x = ix3 0 r d := by
  refine ⟨x 1, x 2, ?_⟩
  funext a
  match a with
  | 0 => exact Subsingleton.elim (α := Fin 1) _ _
  | 1 => rfl
  | 2 => rfl

/-- The reference's result. -/
abbrev refOut : FVec Ideal S16x4096x1024 .f32 :=
  Cert.Reference2Ideal.Read.val_main_v113 (F := Ideal) (P0 m c) (P1 m c) (P2 m c) (P3 m c) (P4 m c) (P5 m c) (P6 m c) (P7 m c) (P8 m c)
    (P9 m c) (P10 m c) (P11 m c) (P12 m c) (P13 m c) (P14 m c) (P15 m c)

theorem out_ref (t : Fin cfg0.N) (x : S1x512x1024.Idx) (j : S16x4096x1024.Idx) (h0 : (j 0).val = t.val / 8)
    (h1 : (j 1).val = 512 * (t.val % 8) + (x 1).val) (h2 : (j 2).val = (x 2).val) : out (blkAt m c t) x = refOut m c j := by
  obtain ⟨r, d, rfl⟩ := one_row x
  rw [out_at]
  refine (r113 _ _ _ _ _ _ _ _ _ _ _ _ _ _ _ _ (bat t) (own t r) d).symm.trans (congrArg (refOut m c) (funext fun a => Fin.ext ?_))
  match a with
  | 0 => exact h0.symm
  | 1 => exact h1.symm
  | 2 => exact h2.symm

/-- The output array after the last grid point. -/
theorem out_final : (dat m 0 c).arrAt 24 (cfgs 0).N = refOut m c := by
  refine (dat m 0 c).arrAt_eq_of_covers 24 _ (by decide +kernel) fun t _ y => ?_
  blk_simp
  rw [dat_out, outAt_eq]
  refine out_ref m c t _ _ ?_ ?_ ?_ <;> blk_simp [at24 t] <;> omega

/-- The call run from any memory: the result array is the reference's, the arguments stay. -/
theorem run_value (ρ : Dev nD → PrngReg) : θ_run defs (onTc (τ := τ) (main (F := Ideal))) ⟨m, fun _ => 0, ρ⟩ (fun r => ∀ c : Dev nD,
      r.2.mem ((c.tc : Thread nD τ).loc main_v15) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h.1 c).1 24).trans (out_final m c), h.2.1 c⟩) (θ_run_and (ends_at m ρ) (frame m ρ))

end Pool
-- ==== Proof.FrontRow.lean ====
/- The front call's columns, by row block: what each stored value is at a row and a lane. -/
module

public import Idealize.ShloMosaic.Lib.Pointwise
public import proofs.«01_k».proof.Proof.PoolSpec
public import proofs.«01_k».proof.Proof.Gen.Kernel3Ideal.Skeleton

@[expose] public section

set_option maxRecDepth 16384

noncomputable section

namespace Front

open Cert.Kernel3Ideal Cert.Kernel3Ideal.Gen Idealize.ShloMosaic Idealize.ShloMosaic.TcCoe
open Cert.Kernel3Ideal.Facts

/-! Rows. -/

/-- A row of 128 lanes turned: the lane itself, the lane `s` above and the lane `s` below, each with its factor. -/
def turn (s : ℕ) (v c lo hi : Fin 128 → EReal) (l : Fin 128) : EReal :=
  v l * c l + v ⟨(l.val + 128 - (128 - s)) % 128, Nat.mod_lt _ (by decide)⟩ * lo l + v ⟨(l.val + 128 - s) % 128, Nat.mod_lt _ (by decide)⟩ * hi l

/-- A row normed by heads, the squares summed in two parts over the lanes of the same head. -/
def nrm {n : ℕ} (v : Fin n → EReal) (bd : Fin n → Fin n → EReal) (g : Fin 128 → EReal) (l : Fin n) : EReal :=
  v l * Ideal.rsqrt ((∑ k, v k * v k * bd k l + ∑ k, (v k * v k - v k * v k) * bd k l) * Ideal.ofBits .f32 0x3C800000#32
    + Ideal.ofBits .f32 0x358637BD#32) * g ⟨l.val % 128, Nat.mod_lt _ (by decide)⟩

/-- The scale of the queries. -/
def qs : EReal := Ideal.ofBits .f32 0x3E38AA3B#32

/-! Blocks. -/

section Blocks
variable {F : FTy → Type} [FloatOps F]

/-- The normed and modulated rows. -/
def hb (x : Vec F S1x256x1024 .f32) (p : Vec F S1x1024 .f32) (sc sh : Vec F S1x1x1024 .f32) : FVec F S256x1024 .bf16 := k0_pay3 x p sc sh

/-- A block of a table. -/
def tb (x : Vec F S256x128 .f32) : FVec F S256x128 .f32 := shapeCast S256x128 x shapeCasts_S256x128_S256x128

def turnA (v c lo hi : FVec F S256x128 .f32) : FVec F S256x128 .f32 :=
  addf (addf (mulf v c) (mulf (dynamicRotate 1 120#32 none v rotates_S256x128_d1) lo)) (mulf (dynamicRotate 1 8#32 none v rotates_S256x128_d1) hi)

def turnB (v c lo hi : FVec F S256x128 .f32) : FVec F S256x128 .f32 :=
  addf (addf (mulf v c) (mulf (dynamicRotate 1 112#32 none v rotates_S256x128_d1) lo)) (mulf (dynamicRotate 1 16#32 none v rotates_S256x128_d1) hi)

/-- A column as it is stored, plain and scaled. -/
def plain (v : FVec F S256x128 .f32) : FVec F S1x256x128 .bf16 :=
  shapeCast S1x256x128 (truncf .bf16 v bitsLt_bf16_f32) shapeCasts_S256x128_S1x256x128

def scaled (v : FVec F S256x128 .f32) : FVec F S1x256x128 .bf16 := plain (mulf v (broadcast S256x128 (Scalar.ofBits .f32 0x3E38AA3B#32)))

/-- A product of 512 columns, and of 128. -/
def p512 (h : FVec F S256x1024 .bf16) (w : Vec F S1024x512 .bf16) : FVec F S256x512 .f32 :=
  matmul dot_S256x1024_S1024x512_S256x512_1_0_0_1_n_n none h (shapeCast S1024x512 w shapeCasts_S1024x512_S1024x512) (constant S256x512 .f32 0x00000000#32)

def p128 (h : FVec F S256x1024 .bf16) (w : Vec F S1024x128 .bf16) : FVec F S256x128 .f32 :=
  matmul dot_S256x1024_S1024x128_S256x128_1_0_0_1_n_n none h (shapeCast S1024x128 w shapeCasts_S1024x128_S1024x128) (constant S256x128 .f32 0x00000000#32)

def rms256 (v : FVec F S256x256 .f32) (g : Vec F S1x128 .f32) (bd : Vec F S256x256 .bf16) : FVec F S256x256 .f32 :=
  mulf (mulf v (rsqrt (addf (mulf (addf
      (matmul dot_S256x256_S256x256_S256x256_1_0_0_1_n_n none (truncf .bf16 (mulf v v) bitsLt_bf16_f32) (shapeCast S256x256 bd shapeCasts_S256x256_S256x256) (constant S256x256 .f32 0x00000000#32))
      (matmul dot_S256x256_S256x256_S256x256_1_0_0_1_n_n none (truncf .bf16 (subf (mulf v v) (extf .f32 (truncf .bf16 (mulf v v) bitsLt_bf16_f32) bitsLt_bf16_f32)) bitsLt_bf16_f32) (shapeCast S256x256 bd shapeCasts_S256x256_S256x256) (constant S256x256 .f32 0x00000000#32)))
      (broadcast S256x256 (Scalar.ofBits .f32 0x3C800000#32))) (broadcast S256x256 (Scalar.ofBits .f32 0x358637BD#32)))))
    (broadcastTo S256x256 (concatenate S1x256 1 [⟨S1x128, shapeCast S1x128 g shapeCasts_S1x128_S1x128⟩, ⟨S1x128, shapeCast S1x128 g shapeCasts_S1x128_S1x128⟩] concatenates_S1x128_S1x128_S1x256_d1) broadcasts_S1x256_S256x256)

def rms128 (v : FVec F S256x128 .f32) (g : Vec F S1x128 .f32) (bd : Vec F S128x128 .bf16) : FVec F S256x128 .f32 :=
  mulf (mulf v (rsqrt (addf (mulf (addf
      (matmul dot_S256x128_S128x128_S256x128_1_0_0_1_n_n none (truncf .bf16 (mulf v v) bitsLt_bf16_f32) (shapeCast S128x128 bd shapeCasts_S128x128_S128x128) (constant S256x128 .f32 0x00000000#32))
      (matmul dot_S256x128_S128x128_S256x128_1_0_0_1_n_n none (truncf .bf16 (subf (mulf v v) (extf .f32 (truncf .bf16 (mulf v v) bitsLt_bf16_f32) bitsLt_bf16_f32)) bitsLt_bf16_f32) (shapeCast S128x128 bd shapeCasts_S128x128_S128x128) (constant S256x128 .f32 0x00000000#32)))
      (broadcast S256x128 (Scalar.ofBits .f32 0x3C800000#32))) (broadcast S256x128 (Scalar.ofBits .f32 0x358637BD#32)))))
    (broadcastTo S256x128 (shapeCast S1x128 g shapeCasts_S1x128_S1x128) broadcasts_S1x128_S256x128)

/-- The columns of the four stored thirds. -/
def qa0 (h : FVec F S256x1024 .bf16) (w : Vec F S1024x512 .bf16) (c : Vec F S256x128 .f32) (lo : Vec F S256x128 .f32) (hi : Vec F S256x128 .f32) : FVec F S1x256x128 .bf16 := scaled (turnA (extractStridedSlice S256x128 ![0, 0] (p512 h w) slices_S256x512_o0_0_S256x128) (tb c) (tb lo) (tb hi))
def qa1 (h : FVec F S256x1024 .bf16) (w : Vec F S1024x512 .bf16) (c : Vec F S256x128 .f32) (lo : Vec F S256x128 .f32) (hi : Vec F S256x128 .f32) : FVec F S1x256x128 .bf16 := scaled (turnA (extractStridedSlice S256x128 ![0, 128] (p512 h w) slices_S256x512_o0_128_S256x128) (tb c) (tb lo) (tb hi))
def qa2 (h : FVec F S256x1024 .bf16) (w : Vec F S1024x512 .bf16) (c : Vec F S256x128 .f32) (lo : Vec F S256x128 .f32) (hi : Vec F S256x128 .f32) : FVec F S1x256x128 .bf16 := scaled (turnA (extractStridedSlice S256x128 ![0, 256] (p512 h w) slices_S256x512_o0_256_S256x128) (tb c) (tb lo) (tb hi))
def qa3 (h : FVec F S256x1024 .bf16) (w : Vec F S1024x512 .bf16) (c : Vec F S256x128 .f32) (lo : Vec F S256x128 .f32) (hi : Vec F S256x128 .f32) : FVec F S1x256x128 .bf16 := scaled (turnA (extractStridedSlice S256x128 ![0, 384] (p512 h w) slices_S256x512_o0_384_S256x128) (tb c) (tb lo) (tb hi))
def ka0 (h : FVec F S256x1024 .bf16) (w : Vec F S1024x512 .bf16) (c : Vec F S256x128 .f32) (lo : Vec F S256x128 .f32) (hi : Vec F S256x128 .f32) : FVec F S1x256x128 .bf16 := plain (turnA (extractStridedSlice S256x128 ![0, 0] (p512 h w) slices_S256x512_o0_0_S256x128) (tb c) (tb lo) (tb hi))
def ka1 (h : FVec F S256x1024 .bf16) (w : Vec F S1024x512 .bf16) (c : Vec F S256x128 .f32) (lo : Vec F S256x128 .f32) (hi : Vec F S256x128 .f32) : FVec F S1x256x128 .bf16 := plain (turnA (extractStridedSlice S256x128 ![0, 128] (p512 h w) slices_S256x512_o0_128_S256x128) (tb c) (tb lo) (tb hi))
def ka2 (h : FVec F S256x1024 .bf16) (w : Vec F S1024x512 .bf16) (c : Vec F S256x128 .f32) (lo : Vec F S256x128 .f32) (hi : Vec F S256x128 .f32) : FVec F S1x256x128 .bf16 := plain (turnA (extractStridedSlice S256x128 ![0, 256] (p512 h w) slices_S256x512_o0_256_S256x128) (tb c) (tb lo) (tb hi))
def ka3 (h : FVec F S256x1024 .bf16) (w : Vec F S1024x512 .bf16) (c : Vec F S256x128 .f32) (lo : Vec F S256x128 .f32) (hi : Vec F S256x128 .f32) : FVec F S1x256x128 .bf16 := plain (turnA (extractStridedSlice S256x128 ![0, 384] (p512 h w) slices_S256x512_o0_384_S256x128) (tb c) (tb lo) (tb hi))
def qbl (h : FVec F S256x1024 .bf16) (w : Vec F S1024x512 .bf16) (g : Vec F S1x128 .f32) (bd : Vec F S256x256 .bf16) : FVec F S256x256 .f32 := rms256 (extractStridedSlice S256x256 ![0, 0] (p512 h w) slices_S256x512_o0_0_S256x256) g bd
def qbh (h : FVec F S256x1024 .bf16) (w : Vec F S1024x512 .bf16) (g : Vec F S1x128 .f32) (bd : Vec F S256x256 .bf16) : FVec F S256x256 .f32 := rms256 (extractStridedSlice S256x256 ![0, 256] (p512 h w) slices_S256x512_o0_256_S256x256) g bd
def qb0 (h : FVec F S256x1024 .bf16) (w : Vec F S1024x512 .bf16) (g : Vec F S1x128 .f32) (bd : Vec F S256x256 .bf16) (c : Vec F S256x128 .f32) (lo : Vec F S256x128 .f32) (hi : Vec F S256x128 .f32) : FVec F S1x256x128 .bf16 := scaled (turnB (extractStridedSlice S256x128 ![0, 0] (qbl h w g bd) slices_S256x256_o0_0_S256x128) (tb c) (tb lo) (tb hi))
def qb1 (h : FVec F S256x1024 .bf16) (w : Vec F S1024x512 .bf16) (g : Vec F S1x128 .f32) (bd : Vec F S256x256 .bf16) (c : Vec F S256x128 .f32) (lo : Vec F S256x128 .f32) (hi : Vec F S256x128 .f32) : FVec F S1x256x128 .bf16 := scaled (turnB (extractStridedSlice S256x128 ![0, 128] (qbl h w g bd) slices_S256x256_o0_128_S256x128) (tb c) (tb lo) (tb hi))
def qb2 (h : FVec F S256x1024 .bf16) (w : Vec F S1024x512 .bf16) (g : Vec F S1x128 .f32) (bd : Vec F S256x256 .bf16) (c : Vec F S256x128 .f32) (lo : Vec F S256x128 .f32) (hi : Vec F S256x128 .f32) : FVec F S1x256x128 .bf16 := scaled (turnB (extractStridedSlice S256x128 ![0, 0] (qbh h w g bd) slices_S256x256_o0_0_S256x128) (tb c) (tb lo) (tb hi))
def qb3 (h : FVec F S256x1024 .bf16) (w : Vec F S1024x512 .bf16) (g : Vec F S1x128 .f32) (bd : Vec F S256x256 .bf16) (c : Vec F S256x128 .f32) (lo : Vec F S256x128 .f32) (hi : Vec F S256x128 .f32) : FVec F S1x256x128 .bf16 := scaled (turnB (extractStridedSlice S256x128 ![0, 128] (qbh h w g bd) slices_S256x256_o0_128_S256x128) (tb c) (tb lo) (tb hi))
def va0 (h : FVec F S256x1024 .bf16) (w : Vec F S1024x512 .bf16) : FVec F S1x256x512 .bf16 := shapeCast S1x256x512 (truncf .bf16 (p512 h w) bitsLt_bf16_f32) shapeCasts_S256x512_S1x256x512

/-- The keys of the grouped heads, by lane and row, each head doubled. -/
def ktT (h : FVec F S256x1024 .bf16) (w : Vec F S1024x128 .bf16) (g : Vec F S1x128 .f32) (bd : Vec F S128x128 .bf16) (c : Vec F S256x128 .f32) (lo : Vec F S256x128 .f32) (hi : Vec F S256x128 .f32) : FVec F S128x256 .f32 :=
  transpose S128x256 [1, 0] (turnB (rms128 (p128 h w) g bd) (tb c) (tb lo) (tb hi)) transposes_S256x128_p1_0_S128x256
def kt0 (h : FVec F S256x1024 .bf16) (w : Vec F S1024x128 .bf16) (g : Vec F S1x128 .f32) (bd : Vec F S128x128 .bf16) (c : Vec F S256x128 .f32) (lo : Vec F S256x128 .f32) (hi : Vec F S256x128 .f32) : FVec F S1x1x128x256 .bf16 :=
  shapeCast S1x1x128x256 (concatenate S128x256 0 [⟨S64x256, truncf .bf16 (extractStridedSlice S64x256 ![0, 0] (ktT h w g bd c lo hi) slices_S128x256_o0_0_S64x256) bitsLt_bf16_f32⟩,
    ⟨S64x256, truncf .bf16 (extractStridedSlice S64x256 ![0, 0] (ktT h w g bd c lo hi) slices_S128x256_o0_0_S64x256) bitsLt_bf16_f32⟩] concatenates_S64x256_S64x256_S128x256_d0) shapeCasts_S128x256_S1x1x128x256
def kt1 (h : FVec F S256x1024 .bf16) (w : Vec F S1024x128 .bf16) (g : Vec F S1x128 .f32) (bd : Vec F S128x128 .bf16) (c : Vec F S256x128 .f32) (lo : Vec F S256x128 .f32) (hi : Vec F S256x128 .f32) : FVec F S1x1x128x256 .bf16 :=
  shapeCast S1x1x128x256 (concatenate S128x256 0 [⟨S64x256, truncf .bf16 (extractStridedSlice S64x256 ![64, 0] (ktT h w g bd c lo hi) slices_S128x256_o64_0_S64x256) bitsLt_bf16_f32⟩,
    ⟨S64x256, truncf .bf16 (extractStridedSlice S64x256 ![64, 0] (ktT h w g bd c lo hi) slices_S128x256_o64_0_S64x256) bitsLt_bf16_f32⟩] concatenates_S64x256_S64x256_S128x256_d0) shapeCasts_S128x256_S1x1x128x256

/-- The values of the grouped heads beside a column of ones, the second head brought to the first lanes. -/
def vb0 (v0 : IVec S1x128 32) (h : FVec F S256x1024 .bf16) (w : Vec F S1024x128 .bf16) : FVec F S1x1x256x128 .bf16 := k0_pay47 v0 (p128 h w) (k0_pay46 v0)
def vb1 (v0 : IVec S1x128 32) (h : FVec F S256x1024 .bf16) (w : Vec F S1024x128 .bf16) : FVec F S1x1x256x128 .bf16 := k0_pay48 v0 (p128 h w) (k0_pay46 v0)

def gt0 (h : FVec F S256x1024 .bf16) (w : Vec F S1024x1024 .bf16) : FVec F S1x256x1024 .bf16 := k0_pay49 h w

end Blocks

/-! Reads. -/

theorem hb_at (x : Vec Ideal S1x256x1024 .f32) (p : Vec Ideal S1x1024 .f32) (sc sh : Vec Ideal S1x1x1024 .f32) (r : Fin 256) (k : Fin 1024) :
    hb x p sc sh (ix2 r k) = Pool.modn (fun k => x (ix3 0 r k)) (fun k => p (ix2 0 k)) (fun k => sc (ix3 0 0 k)) (fun k => sh (ix3 0 0 k)) k := by
  pointwise [hb, k0_pay3, Pool.modn, Pool.rs]

theorem p512_at (h : FVec Ideal S256x1024 .bf16) (w : Vec Ideal S1024x512 .bf16) (r : Fin 256) (j : Fin 512) :
    p512 h w (ix2 r j) = ∑ k, h (ix2 r k) * w (ix2 k j) := by
  pointwise [p512]

theorem p128_at (h : FVec Ideal S256x1024 .bf16) (w : Vec Ideal S1024x128 .bf16) (r : Fin 256) (j : Fin 128) :
    p128 h w (ix2 r j) = ∑ k, h (ix2 r k) * w (ix2 k j) := by
  pointwise [p128]

theorem turnA_at (v c lo hi : FVec Ideal S256x128 .f32) (r : Fin 256) (l : Fin 128) :
    turnA v c lo hi (ix2 r l) = turn 8 (fun l => v (ix2 r l)) (fun l => c (ix2 r l)) (fun l => lo (ix2 r l)) (fun l => hi (ix2 r l)) l := by
  pointwise [turnA, turn]

theorem turnB_at (v c lo hi : FVec Ideal S256x128 .f32) (r : Fin 256) (l : Fin 128) :
    turnB v c lo hi (ix2 r l) = turn 16 (fun l => v (ix2 r l)) (fun l => c (ix2 r l)) (fun l => lo (ix2 r l)) (fun l => hi (ix2 r l)) l := by
  pointwise [turnB, turn]

theorem rms256_at (v : FVec Ideal S256x256 .f32) (g : Vec Ideal S1x128 .f32) (bd : Vec Ideal S256x256 .bf16) (r l : Fin 256) :
    rms256 v g bd (ix2 r l) = nrm (fun l => v (ix2 r l)) (fun k l => bd (ix2 k l)) (fun l => g (ix2 0 l)) l := by
  have e : (if h : l.val < 128 then g (ix2 0 ⟨l.val, h⟩) else g (ix2 0 ⟨l.val - 128, by omega⟩)) = g (ix2 0 ⟨l.val % 128, Nat.mod_lt _ (by decide)⟩) := by
    by_cases h : l.val < 128
    · rw [dif_pos h]
      exact congrArg (fun z => g (ix2 0 z)) (Fin.ext (Nat.mod_eq_of_lt h).symm)
    · rw [dif_neg h]
      exact congrArg (fun z => g (ix2 0 z)) (Fin.ext (by show l.val - 128 = l.val % 128; omega))
  pointwise [rms256, nrm]
  rw [← e]

theorem rms128_at (v : FVec Ideal S256x128 .f32) (g : Vec Ideal S1x128 .f32) (bd : Vec Ideal S128x128 .bf16) (r : Fin 256) (l : Fin 128) :
    rms128 v g bd (ix2 r l) = nrm (fun l => v (ix2 r l)) (fun k l => bd (ix2 k l)) (fun l => g (ix2 0 l)) l := by
  have e : (⟨l.val % 128, Nat.mod_lt _ (by decide)⟩ : Fin 128) = l := Fin.ext (Nat.mod_eq_of_lt l.isLt)
  pointwise [rms128, nrm]
  rw [e]

theorem lane_lt : ∀ l : Fin 128, IntOp.cmpi CmpIPredicate.slt (BitVec.ofNat 32 l.val) 64#32 = if l.val < 64 then 1#1 else 0#1 := by decide
theorem lane_eq : ∀ l : Fin 128, IntOp.cmpi CmpIPredicate.eq (BitVec.ofNat 32 l.val) 64#32 = if l.val = 64 then 1#1 else 0#1 := by decide

/-! A token's row, and what the call makes of it. -/

/-- The modulated row, the projection, the tables' rows, the norms' weights, and which lanes share a head. -/
structure Row where
  h : Fin 1024 → EReal
  W : Fin 1024 → Fin 3328 → EReal
  ca : Fin 128 → EReal
  la : Fin 128 → EReal
  ua : Fin 128 → EReal
  cb : Fin 128 → EReal
  lb : Fin 128 → EReal
  ub : Fin 128 → EReal
  gq : Fin 128 → EReal
  gk : Fin 128 → EReal
  bd : Fin 256 → Fin 256 → EReal

namespace Row
variable (R : Row)

/-- A column of the projection. -/
def y (n : Fin 3328) : EReal := ∑ k, R.h k * R.W k n

def qaV (n : Fin 512) : EReal :=
  turn 8 (fun l => R.y ⟨128 * (n.val / 128) + l.val, by omega⟩) R.ca R.la R.ua ⟨n.val % 128, Nat.mod_lt _ (by decide)⟩ * qs

def kaV (n : Fin 512) : EReal :=
  turn 8 (fun l => R.y ⟨512 + (128 * (n.val / 128) + l.val), by omega⟩) R.ca R.la R.ua ⟨n.val % 128, Nat.mod_lt _ (by decide)⟩

def vaV (n : Fin 512) : EReal := R.y ⟨1024 + n.val, by omega⟩

/-- The normed queries of the grouped heads, and the normed keys. -/
def qn (n : Fin 512) : EReal :=
  nrm (fun l : Fin 256 => R.y ⟨1536 + (256 * (n.val / 256) + l.val), by omega⟩) R.bd R.gq ⟨n.val % 256, Nat.mod_lt _ (by decide)⟩

def kn (l : Fin 128) : EReal :=
  nrm (fun l : Fin 128 => R.y ⟨2048 + l.val, by omega⟩) (fun k l => R.bd ⟨k.val, by omega⟩ ⟨l.val, by omega⟩) R.gk l

def qbV (n : Fin 512) : EReal :=
  turn 16 (fun l => R.qn ⟨128 * (n.val / 128) + l.val, by omega⟩) R.cb R.lb R.ub ⟨n.val % 128, Nat.mod_lt _ (by decide)⟩ * qs

def ktV (j : Fin 2) (l : Fin 128) : EReal := turn 16 R.kn R.cb R.lb R.ub ⟨64 * j.val + l.val % 64, by omega⟩

def vbV (j : Fin 2) (l : Fin 128) : EReal :=
  if h : l.val < 64 then R.y ⟨2176 + 64 * j.val + l.val, by omega⟩ else if l.val = 64 then 1 else 0

def gV (n : Fin 1024) : EReal := Pool.silu (R.y ⟨2304 + n.val, by omega⟩)

end Row

section Cols
variable (R : Row) (r : Fin 256) (h : FVec Ideal S256x1024 .bf16) (hh : ∀ k, h (ix2 r k) = R.h k)
  (c lo hi : Vec Ideal S256x128 .f32)

include hh

theorem qa0_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨0 + j.val, by omega⟩)
    (l : Fin 128) (n : Fin 512) (hn : n.val = 0 + l.val) : qa0 h w c lo hi (ix3 0 r l) = R.qaV n := by
  have e1 : n.val / 128 = 0 := by omega
  have e2 : n.val % 128 = l.val := by omega
  simp only [Row.qaV, e1, e2, Fin.eta]
  pointwise [qa0, scaled, plain, turnA_at, p512_at, tb, Row.y, qs, turn, hh, hw, hc, hl, hu]

theorem qa1_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨0 + j.val, by omega⟩)
    (l : Fin 128) (n : Fin 512) (hn : n.val = 128 + l.val) : qa1 h w c lo hi (ix3 0 r l) = R.qaV n := by
  have e1 : n.val / 128 = 1 := by omega
  have e2 : n.val % 128 = l.val := by omega
  simp only [Row.qaV, e1, e2, Fin.eta]
  pointwise [qa1, scaled, plain, turnA_at, p512_at, tb, Row.y, qs, turn, hh, hw, hc, hl, hu]

theorem qa2_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨0 + j.val, by omega⟩)
    (l : Fin 128) (n : Fin 512) (hn : n.val = 256 + l.val) : qa2 h w c lo hi (ix3 0 r l) = R.qaV n := by
  have e1 : n.val / 128 = 2 := by omega
  have e2 : n.val % 128 = l.val := by omega
  simp only [Row.qaV, e1, e2, Fin.eta]
  pointwise [qa2, scaled, plain, turnA_at, p512_at, tb, Row.y, qs, turn, hh, hw, hc, hl, hu]

theorem qa3_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨0 + j.val, by omega⟩)
    (l : Fin 128) (n : Fin 512) (hn : n.val = 384 + l.val) : qa3 h w c lo hi (ix3 0 r l) = R.qaV n := by
  have e1 : n.val / 128 = 3 := by omega
  have e2 : n.val % 128 = l.val := by omega
  simp only [Row.qaV, e1, e2, Fin.eta]
  pointwise [qa3, scaled, plain, turnA_at, p512_at, tb, Row.y, qs, turn, hh, hw, hc, hl, hu]

theorem ka0_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨512 + j.val, by omega⟩)
    (l : Fin 128) (n : Fin 512) (hn : n.val = 0 + l.val) : ka0 h w c lo hi (ix3 0 r l) = R.kaV n := by
  have e1 : n.val / 128 = 0 := by omega
  have e2 : n.val % 128 = l.val := by omega
  simp only [Row.kaV, e1, e2, Fin.eta]
  pointwise [ka0, plain, turnA_at, p512_at, tb, Row.y, qs, turn, hh, hw, hc, hl, hu]

theorem ka1_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨512 + j.val, by omega⟩)
    (l : Fin 128) (n : Fin 512) (hn : n.val = 128 + l.val) : ka1 h w c lo hi (ix3 0 r l) = R.kaV n := by
  have e1 : n.val / 128 = 1 := by omega
  have e2 : n.val % 128 = l.val := by omega
  simp only [Row.kaV, e1, e2, Fin.eta]
  pointwise [ka1, plain, turnA_at, p512_at, tb, Row.y, qs, turn, hh, hw, hc, hl, hu]

theorem ka2_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨512 + j.val, by omega⟩)
    (l : Fin 128) (n : Fin 512) (hn : n.val = 256 + l.val) : ka2 h w c lo hi (ix3 0 r l) = R.kaV n := by
  have e1 : n.val / 128 = 2 := by omega
  have e2 : n.val % 128 = l.val := by omega
  simp only [Row.kaV, e1, e2, Fin.eta]
  pointwise [ka2, plain, turnA_at, p512_at, tb, Row.y, qs, turn, hh, hw, hc, hl, hu]

theorem ka3_row (hc : ∀ l, c (ix2 r l) = R.ca l) (hl : ∀ l, lo (ix2 r l) = R.la l) (hu : ∀ l, hi (ix2 r l) = R.ua l)
    (w : Vec Ideal S1024x512 .bf16) (hw : ∀ k (j : Fin 512), w (ix2 k j) = R.W k ⟨512 + j.val, by omega⟩)
    (l : Fin 128) (n : Fin 512) (hn : n.val = 384 + l.val) : ka3 h w c lo hi (ix3 0 r l) = R.kaV n := by
  have e1 : n.val / 128 = 3 := by omega
  have e2 : n.val % 128 = l.val := by omega
  simp only [Row.kaV, e1, e2, Fin.eta]
  pointwise [ka3, plain, turnA_at, p512_at, tb, Row.y, qs, turn, hh, hw, hc, hl, hu]

theorem va0_row (w : Vec Ideal S1024x512 .bf16) (hw : ∀ k (j : Fin 512), w (ix2 k j) = R.W k ⟨1024 + j.val, by omega⟩) (n : Fin 512) :
    va0 h w (ix3 0 r n) = R.vaV n := by
  pointwise [va0, p512_at, Row.vaV, Row.y, hh, hw]

theorem g_row (w : Vec Ideal S1024x1024 .bf16) (hw : ∀ k (j : Fin 1024), w (ix2 k j) = R.W k ⟨2304 + j.val, by omega⟩) (n : Fin 1024) :
    gt0 h w (ix3 0 r n) = R.gV n := by
  pointwise [gt0, k0_pay49, Row.gV, Row.y, Pool.silu, hh, hw]

theorem qbl_row (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 256) (n : Fin 512) (hn : n.val = 0 + l.val) : qbl h w g bd (ix2 r l) = R.qn n := by
  have e1 : n.val / 256 = 0 := by omega
  have e2 : n.val % 256 = l.val := by omega
  simp only [Row.qn, e1, e2, Fin.eta]
  pointwise [qbl, rms256_at, p512_at, Row.y, nrm, hh, hw, hg, hb]

theorem qbh_row (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 256) (n : Fin 512) (hn : n.val = 256 + l.val) : qbh h w g bd (ix2 r l) = R.qn n := by
  have e1 : n.val / 256 = 1 := by omega
  have e2 : n.val % 256 = l.val := by omega
  simp only [Row.qn, e1, e2, Fin.eta]
  pointwise [qbh, rms256_at, p512_at, Row.y, nrm, hh, hw, hg, hb]

theorem qb0_row (hc : ∀ l, c (ix2 r l) = R.cb l) (hl : ∀ l, lo (ix2 r l) = R.lb l) (hu : ∀ l, hi (ix2 r l) = R.ub l)
    (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 128) (n : Fin 512) (hn : n.val = 0 + l.val) : qb0 h w g bd c lo hi (ix3 0 r l) = R.qbV n := by
  have e1 : n.val / 128 = 0 := by omega
  have e2 : n.val % 128 = l.val := by omega
  have e (l : Fin 128) : qbl h w g bd (ix2 r ⟨0 + l.val, by omega⟩) = R.qn ⟨0 + l.val, by omega⟩ :=
    qbl_row R r h hh w hw g hg bd hb _ _ (by show 0 + l.val = 0 + (0 + l.val); omega)
  have ea := e ⟨(l.val + 128 - 112) % 128, Nat.mod_lt _ (by decide)⟩
  have eb := e ⟨(l.val + 128 - 16) % 128, Nat.mod_lt _ (by decide)⟩
  dsimp only at ea eb
  try simp only [Nat.zero_add] at e ea eb
  simp only [Row.qbV, e1, e2, Fin.eta, turn]
  pointwise [qb0, scaled, plain, turnB_at, tb, qs, turn, hc, hl, hu, e, ea, eb]

theorem qb1_row (hc : ∀ l, c (ix2 r l) = R.cb l) (hl : ∀ l, lo (ix2 r l) = R.lb l) (hu : ∀ l, hi (ix2 r l) = R.ub l)
    (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 128) (n : Fin 512) (hn : n.val = 128 + l.val) : qb1 h w g bd c lo hi (ix3 0 r l) = R.qbV n := by
  have e1 : n.val / 128 = 1 := by omega
  have e2 : n.val % 128 = l.val := by omega
  have e (l : Fin 128) : qbl h w g bd (ix2 r ⟨128 + l.val, by omega⟩) = R.qn ⟨128 + l.val, by omega⟩ :=
    qbl_row R r h hh w hw g hg bd hb _ _ (by show 128 + l.val = 0 + (128 + l.val); omega)
  have ea := e ⟨(l.val + 128 - 112) % 128, Nat.mod_lt _ (by decide)⟩
  have eb := e ⟨(l.val + 128 - 16) % 128, Nat.mod_lt _ (by decide)⟩
  dsimp only at ea eb
  try simp only [Nat.zero_add] at e ea eb
  simp only [Row.qbV, e1, e2, Fin.eta, turn]
  pointwise [qb1, scaled, plain, turnB_at, tb, qs, turn, hc, hl, hu, e, ea, eb]

theorem qb2_row (hc : ∀ l, c (ix2 r l) = R.cb l) (hl : ∀ l, lo (ix2 r l) = R.lb l) (hu : ∀ l, hi (ix2 r l) = R.ub l)
    (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 128) (n : Fin 512) (hn : n.val = 256 + l.val) : qb2 h w g bd c lo hi (ix3 0 r l) = R.qbV n := by
  have e1 : n.val / 128 = 2 := by omega
  have e2 : n.val % 128 = l.val := by omega
  have e (l : Fin 128) : qbh h w g bd (ix2 r ⟨0 + l.val, by omega⟩) = R.qn ⟨256 + l.val, by omega⟩ :=
    qbh_row R r h hh w hw g hg bd hb _ _ (by show 256 + l.val = 256 + (0 + l.val); omega)
  have ea := e ⟨(l.val + 128 - 112) % 128, Nat.mod_lt _ (by decide)⟩
  have eb := e ⟨(l.val + 128 - 16) % 128, Nat.mod_lt _ (by decide)⟩
  dsimp only at ea eb
  try simp only [Nat.zero_add] at e ea eb
  simp only [Row.qbV, e1, e2, Fin.eta, turn]
  pointwise [qb2, scaled, plain, turnB_at, tb, qs, turn, hc, hl, hu, e, ea, eb]

theorem qb3_row (hc : ∀ l, c (ix2 r l) = R.cb l) (hl : ∀ l, lo (ix2 r l) = R.lb l) (hu : ∀ l, hi (ix2 r l) = R.ub l)
    (w : Vec Ideal S1024x512 .bf16) (hw : ∀ k (j : Fin 512), w (ix2 k j) = R.W k ⟨1536 + j.val, by omega⟩)
    (g : Vec Ideal S1x128 .f32) (hg : ∀ l, g (ix2 0 l) = R.gq l) (bd : Vec Ideal S256x256 .bf16) (hb : ∀ k l, bd (ix2 k l) = R.bd k l)
    (l : Fin 128) (n : Fin 512) (hn : n.val = 384 + l.val) : qb3 h w g bd c lo hi (ix3 0 r l) = R.qbV n := by
  have e1 : n.val / 128 = 3 := by omega
  have e2 : n.val % 128 = l.val := by omega
  have e (l : Fin 128) : qbh h w g bd (ix2 r ⟨128 + l.val, by omega⟩) = R.qn ⟨384 + l.val, by omega⟩ :=
    qbh_row R r h hh w hw g hg bd hb _ _ (by show 384 + l.val = 256 + (128 + l.val); omega)
  have ea := e ⟨(l.val + 128 - 112) % 128, Nat.mod_lt _ (by decide)⟩
  have eb := e ⟨(l.val + 128 - 16) % 128, Nat.mod_lt _ (by decide)⟩
  dsimp only at ea eb
  try simp only [Nat.zero_add] at e ea eb
  simp only [Row.qbV, e1, e2, Fin.eta, turn]
  pointwise [qb3, scaled, plain, turnB_at, tb, qs, turn, hc, hl, hu, e, ea, eb]

theorem kt0_row (hc : ∀ l, c (ix2 r l) = R.cb l) (hl : ∀ l, lo (ix2 r l) = R.lb l) (hu : ∀ l, hi (ix2 r l) = R.ub l)
    (w : Vec Ideal S1024x128 .bf16) (hw : ∀ k (j : Fin 128), w (ix2 k j) = R.W k ⟨2048 + j.val, by omega⟩)
    (g : Vec Ideal S1x128 .f32) (hg : ∀ l, g (ix2 0 l) = R.gk l) (bd : Vec Ideal S128x128 .bf16)
    (hb : ∀ (k l : Fin 128), bd (ix2 k l) = R.bd ⟨k.val, by omega⟩ ⟨l.val, by omega⟩)
    (l : Fin 128) : kt0 h w g bd c lo hi (ix4 0 0 l r) = R.ktV 0 l := by
  have e (l : Fin 128) : rms128 (p128 h w) g bd (ix2 r l) = R.kn l := by
    rw [rms128_at]
    simp only [p128_at, Row.kn, Row.y, hh, hw, hg, hb]
  have e3 (l : Fin 128) : ktT h w g bd c lo hi (ix2 l r) = turn 16 R.kn R.cb R.lb R.ub l := by
    unfold ktT
    pointwise [turnB_at, tb, turn, hc, hl, hu, e]
  unfold Row.ktV
  rw [← e3]
  generalize hX : ktT h w g bd c lo hi = X
  by_cases hlt : l.val < 64
  · have e4 : l.val % 64 = l.val := Nat.mod_eq_of_lt hlt
    pointwise [kt0, hX, e4]
    rw [dif_pos hlt]
  · have e4 : l.val % 64 = l.val - 64 := by omega
    pointwise [kt0, hX, e4]
    rw [dif_neg hlt]

theorem kt1_row (hc : ∀ l, c (ix2 r l) = R.cb l) (hl : ∀ l, lo (ix2 r l) = R.lb l) (hu : ∀ l, hi (ix2 r l) = R.ub l)
    (w : Vec Ideal S1024x128 .bf16) (hw : ∀ k (j : Fin 128), w (ix2 k j) = R.W k ⟨2048 + j.val, by omega⟩)
    (g : Vec Ideal S1x128 .f32) (hg : ∀ l, g (ix2 0 l) = R.gk l) (bd : Vec Ideal S128x128 .bf16)
    (hb : ∀ (k l : Fin 128), bd (ix2 k l) = R.bd ⟨k.val, by omega⟩ ⟨l.val, by omega⟩)
    (l : Fin 128) : kt1 h w g bd c lo hi (ix4 0 0 l r) = R.ktV 1 l := by
  have e (l : Fin 128) : rms128 (p128 h w) g bd (ix2 r l) = R.kn l := by
    rw [rms128_at]
    simp only [p128_at, Row.kn, Row.y, hh, hw, hg, hb]
  have e3 (l : Fin 128) : ktT h w g bd c lo hi (ix2 l r) = turn 16 R.kn R.cb R.lb R.ub l := by
    unfold ktT
    pointwise [turnB_at, tb, turn, hc, hl, hu, e]
  unfold Row.ktV
  rw [← e3]
  generalize hX : ktT h w g bd c lo hi = X
  by_cases hlt : l.val < 64
  · have e4 : l.val % 64 = l.val := Nat.mod_eq_of_lt hlt
    pointwise [kt1, hX, e4]
    rw [dif_pos hlt]
  · have e4 : l.val % 64 = l.val - 64 := by omega
    pointwise [kt1, hX, e4]
    rw [dif_neg hlt]

theorem vb0_row (v0 : IVec S1x128 32) (h0 : v0 = iota .tc S1x128 32 [1] iota_S1x128_d1_w32)
    (w : Vec Ideal S1024x128 .bf16) (hw : ∀ k (j : Fin 128), w (ix2 k j) = R.W k ⟨2176 + j.val, by omega⟩)
    (l : Fin 128) : vb0 v0 h w (ix4 0 0 r l) = R.vbV 0 l := by
  subst h0
  unfold Row.vbV
  pointwise [vb0, k0_pay47, k0_pay46, p128_at, Row.y, hh, hw]
  rw [lane_lt, lane_eq]
  by_cases h1 : l.val < 64
  · rw [if_pos h1, dif_pos h1, ValueIdx.select_one]
  · rw [if_neg h1, dif_neg h1, ValueIdx.select_zero]
    by_cases h2 : l.val = 64
    · rw [if_pos h2, if_pos h2, ValueIdx.select_one]
    · rw [if_neg h2, if_neg h2, ValueIdx.select_zero]

theorem vb1_row (v0 : IVec S1x128 32) (h0 : v0 = iota .tc S1x128 32 [1] iota_S1x128_d1_w32)
    (w : Vec Ideal S1024x128 .bf16) (hw : ∀ k (j : Fin 128), w (ix2 k j) = R.W k ⟨2176 + j.val, by omega⟩)
    (l : Fin 128) : vb1 v0 h w (ix4 0 0 r l) = R.vbV 1 l := by
  subst h0
  unfold Row.vbV
  pointwise [vb1, k0_pay48, k0_pay46, p128_at, Row.y, hh, hw]
  rw [lane_lt, lane_eq]
  by_cases h1 : l.val < 64
  · rw [if_pos h1, dif_pos h1, ValueIdx.select_one]
    have e : (l.val + 128 - 64) % 128 = 64 + l.val := by omega
    simp only [e, ← Nat.add_assoc]
  · rw [if_neg h1, dif_neg h1, ValueIdx.select_zero]
    by_cases h2 : l.val = 64
    · rw [if_pos h2, if_pos h2, ValueIdx.select_one]
    · rw [if_neg h2, if_neg h2, ValueIdx.select_zero]

end Cols

end Front

end
-- ==== Proof.FrontOut.lean ====
/- The front call's output blocks, at an element, from its input blocks. -/
module

public import Idealize.ShloMosaic.Lib.Pipeline.ValueKit
public import proofs.«01_k».proof.Proof.FrontRow
public import proofs.«01_k».proof.Proof.Load
public import proofs.«01_k».proof.Proof.Gen.Kernel3Ideal.Frame

@[expose] public section

set_option maxRecDepth 16384

noncomputable section

namespace Front

open Cert.Kernel3Ideal Cert.Kernel3Ideal.Gen Idealize.ShloMosaic Idealize.ShloMosaic.TcCoe
open Cert.Kernel3Ideal.Facts

variable (x0 : Vec Ideal S1x1024x1024 .f32) (x1 x2 : Vec Ideal S1x1x1024 .f32) (x3 : Vec Ideal S1x1024 .f32) (x4 : Vec Ideal S1024x3328 .bf16)
  (x5 x6 : Vec Ideal S1x128 .f32) (x7 : Vec Ideal S256x256 .bf16) (x8 x9 x10 x11 x12 x13 : Vec Ideal S1024x128 .f32)

/-- The row of a block's token. -/
def rowOf (t : Fin 1024) : Row where
  h := Pool.modn (fun k => x0 (ix3 0 t k)) (fun k => x3 (ix2 0 k)) (fun k => x2 (ix3 0 0 k)) (fun k => x1 (ix3 0 0 k))
  W k n := x4 (ix2 k n)
  ca l := x8 (ix2 t l)
  la l := x9 (ix2 t l)
  ua l := x10 (ix2 t l)
  cb l := x11 (ix2 t l)
  lb l := x12 (ix2 t l)
  ub l := x13 (ix2 t l)
  gq l := x5 (ix2 0 l)
  gk l := x6 (ix2 0 l)
  bd k l := x7 (ix2 k l)

theorem h_row (o : ℕ) (inb) (i1) (i2) (i3) (r : Fin 256) (t : Fin 1024) (ht : t.val = o + r.val) (k : Fin 1024) :
    hb (View.ld x0 (Rect.unit (s := ⟨3, ![1, 1024, 1024]⟩) ![0, o, 0] ![1, 256, 1024] inb)) (View.ld x3 (Rect.unit (s := ⟨2, ![1, 1024]⟩) ![0, 0] ![1, 1024] i1))
        (View.ld x2 (Rect.unit (s := ⟨3, ![1, 1, 1024]⟩) ![0, 0, 0] ![1, 1, 1024] i2)) (View.ld x1 (Rect.unit (s := ⟨3, ![1, 1, 1024]⟩) ![0, 0, 0] ![1, 1, 1024] i3)) (ix2 r k)
      = (rowOf x0 x1 x2 x3 x4 x5 x6 x7 x8 x9 x10 x11 x12 x13 t).h k := by
  refine (hb_at _ _ _ _ r k).trans ?_
  have e0 : (fun k => View.ld x0 (Rect.unit (s := ⟨3, ![1, 1024, 1024]⟩) ![0, o, 0] ![1, 256, 1024] inb) (ix3 0 r k)) = fun k => x0 (ix3 0 t k) :=
    funext fun k => Pool.ld3 x0 0 o 0 inb 0 r k 0 t k rfl ht (Nat.zero_add _).symm
  have e1 : (fun k => View.ld x3 (Rect.unit (s := ⟨2, ![1, 1024]⟩) ![0, 0] ![1, 1024] i1) (ix2 0 k)) = fun k => x3 (ix2 0 k) :=
    funext fun k => Pool.ld2 x3 0 0 i1 0 k 0 k rfl (Nat.zero_add _).symm
  have e2 : (fun k => View.ld x2 (Rect.unit (s := ⟨3, ![1, 1, 1024]⟩) ![0, 0, 0] ![1, 1, 1024] i2) (ix3 0 0 k)) = fun k => x2 (ix3 0 0 k) :=
    funext fun k => Pool.ld3 x2 0 0 0 i2 0 0 k 0 0 k rfl rfl (Nat.zero_add _).symm
  have e3 : (fun k => View.ld x1 (Rect.unit (s := ⟨3, ![1, 1, 1024]⟩) ![0, 0, 0] ![1, 1, 1024] i3) (ix3 0 0 k)) = fun k => x1 (ix3 0 0 k) :=
    funext fun k => Pool.ld3 x1 0 0 0 i3 0 0 k 0 0 k rfl rfl (Nat.zero_add _).symm
  exact congrFun (congr (congr (congr (congrArg Pool.modn e0) e1) e2) e3) k

theorem i3 {A B : ℕ} (x : (⟨3, ![1, A, B]⟩ : Shape).Idx) : ∃ (t : Fin A) (l : Fin B), t.val = (x 1).val ∧ l.val = (x 2).val ∧ x = ix3 0 t l := by
  refine ⟨x 1, x 2, rfl, rfl, ?_⟩
  funext a
  match a with
  | 0 => exact Subsingleton.elim (α := Fin 1) _ _
  | 1 => rfl
  | 2 => rfl

theorem i4 {A B : ℕ} (x : (⟨4, ![1, 1, A, B]⟩ : Shape).Idx) : ∃ (t : Fin A) (l : Fin B), t.val = (x 2).val ∧ l.val = (x 3).val ∧ x = ix4 0 0 t l := by
  refine ⟨x 2, x 3, rfl, rfl, ?_⟩
  funext a
  match a with
  | 0 => exact Subsingleton.elim (α := Fin 1) _ _
  | 1 => exact Subsingleton.elim (α := Fin 1) _ _
  | 2 => rfl
  | 3 => rfl

set_option maxHeartbeats 3200000 in
theorem out14 (y : S1x1024x512.Idx) : out0_14 x0 x1 x2 x3 x4 x5 x6 x7 x8 x9 x10 x11 x12 x13 y = (rowOf x0 x1 x2 x3 x4 x5 x6 x7 x8 x9 x10 x11 x12 x13 (y 1)).qaV (y 2) := by
  canon_tiles x h
  · obtain ⟨r, l, hr, hl, rfl⟩ := i3 x
    exact qa3_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa2_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa1_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa0_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa3_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa2_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa1_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa0_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa3_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa2_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa1_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa0_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa3_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa2_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa1_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_4) (fun k j => Pool.ld2 x4 0 0 _ k j k _ (Nat.zero_add _).symm rfl) l (y 2) (by omega)
  · obtain ⟨r, l, hr, hl, rfl⟩ := i3 x
    exact qa0_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_4) (fun k j => Pool.ld2 x4 0 0 _ k j k _ (Nat.zero_add _).symm rfl) l (y 2) (by omega)

set_option maxHeartbeats 3200000 in
theorem out15 (y : S1x1024x512.Idx) : out0_15 x0 x1 x2 x3 x4 x5 x6 x7 x8 x9 x10 x11 x12 x13 y = (rowOf x0 x1 x2 x3 x4 x5 x6 x7 x8 x9 x10 x11 x12 x13 (y 1)).kaV (y 2) := by
  canon_tiles x h
  · obtain ⟨r, l, hr, hl, rfl⟩ := i3 x
    exact ka3_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka2_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka1_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka0_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x8 r0_46) (View.ld x9 r0_46) (View.ld x10 r0_46) (fun l => Pool.ld2 x8 768 0 _ r l (y 1) l (by omega) (Nat.zero_add _).symm) (fun l => Pool.ld2 x9 768 0 _ r l (y 1) l (by omega) (Nat.zero_add _).symm) (fun l => Pool.ld2 x10 768 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka3_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka2_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka1_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka0_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x8 r0_35) (View.ld x9 r0_35) (View.ld x10 r0_35) (fun l => Pool.ld2 x8 512 0 _ r l (y 1) l (by omega) (Nat.zero_add _).symm) (fun l => Pool.ld2 x9 512 0 _ r l (y 1) l (by omega) (Nat.zero_add _).symm) (fun l => Pool.ld2 x10 512 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka3_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka2_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka1_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka0_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x8 r0_24) (View.ld x9 r0_24) (View.ld x10 r0_24) (fun l => Pool.ld2 x8 256 0 _ r l (y 1) l (by omega) (Nat.zero_add _).symm) (fun l => Pool.ld2 x9 256 0 _ r l (y 1) l (by omega) (Nat.zero_add _).symm) (fun l => Pool.ld2 x10 256 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka3_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka2_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka1_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_9) (fun k j => Pool.ld2 x4 0 512 _ k j k _ (Nat.zero_add _).symm rfl) l (y 2) (by omega)
  · obtain ⟨r, l, hr, hl, rfl⟩ := i3 x
    exact ka0_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x8 r0_3) (View.ld x9 r0_3) (View.ld x10 r0_3) (fun l => Pool.ld2 x8 0 0 _ r l (y 1) l (by omega) (Nat.zero_add _).symm) (fun l => Pool.ld2 x9 0 0 _ r l (y 1) l (by omega) (Nat.zero_add _).symm) (fun l => Pool.ld2 x10 0 0 _ r l (y 1) l (by omega) (Nat.zero_add _).symm) (View.ld x4 r0_9) (fun k j => Pool.ld2 x4 0 512 _ k j k _ (Nat.zero_add _).symm rfl) l (y 2) (by omega)

set_option maxHeartbeats 3200000 in
theorem out17 (y : S1x1024x512.Idx) : out0_17 x0 x1 x2 x3 x4 x5 x6 x7 x8 x9 x10 x11 x12 x13 y = (rowOf x0 x1 x2 x3 x4 x5 x6 x7 x8 x9 x10 x11 x12 x13 (y 1)).qbV (y 2) := by
  canon_tiles x h
  · obtain ⟨r, l, hr, hl, rfl⟩ := i3 x
    exact qb3_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x11 r0_46) (View.ld x12 r0_46) (View.ld x13 r0_46) (fun l => Pool.ld2 x11 768 0 _ r l (y 1) l (by omega) (Nat.zero_add _).symm) (fun l => Pool.ld2 x12 768 0 _ r l (y 1) l (by omega) (Nat.zero_add _).symm) (fun l => Pool.ld2 x13 768 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb2_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x11 r0_46) (View.ld x12 r0_46) (View.ld x13 r0_46) (fun l => Pool.ld2 x11 768 0 _ r l (y 1) l (by omega) (Nat.zero_add _).symm) (fun l => Pool.ld2 x12 768 0 _ r l (y 1) l (by omega) (Nat.zero_add _).symm) (fun l => Pool.ld2 x13 768 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb1_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x11 r0_46) (View.ld x12 r0_46) (View.ld x13 r0_46) (fun l => Pool.ld2 x11 768 0 _ r l (y 1) l (by omega) (Nat.zero_add _).symm) (fun l => Pool.ld2 x12 768 0 _ r l (y 1) l (by omega) (Nat.zero_add _).symm) (fun l => Pool.ld2 x13 768 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb0_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x11 r0_46) (View.ld x12 r0_46) (View.ld x13 r0_46) (fun l => Pool.ld2 x11 768 0 _ r l (y 1) l (by omega) (Nat.zero_add _).symm) (fun l => Pool.ld2 x12 768 0 _ r l (y 1) l (by omega) (Nat.zero_add _).symm) (fun l => Pool.ld2 x13 768 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb3_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x11 r0_35) (View.ld x12 r0_35) (View.ld x13 r0_35) (fun l => Pool.ld2 x11 512 0 _ r l (y 1) l (by omega) (Nat.zero_add _).symm) (fun l => Pool.ld2 x12 512 0 _ r l (y 1) l (by omega) (Nat.zero_add _).symm) (fun l => Pool.ld2 x13 512 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb2_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x11 r0_35) (View.ld x12 r0_35) (View.ld x13 r0_35) (fun l => Pool.ld2 x11 512 0 _ r l (y 1) l (by omega) (Nat.zero_add _).symm) (fun l => Pool.ld2 x12 512 0 _ r l (y 1) l (by omega) (Nat.zero_add _).symm) (fun l => Pool.ld2 x13 512 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb1_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x11 r0_35) (View.ld x12 r0_35) (View.ld x13 r0_35) (fun l => Pool.ld2 x11 512 0 _ r l (y 1) l (by omega) (Nat.zero_add _).symm) (fun l => Pool.ld2 x12 512 0 _ r l (y 1) l (by omega) (Nat.zero_add _).symm) (fun l => Pool.ld2 x13 512 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb0_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x11 r0_35) (View.ld x12 r0_35) (View.ld x13 r0_35) (fun l => Pool.ld2 x11 512 0 _ r l (y 1) l (by omega) (Nat.zero_add _).symm) (fun l => Pool.ld2 x12 512 0 _ r l (y 1) l (by omega) (Nat.zero_add _).symm) (fun l => Pool.ld2 x13 512 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb3_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x11 r0_24) (View.ld x12 r0_24) (View.ld x13 r0_24) (fun l => Pool.ld2 x11 256 0 _ r l (y 1) l (by omega) (Nat.zero_add _).symm) (fun l => Pool.ld2 x12 256 0 _ r l (y 1) l (by omega) (Nat.zero_add _).symm) (fun l => Pool.ld2 x13 256 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb2_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x11 r0_24) (View.ld x12 r0_24) (View.ld x13 r0_24) (fun l => Pool.ld2 x11 256 0 _ r l (y 1) l (by omega) (Nat.zero_add _).symm) (fun l => Pool.ld2 x12 256 0 _ r l (y 1) l (by omega) (Nat.zero_add _).symm) (fun l => Pool.ld2 x13 256 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb1_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x11 r0_24) (View.ld x12 r0_24) (View.ld x13 r0_24) (fun l => Pool.ld2 x11 256 0 _ r l (y 1) l (by omega) (Nat.zero_add _).symm) (fun l => Pool.ld2 x12 256 0 _ r l (y 1) l (by omega) (Nat.zero_add _).symm) (fun l => Pool.ld2 x13 256 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb0_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x11 r0_24) (View.ld x12 r0_24) (View.ld x13 r0_24) (fun l => Pool.ld2 x11 256 0 _ r l (y 1) l (by omega) (Nat.zero_add _).symm) (fun l => Pool.ld2 x12 256 0 _ r l (y 1) l (by omega) (Nat.zero_add _).symm) (fun l => Pool.ld2 x13 256 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb3_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x11 r0_3) (View.ld x12 r0_3) (View.ld x13 r0_3) (fun l => Pool.ld2 x11 0 0 _ r l (y 1) l (by omega) (Nat.zero_add _).symm) (fun l => Pool.ld2 x12 0 0 _ r l (y 1) l (by omega) (Nat.zero_add _).symm) (fun l => Pool.ld2 x13 0 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb2_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x11 r0_3) (View.ld x12 r0_3) (View.ld x13 r0_3) (fun l => Pool.ld2 x11 0 0 _ r l (y 1) l (by omega) (Nat.zero_add _).symm) (fun l => Pool.ld2 x12 0 0 _ r l (y 1) l (by omega) (Nat.zero_add _).symm) (fun l => Pool.ld2 x13 0 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb1_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x11 r0_3) (View.ld x12 r0_3) (View.ld x13 r0_3) (fun l => Pool.ld2 x11 0 0 _ r l (y 1) l (by omega) (Nat.zero_add _).symm) (fun l => Pool.ld2 x12 0 0 _ r l (y 1) l (by omega) (Nat.zero_add _).symm) (fun l => Pool.ld2 x13 0 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)
  · obtain ⟨r, l, hr, hl, rfl⟩ := i3 x
    exact qb0_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x11 r0_3) (View.ld x12 r0_3) (View.ld x13 r0_3) (fun l => Pool.ld2 x11 0 0 _ r l (y 1) l (by omega) (Nat.zero_add _).symm) (fun l => Pool.ld2 x12 0 0 _ r l (y 1) l (by omega) (Nat.zero_add _).symm) (fun l => Pool.ld2 x13 0 0 _ r l (y 1) l (by omega) (Nat.zero_add _).symm) (View.ld x4 r0_12) (fun k j => Pool.ld2 x4 0 1536 _ k j k _ (Nat.zero_add _).symm rfl) (View.ld x5 r0_13) (fun l => Pool.ld2 x5 0 0 _ 0 l 0 l rfl (Nat.zero_add _).symm) (View.ld x7 r0_14) (fun k l => Pool.ld2 x7 0 0 _ k l k l (Nat.zero_add _).symm (Nat.zero_add _).symm) l (y 2) (by omega)

set_option maxHeartbeats 3200000 in
theorem out16 (y : S1x1024x512.Idx) : out0_16 x0 x1 x2 x3 x4 x5 x6 x7 x8 x9 x10 x11 x12 x13 y = (rowOf x0 x1 x2 x3 x4 x5 x6 x7 x8 x9 x10 x11 x12 x13 (y 1)).vaV (y 2) := by
  canon_tiles x h
  · obtain ⟨r, l, hr, hl, rfl⟩ := i3 x
    obtain rfl : l = y 2 := Fin.ext (by omega)
    exact va0_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x4 r0_10) (fun k j => Pool.ld2 x4 0 1024 _ k j k _ (Nat.zero_add _).symm rfl) (y 2)
  · obtain ⟨r, l, hr, hl, rfl⟩ := i3 x
    obtain rfl : l = y 2 := Fin.ext (by omega)
    exact va0_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x4 r0_10) (fun k j => Pool.ld2 x4 0 1024 _ k j k _ (Nat.zero_add _).symm rfl) (y 2)
  · obtain ⟨r, l, hr, hl, rfl⟩ := i3 x
    obtain rfl : l = y 2 := Fin.ext (by omega)
    exact va0_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x4 r0_10) (fun k j => Pool.ld2 x4 0 1024 _ k j k _ (Nat.zero_add _).symm rfl) (y 2)
  · obtain ⟨r, l, hr, hl, rfl⟩ := i3 x
    obtain rfl : l = y 2 := Fin.ext (by omega)
    exact va0_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x4 r0_10) (fun k j => Pool.ld2 x4 0 1024 _ k j k _ (Nat.zero_add _).symm rfl) (y 2)

set_option maxHeartbeats 3200000 in
theorem out20 (y : S1x1024x1024.Idx) : out0_20 x0 x1 x2 x3 x4 x5 x6 x7 x8 x9 x10 x11 x12 x13 y = (rowOf x0 x1 x2 x3 x4 x5 x6 x7 x8 x9 x10 x11 x12 x13 (y 1)).gV (y 2) := by
  canon_tiles x h
  · obtain ⟨r, l, hr, hl, rfl⟩ := i3 x
    obtain rfl : l = y 2 := Fin.ext (by omega)
    exact g_row (rowOf x0 x1 x2 x3 x4 x5 x6 x7 x8 x9 x10 x11 x12 x13 (y 1)) r (hb (View.ld x0 r0_45) (View.ld x3 r0_1) (View.ld x2 r0_2) (View.ld x1 r0_2)) (h_row x0 x1 x2 x3 x4 x5 x6 x7 x8 x9 x10 x11 x12 x13 768 _ _ _ _ r (y 1) (by omega)) (View.ld x4 r0_22) (fun k j => Pool.ld2 x4 0 2304 _ k j k _ (Nat.zero_add _).symm rfl) (y 2)
  · obtain ⟨r, l, hr, hl, rfl⟩ := i3 x
    obtain rfl : l = y 2 := Fin.ext (by omega)
    exact g_row (rowOf x0 x1 x2 x3 x4 x5 x6 x7 x8 x9 x10 x11 x12 x13 (y 1)) r (hb (View.ld x0 r0_34) (View.ld x3 r0_1) (View.ld x2 r0_2) (View.ld x1 r0_2)) (h_row x0 x1 x2 x3 x4 x5 x6 x7 x8 x9 x10 x11 x12 x13 512 _ _ _ _ r (y 1) (by omega)) (View.ld x4 r0_22) (fun k j => Pool.ld2 x4 0 2304 _ k j k _ (Nat.zero_add _).symm rfl) (y 2)
  · obtain ⟨r, l, hr, hl, rfl⟩ := i3 x
    obtain rfl : l = y 2 := Fin.ext (by omega)
    exact g_row (rowOf x0 x1 x2 x3 x4 x5 x6 x7 x8 x9 x10 x11 x12 x13 (y 1)) r (hb (View.ld x0 r0_23) (View.ld x3 r0_1) (View.ld x2 r0_2) (View.ld x1 r0_2)) (h_row x0 x1 x2 x3 x4 x5 x6 x7 x8 x9 x10 x11 x12 x13 256 _ _ _ _ r (y 1) (by omega)) (View.ld x4 r0_22) (fun k j => Pool.ld2 x4 0 2304 _ k j k _ (Nat.zero_add _).symm rfl) (y 2)
  · obtain ⟨r, l, hr, hl, rfl⟩ := i3 x
    obtain rfl : l = y 2 := Fin.ext (by omega)
    exact g_row (rowOf x0 x1 x2 x3 x4 x5 x6 x7 x8 x9 x10 x11 x12 x13 (y 1)) r (hb (View.ld x0 r0_0) (View.ld x3 r0_1) (View.ld x2 r0_2) (View.ld x1 r0_2)) (h_row x0 x1 x2 x3 x4 x5 x6 x7 x8 x9 x10 x11 x12 x13 0 _ _ _ _ r (y 1) (by omega)) (View.ld x4 r0_22) (fun k j => Pool.ld2 x4 0 2304 _ k j k _ (Nat.zero_add _).symm rfl) (y 2)

set_option maxHeartbeats 3200000 in
theorem out18 (y : S1x2x128x1024.Idx) : out0_18 x0 x1 x2 x3 x4 x5 x6 x7 x8 x9 x10 x11 x12 x13 y = (rowOf x0 x1 x2 x3 x4 x5 x6 x7 x8 x9 x10 x11 x12 x13 (y 3)).ktV (y 1) (y 2) := by
  canon_tiles x h
  · obtain ⟨l, r, hl, hr, rfl⟩ := i4 x
    obtain rfl : l = y 2 := Fin.ext (by omega)
    have ej : y 1 = (1 : Fin 2) := Fin.ext (by show (y 1).val = 1; omega)
    rw [ej]
    exact kt1_row (rowOf x0 x1 x2 x3 x4 x5 x6 x7 x8 x9 x10 x11 x12 x13 (y 3)) r (hb (View.ld x0 r0_45) (View.ld x3 r0_1) (View.ld x2 r0_2) (View.ld x1 r0_2)) (h_row x0 x1 x2 x3 x4 x5 x6 x7 x8 x9 x10 x11 x12 x13 768 _ _ _ _ r (y 3) (by omega)) (View.ld x11 r0_46) (View.ld x12 r0_46) (View.ld x13 r0_46) (fun l => Pool.ld2 x11 768 0 _ r l (y 3) l (by omega) (Nat.zero_add _).symm) (fun l => Pool.ld2 x12 768 0 _ r l (y 3) l (by omega) (Nat.zero_add _).symm) (fun l => Pool.ld2 x13 768 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (0 : Fin 2) := Fin.ext (by show (y 1).val = 0; omega)
    rw [ej]
    exact kt0_row (rowOf x0 x1 x2 x3 x4 x5 x6 x7 x8 x9 x10 x11 x12 x13 (y 3)) r (hb (View.ld x0 r0_45) (View.ld x3 r0_1) (View.ld x2 r0_2) (View.ld x1 r0_2)) (h_row x0 x1 x2 x3 x4 x5 x6 x7 x8 x9 x10 x11 x12 x13 768 _ _ _ _ r (y 3) (by omega)) (View.ld x11 r0_46) (View.ld x12 r0_46) (View.ld x13 r0_46) (fun l => Pool.ld2 x11 768 0 _ r l (y 3) l (by omega) (Nat.zero_add _).symm) (fun l => Pool.ld2 x12 768 0 _ r l (y 3) l (by omega) (Nat.zero_add _).symm) (fun l => Pool.ld2 x13 768 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (1 : Fin 2) := Fin.ext (by show (y 1).val = 1; omega)
    rw [ej]
    exact kt1_row (rowOf x0 x1 x2 x3 x4 x5 x6 x7 x8 x9 x10 x11 x12 x13 (y 3)) r (hb (View.ld x0 r0_34) (View.ld x3 r0_1) (View.ld x2 r0_2) (View.ld x1 r0_2)) (h_row x0 x1 x2 x3 x4 x5 x6 x7 x8 x9 x10 x11 x12 x13 512 _ _ _ _ r (y 3) (by omega)) (View.ld x11 r0_35) (View.ld x12 r0_35) (View.ld x13 r0_35) (fun l => Pool.ld2 x11 512 0 _ r l (y 3) l (by omega) (Nat.zero_add _).symm) (fun l => Pool.ld2 x12 512 0 _ r l (y 3) l (by omega) (Nat.zero_add _).symm) (fun l => Pool.ld2 x13 512 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (0 : Fin 2) := Fin.ext (by show (y 1).val = 0; omega)
    rw [ej]
    exact kt0_row (rowOf x0 x1 x2 x3 x4 x5 x6 x7 x8 x9 x10 x11 x12 x13 (y 3)) r (hb (View.ld x0 r0_34) (View.ld x3 r0_1) (View.ld x2 r0_2) (View.ld x1 r0_2)) (h_row x0 x1 x2 x3 x4 x5 x6 x7 x8 x9 x10 x11 x12 x13 512 _ _ _ _ r (y 3) (by omega)) (View.ld x11 r0_35) (View.ld x12 r0_35) (View.ld x13 r0_35) (fun l => Pool.ld2 x11 512 0 _ r l (y 3) l (by omega) (Nat.zero_add _).symm) (fun l => Pool.ld2 x12 512 0 _ r l (y 3) l (by omega) (Nat.zero_add _).symm) (fun l => Pool.ld2 x13 512 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (1 : Fin 2) := Fin.ext (by show (y 1).val = 1; omega)
    rw [ej]
    exact kt1_row (rowOf x0 x1 x2 x3 x4 x5 x6 x7 x8 x9 x10 x11 x12 x13 (y 3)) r (hb (View.ld x0 r0_23) (View.ld x3 r0_1) (View.ld x2 r0_2) (View.ld x1 r0_2)) (h_row x0 x1 x2 x3 x4 x5 x6 x7 x8 x9 x10 x11 x12 x13 256 _ _ _ _ r (y 3) (by omega)) (View.ld x11 r0_24) (View.ld x12 r0_24) (View.ld x13 r0_24) (fun l => Pool.ld2 x11 256 0 _ r l (y 3) l (by omega) (Nat.zero_add _).symm) (fun l => Pool.ld2 x12 256 0 _ r l (y 3) l (by omega) (Nat.zero_add _).symm) (fun l => Pool.ld2 x13 256 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (0 : Fin 2) := Fin.ext (by show (y 1).val = 0; omega)
    rw [ej]
    exact kt0_row (rowOf x0 x1 x2 x3 x4 x5 x6 x7 x8 x9 x10 x11 x12 x13 (y 3)) r (hb (View.ld x0 r0_23) (View.ld x3 r0_1) (View.ld x2 r0_2) (View.ld x1 r0_2)) (h_row x0 x1 x2 x3 x4 x5 x6 x7 x8 x9 x10 x11 x12 x13 256 _ _ _ _ r (y 3) (by omega)) (View.ld x11 r0_24) (View.ld x12 r0_24) (View.ld x13 r0_24) (fun l => Pool.ld2 x11 256 0 _ r l (y 3) l (by omega) (Nat.zero_add _).symm) (fun l => Pool.ld2 x12 256 0 _ r l (y 3) l (by omega) (Nat.zero_add _).symm) (fun l => Pool.ld2 x13 256 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (1 : Fin 2) := Fin.ext (by show (y 1).val = 1; omega)
    rw [ej]
    exact kt1_row (rowOf x0 x1 x2 x3 x4 x5 x6 x7 x8 x9 x10 x11 x12 x13 (y 3)) r (hb (View.ld x0 r0_0) (View.ld x3 r0_1) (View.ld x2 r0_2) (View.ld x1 r0_2)) (h_row x0 x1 x2 x3 x4 x5 x6 x7 x8 x9 x10 x11 x12 x13 0 _ _ _ _ r (y 3) (by omega)) (View.ld x11 r0_3) (View.ld x12 r0_3) (View.ld x13 r0_3) (fun l => Pool.ld2 x11 0 0 _ r l (y 3) l (by omega) (Nat.zero_add _).symm) (fun l => Pool.ld2 x12 0 0 _ r l (y 3) l (by omega) (Nat.zero_add _).symm) (fun l => Pool.ld2 x13 0 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)
  · obtain ⟨l, r, hl, hr, rfl⟩ := i4 x
    obtain rfl : l = y 2 := Fin.ext (by omega)
    have ej : y 1 = (0 : Fin 2) := Fin.ext (by show (y 1).val = 0; omega)
    rw [ej]
    exact kt0_row (rowOf x0 x1 x2 x3 x4 x5 x6 x7 x8 x9 x10 x11 x12 x13 (y 3)) r (hb (View.ld x0 r0_0) (View.ld x3 r0_1) (View.ld x2 r0_2) (View.ld x1 r0_2)) (h_row x0 x1 x2 x3 x4 x5 x6 x7 x8 x9 x10 x11 x12 x13 0 _ _ _ _ r (y 3) (by omega)) (View.ld x11 r0_3) (View.ld x12 r0_3) (View.ld x13 r0_3) (fun l => Pool.ld2 x11 0 0 _ r l (y 3) l (by omega) (Nat.zero_add _).symm) (fun l => Pool.ld2 x12 0 0 _ r l (y 3) l (by omega) (Nat.zero_add _).symm) (fun l => Pool.ld2 x13 0 0 _ r l (y 3) l (by omega) (Nat.zero_add _).symm) (View.ld x4 r0_15) (fun k j => Pool.ld2 x4 0 2048 _ k j k _ (Nat.zero_add _).symm rfl) (View.ld x6 r0_13) (fun l => Pool.ld2 x6 0 0 _ 0 l 0 l rfl (Nat.zero_add _).symm) (View.ld x7 r0_16) (fun k l => Pool.ld2 x7 0 0 _ k l _ _ (Nat.zero_add _).symm (Nat.zero_add _).symm) (y 2)

set_option maxHeartbeats 3200000 in
theorem out19 (y : S1x2x1024x128.Idx) : out0_19 x0 x1 x2 x3 x4 x5 x6 x7 x8 x9 x10 x11 x12 x13 y = (rowOf x0 x1 x2 x3 x4 x5 x6 x7 x8 x9 x10 x11 x12 x13 (y 2)).vbV (y 1) (y 3) := by
  canon_tiles x h
  · obtain ⟨r, l, hr, hl, rfl⟩ := i4 x
    obtain rfl : l = y 3 := Fin.ext (by omega)
    have ej : y 1 = (1 : Fin 2) := Fin.ext (by show (y 1).val = 1; omega)
    rw [ej]
    exact vb1_row (rowOf x0 x1 x2 x3 x4 x5 x6 x7 x8 x9 x10 x11 x12 x13 (y 2)) r (hb (View.ld x0 r0_45) (View.ld x3 r0_1) (View.ld x2 r0_2) (View.ld x1 r0_2)) (h_row x0 x1 x2 x3 x4 x5 x6 x7 x8 x9 x10 x11 x12 x13 768 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (0 : Fin 2) := Fin.ext (by show (y 1).val = 0; omega)
    rw [ej]
    exact vb0_row (rowOf x0 x1 x2 x3 x4 x5 x6 x7 x8 x9 x10 x11 x12 x13 (y 2)) r (hb (View.ld x0 r0_45) (View.ld x3 r0_1) (View.ld x2 r0_2) (View.ld x1 r0_2)) (h_row x0 x1 x2 x3 x4 x5 x6 x7 x8 x9 x10 x11 x12 x13 768 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (1 : Fin 2) := Fin.ext (by show (y 1).val = 1; omega)
    rw [ej]
    exact vb1_row (rowOf x0 x1 x2 x3 x4 x5 x6 x7 x8 x9 x10 x11 x12 x13 (y 2)) r (hb (View.ld x0 r0_34) (View.ld x3 r0_1) (View.ld x2 r0_2) (View.ld x1 r0_2)) (h_row x0 x1 x2 x3 x4 x5 x6 x7 x8 x9 x10 x11 x12 x13 512 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (0 : Fin 2) := Fin.ext (by show (y 1).val = 0; omega)
    rw [ej]
    exact vb0_row (rowOf x0 x1 x2 x3 x4 x5 x6 x7 x8 x9 x10 x11 x12 x13 (y 2)) r (hb (View.ld x0 r0_34) (View.ld x3 r0_1) (View.ld x2 r0_2) (View.ld x1 r0_2)) (h_row x0 x1 x2 x3 x4 x5 x6 x7 x8 x9 x10 x11 x12 x13 512 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (1 : Fin 2) := Fin.ext (by show (y 1).val = 1; omega)
    rw [ej]
    exact vb1_row (rowOf x0 x1 x2 x3 x4 x5 x6 x7 x8 x9 x10 x11 x12 x13 (y 2)) r (hb (View.ld x0 r0_23) (View.ld x3 r0_1) (View.ld x2 r0_2) (View.ld x1 r0_2)) (h_row x0 x1 x2 x3 x4 x5 x6 x7 x8 x9 x10 x11 x12 x13 256 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (0 : Fin 2) := Fin.ext (by show (y 1).val = 0; omega)
    rw [ej]
    exact vb0_row (rowOf x0 x1 x2 x3 x4 x5 x6 x7 x8 x9 x10 x11 x12 x13 (y 2)) r (hb (View.ld x0 r0_23) (View.ld x3 r0_1) (View.ld x2 r0_2) (View.ld x1 r0_2)) (h_row x0 x1 x2 x3 x4 x5 x6 x7 x8 x9 x10 x11 x12 x13 256 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (1 : Fin 2) := Fin.ext (by show (y 1).val = 1; omega)
    rw [ej]
    exact vb1_row (rowOf x0 x1 x2 x3 x4 x5 x6 x7 x8 x9 x10 x11 x12 x13 (y 2)) r (hb (View.ld x0 r0_0) (View.ld x3 r0_1) (View.ld x2 r0_2) (View.ld x1 r0_2)) (h_row x0 x1 x2 x3 x4 x5 x6 x7 x8 x9 x10 x11 x12 x13 0 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)
  · obtain ⟨r, l, hr, hl, rfl⟩ := i4 x
    obtain rfl : l = y 3 := Fin.ext (by omega)
    have ej : y 1 = (0 : Fin 2) := Fin.ext (by show (y 1).val = 0; omega)
    rw [ej]
    exact vb0_row (rowOf x0 x1 x2 x3 x4 x5 x6 x7 x8 x9 x10 x11 x12 x13 (y 2)) r (hb (View.ld x0 r0_0) (View.ld x3 r0_1) (View.ld x2 r0_2) (View.ld x1 r0_2)) (h_row x0 x1 x2 x3 x4 x5 x6 x7 x8 x9 x10 x11 x12 x13 0 _ _ _ _ r (y 2) (by omega)) (k0_pay190 x0 x1 x2 x3 x4 x5 x6 x7 x8 x9 x10 x11 x12 x13) rfl (View.ld x4 r0_19) (fun k j => Pool.ld2 x4 0 2176 _ k j k _ (Nat.zero_add _).symm rfl) (y 3)

end Front

end
-- ==== Proof.FrontBlocks.lean ====
module
public import proofs.«01_k».proof.Proof.FrontOut
public import proofs.«01_k».proof.Proof.Gen.Kernel3Ideal.Launch
public import proofs.«01_k».proof.Proof.Gen.Kernel3Ideal.Points
public import Idealize.ShloMosaic.Lib.Pipeline.ValueKit
public import Idealize.ShloMosaic.Lib.Claim
@[expose] public section
set_option maxRecDepth 16384
noncomputable section

/-! The blocks a grid point of the front call reads, as elements of the call's arguments. -/

namespace Front
open Cert.Kernel3Ideal Cert.Kernel3Ideal.Gen Idealize.ShloMosaic Idealize.ShloMosaic.TcCoe
open Cert.Kernel3Ideal.Facts

variable (m : (ℓ : Loc nD τ sig) → Buf (Elt Ideal) ℓ)

/-- Grid point `t` is batch `t / 4`, row block `t % 4`. -/
theorem at0 : ∀ t : Fin cfg0.N, win0_0.index t = ![t.val / 4, t.val % 4, 0] := (by decide +kernel : ∀ t : Fin grid0.N, _)
theorem at1 : ∀ t : Fin cfg0.N, win0_1.index t = ![t.val / 4, 0, 0] := (by decide +kernel : ∀ t : Fin grid0.N, _)
theorem at2 : ∀ t : Fin cfg0.N, win0_2.index t = ![t.val / 4, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val % 4, 0] := (by decide +kernel : ∀ t : Fin grid0.N, _)
theorem at9 : ∀ t : Fin cfg0.N, win0_9.index t = ![t.val % 4, 0] := (by decide +kernel : ∀ t : Fin grid0.N, _)
theorem at10 : ∀ t : Fin cfg0.N, win0_10.index t = ![t.val % 4, 0] := (by decide +kernel : ∀ t : Fin grid0.N, _)
theorem at11 : ∀ t : Fin cfg0.N, win0_11.index t = ![t.val % 4, 0] := (by decide +kernel : ∀ t : Fin grid0.N, _)
theorem at12 : ∀ t : Fin cfg0.N, win0_12.index t = ![t.val % 4, 0] := (by decide +kernel : ∀ t : Fin grid0.N, _)
theorem at13 : ∀ t : Fin cfg0.N, win0_13.index t = ![t.val % 4, 0] := (by decide +kernel : ∀ t : Fin grid0.N, _)
theorem at14 : ∀ t : Fin cfg0.N, win0_14.index t = ![t.val / 4, t.val % 4, 0] := (by decide +kernel : ∀ t : Fin grid0.N, _)
theorem at15 : ∀ t : Fin cfg0.N, win0_15.index t = ![t.val / 4, t.val % 4, 0] := (by decide +kernel : ∀ t : Fin grid0.N, _)
theorem at16 : ∀ t : Fin cfg0.N, win0_16.index t = ![t.val / 4, t.val % 4, 0] := (by decide +kernel : ∀ t : Fin grid0.N, _)
theorem at17 : ∀ t : Fin cfg0.N, win0_17.index t = ![t.val / 4, t.val % 4, 0] := (by decide +kernel : ∀ t : Fin grid0.N, _)
theorem at18 : ∀ t : Fin cfg0.N, win0_18.index t = ![t.val / 4, 0, 0, t.val % 4] := (by decide +kernel : ∀ t : Fin grid0.N, _)
theorem at19 : ∀ t : Fin cfg0.N, win0_19.index t = ![t.val / 4, 0, t.val % 4, 0] := (by decide +kernel : ∀ t : Fin grid0.N, _)
theorem at20 : ∀ t : Fin cfg0.N, win0_20.index t = ![t.val / 4, t.val % 4, 0] := (by decide +kernel : ∀ t : Fin grid0.N, _)
theorem t_lt (t : Fin cfg0.N) : t.val < 64 := t.isLt

/-- A grid point's batch, and the token of one of its rows. -/
abbrev bat (t : Fin cfg0.N) : Fin 16 := ⟨t.val / 4, by have := t_lt t; omega⟩
abbrev tok (t : Fin cfg0.N) (r : Fin 1024) : Fin 4096 := ⟨1024 * (t.val % 4) + r.val, by omega⟩

/-- The arguments, as vectors. -/
abbrev A0 (c : Dev nD) : FVec Ideal S16x4096x1024 .f32 := m ((c : Thread nD τ).loc main_arg0)
abbrev A1 (c : Dev nD) : FVec Ideal S16x1024 .f32 := m ((c : Thread nD τ).loc main_arg1)
abbrev A2 (c : Dev nD) : FVec Ideal S16x1024 .f32 := m ((c : Thread nD τ).loc main_arg2)
abbrev A3 (c : Dev nD) : FVec Ideal S1024 .f32 := m ((c : Thread nD τ).loc main_arg3)
abbrev A4 (c : Dev nD) : FVec Ideal S1024x3328 .f32 := m ((c : Thread nD τ).loc main_arg4)
abbrev A5 (c : Dev nD) : FVec Ideal S64 .f32 := m ((c : Thread nD τ).loc main_arg5)
abbrev A6 (c : Dev nD) : FVec Ideal S64 .f32 := m ((c : Thread nD τ).loc main_arg6)
abbrev A7 (c : Dev nD) : FVec Ideal S4096x8 .f32 := m ((c : Thread nD τ).loc main_arg7)
abbrev A8 (c : Dev nD) : FVec Ideal S4096x2x16 .f32 := m ((c : Thread nD τ).loc main_arg8)
theorem pick (p : Prop) [Decidable p] (w : BitVec 1) (hw : w = if p then 1#1 else 0#1) (a b : EReal) : Scalar.select w a b = if p then a else b := by
  subst hw
  split <;> rfl

theorem lt8 : ∀ q : Fin 8, IntOp.cmpi CmpIPredicate.slt (BitVec.ofNat 32 q.val) 2#32 = if q.val < 2 then 1#1 else 0#1 := by decide
theorem is8 : ∀ q : Fin 8, IntOp.cmpi CmpIPredicate.eq (BitVec.ofNat 32 q.val) 0#32 = if q.val = 0 then 1#1 else 0#1 := by decide
theorem one8 : ∀ q : Fin 8, IntOp.cmpi CmpIPredicate.eq (BitVec.ofNat 32 q.val) 1#32 = if q.val = 1 then 1#1 else 0#1 := by decide
theorem div64 : ∀ k : Fin 256, IntOp.divsi ArithUnit.host (BitVec.ofNat 32 k.val) 64#32 = BitVec.ofNat 32 (k.val / 64) := by decide +kernel
theorem eq4 : ∀ k l : Fin 4, IntOp.cmpi CmpIPredicate.eq (BitVec.ofNat 32 k.val) (BitVec.ofNat 32 l.val) = if k.val = l.val then 1#1 else 0#1 := by decide

theorem same (k l : Fin 256) : FloatOps.uitofp (F := Ideal) FTy.bf16 (IntOp.cmpi CmpIPredicate.eq (IntOp.divsi ArithUnit.host (BitVec.ofNat 32 k.val) 64#32)
    (IntOp.divsi ArithUnit.host (BitVec.ofNat 32 l.val) 64#32)) = if k.val / 64 = l.val / 64 then (1 : EReal) else 0 := by
  rw [div64, div64, eq4 ⟨k.val / 64, by omega⟩ ⟨l.val / 64, by omega⟩]
  dsimp only
  split
  · show (((1#1).toNat : ℝ) : EReal) = 1
    simp
  · show (((0#1).toNat : ℝ) : EReal) = 0
    simp

theorem v17_at (c : Dev nD) (b : Fin 16) (d : Fin 1024) : (V m c main_v17 : FVec Ideal S16x1x1024 .f32) (ix3 b 0 d) = A1 m c (ix2 b d) := by
  entry_read
  pointwise
theorem v18_at (c : Dev nD) (b : Fin 16) (d : Fin 1024) : (V m c main_v18 : FVec Ideal S16x1x1024 .f32) (ix3 b 0 d) = A2 m c (ix2 b d) := by
  entry_read
  pointwise
theorem v19_at (c : Dev nD) (d : Fin 1024) : (V m c main_v19 : FVec Ideal S1x1024 .f32) (ix2 0 d) = A3 m c (ix1 d) := by
  entry_read
  pointwise
theorem v20_at (c : Dev nD) (i : S1024x3328.Idx) : (V m c main_v20 : FVec Ideal S1024x3328 .bf16) (i) = A4 m c i := by
  entry_read
  pointwise
theorem v12_at (c : Dev nD) (l : Fin 128) : (V m c main_v12 : FVec Ideal S1x128 .f32) (ix2 0 l) = A5 m c (ix1 ⟨l.val % 64, by omega⟩) := by
  entry_read
  pointwise
theorem v16_at (c : Dev nD) (l : Fin 128) : (V m c main_v16 : FVec Ideal S1x128 .f32) (ix2 0 l) = A6 m c (ix1 ⟨l.val % 64, by omega⟩) := by
  entry_read
  pointwise
theorem v8_at (c : Dev nD) (k l : Fin 256) : (V m c main_v8 : FVec Ideal S256x256 .bf16) (ix2 k l) = if k.val / 64 = l.val / 64 then (1 : EReal) else 0 := by
  entry_read
  pointwise
  exact same k l
theorem v31_at (c : Dev nD) (t : Fin 4096) (l : Fin 128) : (V m c main_v31 : FVec Ideal S4096x128 .f32) (ix2 t l) = if l.val / 8 % 8 < 2 then Ideal.cos (A7 m c (ix2 t ⟨l.val % 8, by omega⟩)) else 1 := by
  entry_read
  pointwise
  exact pick _ _ (lt8 ⟨l.val / 8 % 8, by omega⟩) _ _
theorem v38_at (c : Dev nD) (t : Fin 4096) (l : Fin 128) : (V m c main_v38 : FVec Ideal S4096x128 .f32) (ix2 t l) = if l.val / 8 % 8 = 0 then -Ideal.sin (A7 m c (ix2 t ⟨l.val % 8, by omega⟩)) else 0 := by
  entry_read
  pointwise
  exact pick _ _ (is8 ⟨l.val / 8 % 8, by omega⟩) _ _
theorem v44_at (c : Dev nD) (t : Fin 4096) (l : Fin 128) : (V m c main_v44 : FVec Ideal S4096x128 .f32) (ix2 t l) = if l.val / 8 % 8 = 1 then Ideal.sin (A7 m c (ix2 t ⟨l.val % 8, by omega⟩)) else 0 := by
  entry_read
  pointwise
  exact pick _ _ (one8 ⟨l.val / 8 % 8, by omega⟩) _ _
theorem v47_at (c : Dev nD) (t : Fin 4096) (l : Fin 128) : (V m c main_v47 : FVec Ideal S4096x128 .f32) (ix2 t l) = Ideal.cos (A8 m c (ix3 t ⟨l.val / 32 % 2, by omega⟩ ⟨l.val % 16, by omega⟩)) := by
  entry_read
  pointwise
theorem v54_at (c : Dev nD) (t : Fin 4096) (l : Fin 128) : (V m c main_v54 : FVec Ideal S4096x128 .f32) (ix2 t l) = if l.val / 16 % 2 = 0 then -Ideal.sin (A8 m c (ix3 t ⟨l.val / 32 % 2, by omega⟩ ⟨l.val % 16, by omega⟩)) else 0 := by
  entry_read
  pointwise
  exact pick _ _ (is8 ⟨l.val / 16 % 2, by omega⟩) _ _
theorem v60_at (c : Dev nD) (t : Fin 4096) (l : Fin 128) : (V m c main_v60 : FVec Ideal S4096x128 .f32) (ix2 t l) = if l.val / 16 % 2 = 1 then Ideal.sin (A8 m c (ix3 t ⟨l.val / 32 % 2, by omega⟩ ⟨l.val % 16, by omega⟩)) else 0 := by
  entry_read
  pointwise
  exact pick _ _ (one8 ⟨l.val / 16 % 2, by omega⟩) _ _
theorem blk0 (c : Dev nD) (t : Fin cfg0.N) (r d : Fin 1024) : (iblk m c 0 t : FVec Ideal S1x1024x1024 .f32) (ix3 0 r d) = A0 m c (ix3 (bat t) (tok t r) d) := by
  unfold iblk
  blk_simp
  blk_ext [at0 t]
theorem blk1 (c : Dev nD) (t : Fin cfg0.N) (d : Fin 1024) : (iblk m c 1 t : FVec Ideal S1x1x1024 .f32) (ix3 0 0 d) = (V m c main_v17 : FVec Ideal S16x1x1024 .f32) (ix3 (bat t) 0 d) := by
  unfold iblk
  blk_simp
  blk_ext [at1 t]
theorem blk2 (c : Dev nD) (t : Fin cfg0.N) (d : Fin 1024) : (iblk m c 2 t : FVec Ideal S1x1x1024 .f32) (ix3 0 0 d) = (V m c main_v18 : FVec Ideal S16x1x1024 .f32) (ix3 (bat t) 0 d) := by
  unfold iblk
  blk_simp
  blk_ext [at2 t]
theorem blk3 (c : Dev nD) (t : Fin cfg0.N) (d : Fin 1024) : (iblk m c 3 t : FVec Ideal S1x1024 .f32) (ix2 0 d) = (V m c main_v19 : FVec Ideal S1x1024 .f32) (ix2 0 d) := by
  unfold iblk
  blk_simp
  blk_ext [at3 t]
theorem blk4 (c : Dev nD) (t : Fin cfg0.N) (k : Fin 1024) (n : Fin 3328) : (iblk m c 4 t : FVec Ideal S1024x3328 .bf16) (ix2 k n) = (V m c main_v20 : FVec Ideal S1024x3328 .bf16) (ix2 k n) := by
  unfold iblk
  blk_simp
  blk_ext [at4 t]
theorem blk5 (c : Dev nD) (t : Fin cfg0.N) (l : Fin 128) : (iblk m c 5 t : FVec Ideal S1x128 .f32) (ix2 0 l) = (V m c main_v12 : FVec Ideal S1x128 .f32) (ix2 0 l) := by
  unfold iblk
  blk_simp
  blk_ext [at5 t]
theorem blk6 (c : Dev nD) (t : Fin cfg0.N) (l : Fin 128) : (iblk m c 6 t : FVec Ideal S1x128 .f32) (ix2 0 l) = (V m c main_v16 : FVec Ideal S1x128 .f32) (ix2 0 l) := by
  unfold iblk
  blk_simp
  blk_ext [at6 t]
theorem blk7 (c : Dev nD) (t : Fin cfg0.N) (k l : Fin 256) : (iblk m c 7 t : FVec Ideal S256x256 .bf16) (ix2 k l) = (V m c main_v8 : FVec Ideal S256x256 .bf16) (ix2 k l) := by
  unfold iblk
  blk_simp
  blk_ext [at7 t]
theorem blk8 (c : Dev nD) (t : Fin cfg0.N) (r : Fin 1024) (l : Fin 128) : (iblk m c 8 t : FVec Ideal S1024x128 .f32) (ix2 r l) = (V m c main_v31 : FVec Ideal S4096x128 .f32) (ix2 (tok t r) l) := by
  unfold iblk
  blk_simp
  blk_ext [at8 t]
theorem blk9 (c : Dev nD) (t : Fin cfg0.N) (r : Fin 1024) (l : Fin 128) : (iblk m c 9 t : FVec Ideal S1024x128 .f32) (ix2 r l) = (V m c main_v38 : FVec Ideal S4096x128 .f32) (ix2 (tok t r) l) := by
  unfold iblk
  blk_simp
  blk_ext [at9 t]
theorem blk10 (c : Dev nD) (t : Fin cfg0.N) (r : Fin 1024) (l : Fin 128) : (iblk m c 10 t : FVec Ideal S1024x128 .f32) (ix2 r l) = (V m c main_v44 : FVec Ideal S4096x128 .f32) (ix2 (tok t r) l) := by
  unfold iblk
  blk_simp
  blk_ext [at10 t]
theorem blk11 (c : Dev nD) (t : Fin cfg0.N) (r : Fin 1024) (l : Fin 128) : (iblk m c 11 t : FVec Ideal S1024x128 .f32) (ix2 r l) = (V m c main_v47 : FVec Ideal S4096x128 .f32) (ix2 (tok t r) l) := by
  unfold iblk
  blk_simp
  blk_ext [at11 t]
theorem blk12 (c : Dev nD) (t : Fin cfg0.N) (r : Fin 1024) (l : Fin 128) : (iblk m c 12 t : FVec Ideal S1024x128 .f32) (ix2 r l) = (V m c main_v54 : FVec Ideal S4096x128 .f32) (ix2 (tok t r) l) := by
  unfold iblk
  blk_simp
  blk_ext [at12 t]
theorem blk13 (c : Dev nD) (t : Fin cfg0.N) (r : Fin 1024) (l : Fin 128) : (iblk m c 13 t : FVec Ideal S1024x128 .f32) (ix2 r l) = (V m c main_v60 : FVec Ideal S4096x128 .f32) (ix2 (tok t r) l) := by
  unfold iblk
  blk_simp
  blk_ext [at13 t]

/-- A token's row. -/
def tokRow (c : Dev nD) (b : Fin 16) (t : Fin 4096) : Row where
  h := Pool.modn (fun k => A0 m c (ix3 b t k)) (fun k => A3 m c (ix1 k)) (fun k => A2 m c (ix2 b k)) (fun k => A1 m c (ix2 b k))
  W k n := A4 m c (ix2 k n)
  ca l := if l.val / 8 % 8 < 2 then Ideal.cos (A7 m c (ix2 t ⟨l.val % 8, by omega⟩)) else 1
  la l := if l.val / 8 % 8 = 0 then -Ideal.sin (A7 m c (ix2 t ⟨l.val % 8, by omega⟩)) else 0
  ua l := if l.val / 8 % 8 = 1 then Ideal.sin (A7 m c (ix2 t ⟨l.val % 8, by omega⟩)) else 0
  cb l := Ideal.cos (A8 m c (ix3 t ⟨l.val / 32 % 2, by omega⟩ ⟨l.val % 16, by omega⟩))
  lb l := if l.val / 16 % 2 = 0 then -Ideal.sin (A8 m c (ix3 t ⟨l.val / 32 % 2, by omega⟩ ⟨l.val % 16, by omega⟩)) else 0
  ub l := if l.val / 16 % 2 = 1 then Ideal.sin (A8 m c (ix3 t ⟨l.val / 32 % 2, by omega⟩ ⟨l.val % 16, by omega⟩)) else 0
  gq l := A5 m c (ix1 ⟨l.val % 64, by omega⟩)
  gk l := A6 m c (ix1 ⟨l.val % 64, by omega⟩)
  bd k l := if k.val / 64 = l.val / 64 then 1 else 0

theorem arg1 (c : Dev nD) (t : Fin cfg0.N) (d : Fin 1024) : (iblk m c 1 t : FVec Ideal S1x1x1024 .f32) (ix3 0 0 d) = A1 m c (ix2 (bat t) d) :=
  (blk1 m c t d).trans (v17_at m c (bat t) d)
theorem arg2 (c : Dev nD) (t : Fin cfg0.N) (d : Fin 1024) : (iblk m c 2 t : FVec Ideal S1x1x1024 .f32) (ix3 0 0 d) = A2 m c (ix2 (bat t) d) :=
  (blk2 m c t d).trans (v18_at m c (bat t) d)
theorem arg3 (c : Dev nD) (t : Fin cfg0.N) (d : Fin 1024) : (iblk m c 3 t : FVec Ideal S1x1024 .f32) (ix2 0 d) = A3 m c (ix1 d) :=
  (blk3 m c t d).trans (v19_at m c d)
theorem arg4 (c : Dev nD) (t : Fin cfg0.N) (k : Fin 1024) (n : Fin 3328) : (iblk m c 4 t : FVec Ideal S1024x3328 .bf16) (ix2 k n) = A4 m c (ix2 k n) :=
  (blk4 m c t k n).trans (v20_at m c _)
theorem arg5 (c : Dev nD) (t : Fin cfg0.N) (l : Fin 128) : (iblk m c 5 t : FVec Ideal S1x128 .f32) (ix2 0 l) = A5 m c (ix1 ⟨l.val % 64, by omega⟩) :=
  (blk5 m c t l).trans (v12_at m c l)
theorem arg6 (c : Dev nD) (t : Fin cfg0.N) (l : Fin 128) : (iblk m c 6 t : FVec Ideal S1x128 .f32) (ix2 0 l) = A6 m c (ix1 ⟨l.val % 64, by omega⟩) :=
  (blk6 m c t l).trans (v16_at m c l)
theorem arg7 (c : Dev nD) (t : Fin cfg0.N) (k l : Fin 256) : (iblk m c 7 t : FVec Ideal S256x256 .bf16) (ix2 k l) = if k.val / 64 = l.val / 64 then (1 : EReal) else 0 :=
  (blk7 m c t k l).trans (v8_at m c k l)
theorem arg8 (c : Dev nD) (t : Fin cfg0.N) (r : Fin 1024) (l : Fin 128) : (iblk m c 8 t : FVec Ideal S1024x128 .f32) (ix2 r l) = if l.val / 8 % 8 < 2 then Ideal.cos (A7 m c (ix2 (tok t r) ⟨l.val % 8, by omega⟩)) else 1 :=
  (blk8 m c t r l).trans (v31_at m c (tok t r) l)
theorem arg9 (c : Dev nD) (t : Fin cfg0.N) (r : Fin 1024) (l : Fin 128) : (iblk m c 9 t : FVec Ideal S1024x128 .f32) (ix2 r l) = if l.val / 8 % 8 = 0 then -Ideal.sin (A7 m c (ix2 (tok t r) ⟨l.val % 8, by omega⟩)) else 0 :=
  (blk9 m c t r l).trans (v38_at m c (tok t r) l)
theorem arg10 (c : Dev nD) (t : Fin cfg0.N) (r : Fin 1024) (l : Fin 128) : (iblk m c 10 t : FVec Ideal S1024x128 .f32) (ix2 r l) = if l.val / 8 % 8 = 1 then Ideal.sin (A7 m c (ix2 (tok t r) ⟨l.val % 8, by omega⟩)) else 0 :=
  (blk10 m c t r l).trans (v44_at m c (tok t r) l)
theorem arg11 (c : Dev nD) (t : Fin cfg0.N) (r : Fin 1024) (l : Fin 128) : (iblk m c 11 t : FVec Ideal S1024x128 .f32) (ix2 r l) = Ideal.cos (A8 m c (ix3 (tok t r) ⟨l.val / 32 % 2, by omega⟩ ⟨l.val % 16, by omega⟩)) :=
  (blk11 m c t r l).trans (v47_at m c (tok t r) l)
theorem arg12 (c : Dev nD) (t : Fin cfg0.N) (r : Fin 1024) (l : Fin 128) : (iblk m c 12 t : FVec Ideal S1024x128 .f32) (ix2 r l) = if l.val / 16 % 2 = 0 then -Ideal.sin (A8 m c (ix3 (tok t r) ⟨l.val / 32 % 2, by omega⟩ ⟨l.val % 16, by omega⟩)) else 0 :=
  (blk12 m c t r l).trans (v54_at m c (tok t r) l)
theorem arg13 (c : Dev nD) (t : Fin cfg0.N) (r : Fin 1024) (l : Fin 128) : (iblk m c 13 t : FVec Ideal S1024x128 .f32) (ix2 r l) = if l.val / 16 % 2 = 1 then Ideal.sin (A8 m c (ix3 (tok t r) ⟨l.val / 32 % 2, by omega⟩ ⟨l.val % 16, by omega⟩)) else 0 :=
  (blk13 m c t r l).trans (v60_at m c (tok t r) l)

theorem row_eq (c : Dev nD) (t : Fin cfg0.N) (r : Fin 1024) :
    rowOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r = tokRow m c (bat t) (tok t r) := by
  unfold rowOf tokRow
  simp only [blk0, arg1, arg2, arg3, arg4, arg5, arg6, arg7, arg8, arg9, arg10, arg11, arg12, arg13]

end Front
-- ==== Proof.FrontSpec.lean ====
module
public import Idealize.ShloMosaic.Lib.Pointwise
public import Idealize.ShloMosaic.Lib.IdealHost
public import proofs.«01_k».proof.Proof.FrontRow
@[expose] public section
noncomputable section

/-! The front call's mathematics over the extended reals, head by head, and that a row's values are it when the arguments hold real numbers. -/

namespace Front
open Idealize.ShloMosaic

/-! Real numbers among the extended ones. -/

def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem coe_sum {n : ℕ} (g : Fin n → ℝ) (s : Finset (Fin n)) : ((∑ k ∈ s, g k : ℝ) : EReal) = ∑ k ∈ s, (g k : EReal) := by
  induction s using Finset.induction_on with
  | empty => simp
  | insert a s ha ih => rw [Finset.sum_insert ha, Finset.sum_insert ha, EReal.coe_add, ih]

theorem IsR.sum {n : ℕ} {f : Fin n → EReal} (hf : ∀ k, IsR (f k)) : IsR (∑ k, f k) := by
  choose g hg using hf
  refine ⟨∑ k, g k, ?_⟩
  rw [coe_sum]
  exact Finset.sum_congr rfl fun k _ => hg k

theorem IsR.sub_self {x : EReal} (hx : IsR x) : x - x = 0 := by
  obtain ⟨a, rfl⟩ := hx
  rw [← EReal.coe_sub, _root_.sub_self, EReal.coe_zero]

theorem one_real : IsR 1 := ⟨1, EReal.coe_one.symm⟩

theorem ofBits_1024 : Ideal.ofBits .f32 0x44800000#32 = ((1024 : ℝ) : EReal) := by
  simp [Ideal.ofBits, Ideal.ieee, -EReal.coe_mul]
  norm_num

theorem ofBits_64 : Ideal.ofBits .f32 0x42800000#32 = ((64 : ℝ) : EReal) := by
  simp [Ideal.ofBits, Ideal.ieee, -EReal.coe_mul]
  norm_num

theorem ofBits_1_64 : Ideal.ofBits .f32 0x3C800000#32 = (((64 : ℝ)⁻¹ : ℝ) : EReal) := by
  simp [Ideal.ofBits, Ideal.ieee, -EReal.coe_mul]
  norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem rs_real {f : Fin 1024 → EReal} (hf : ∀ k, IsR (f k)) : IsR (Pool.rs f) := by
  choose g hg using hf
  obtain ⟨e, he, hE⟩ := ofBits_eps
  have hs : ∑ d, f d * f d = ((∑ d, g d * g d : ℝ) : EReal) := by
    rw [coe_sum]
    exact Finset.sum_congr rfl fun k _ => by rw [hg k, EReal.coe_mul]
  have h0 : (0 : ℝ) ≤ ∑ d, g d * g d := Finset.sum_nonneg fun d _ => mul_self_nonneg _
  have h1 : (0 : ℝ) < (∑ d, g d * g d) * (1024 : ℝ)⁻¹ + e := by positivity
  unfold Pool.rs
  rw [hs, ofBits_1024, hE, Ideal.div, if_neg (by exact_mod_cast (by norm_num : (1024 : ℝ) ≠ 0)), ← EReal.coe_inv, ← EReal.coe_mul, ← EReal.coe_add]
  exact ⟨(Real.sqrt _)⁻¹, by show (if _ then _ else if _ then _ else _) = _; rw [if_neg (not_lt.mpr h1.le), if_neg h1.ne']⟩

theorem modn_real {x pre scl sh : Fin 1024 → EReal} (hx : ∀ k, IsR (x k)) (hp : ∀ k, IsR (pre k)) (hc : ∀ k, IsR (scl k)) (hs : ∀ k, IsR (sh k)) (d : Fin 1024) :
    IsR (Pool.modn x pre scl sh d) :=
  (((hx d).mul (rs_real hx)).mul ((hp d).mul (one_real.add (hc d)))).add (hs d)

/-! Heads. -/

/-- A head whose first 16 lanes are turned in two halves of 8. -/
def ropeA (v : Fin 64 → EReal) (c s : Fin 8 → EReal) (l : Fin 64) : EReal :=
  if h : l.val < 16 then
    if h8 : l.val < 8 then v l * c ⟨l.val, h8⟩ - v ⟨l.val + 8, by omega⟩ * s ⟨l.val, h8⟩
    else v ⟨l.val - 8, by omega⟩ * s ⟨l.val - 8, by omega⟩ + v l * c ⟨l.val - 8, by omega⟩
  else v l

/-- A head turned in two blocks, each of two halves of 16. -/
def ropeB (v : Fin 64 → EReal) (c s : Fin 2 → Fin 16 → EReal) (l : Fin 64) : EReal :=
  if h : l.val % 32 < 16 then
    v l * c ⟨l.val / 32, by omega⟩ ⟨l.val % 16, by omega⟩ - v ⟨l.val + 16, by omega⟩ * s ⟨l.val / 32, by omega⟩ ⟨l.val % 16, by omega⟩
  else v ⟨l.val - 16, by omega⟩ * s ⟨l.val / 32, by omega⟩ ⟨l.val % 16, by omega⟩ + v l * c ⟨l.val / 32, by omega⟩ ⟨l.val % 16, by omega⟩

/-- A normed head. -/
def headN (v g : Fin 64 → EReal) (l : Fin 64) : EReal :=
  v l * Ideal.rsqrt (Ideal.div (∑ k, v k * v k) (Ideal.ofBits .f32 0x42800000#32) + Ideal.ofBits .f32 0x358637BD#32) * g l

/-- The lanes of the head of lane `l`. -/
abbrev head (v : Fin 128 → EReal) (l : Fin 128) (i : Fin 64) : EReal := v ⟨64 * (l.val / 64) + i.val, by omega⟩

theorem turnA_eq (v ca la ua : Fin 128 → EReal) (c s : Fin 8 → EReal) (hc : ∀ l : Fin 128, ca l = if l.val / 8 % 8 < 2 then c ⟨l.val % 8, by omega⟩ else 1)
    (hl : ∀ l : Fin 128, la l = if l.val / 8 % 8 = 0 then -s ⟨l.val % 8, by omega⟩ else 0)
    (hu : ∀ l : Fin 128, ua l = if l.val / 8 % 8 = 1 then s ⟨l.val % 8, by omega⟩ else 0) (l : Fin 128) :
    turn 8 v ca la ua l = ropeA (head v l) c s ⟨l.val % 64, by omega⟩ := by
  have e0 : v ⟨64 * (l.val / 64) + l.val % 64, by omega⟩ = v l := congrArg v (Fin.ext (by show 64 * (l.val / 64) + l.val % 64 = l.val; omega))
  unfold turn ropeA head
  rw [hc, hl, hu]
  dsimp only
  rw [e0]
  by_cases h : l.val % 64 < 16
  · rw [dif_pos h]
    by_cases h8 : l.val % 64 < 8
    · rw [dif_pos h8, if_pos (by omega), if_pos (by omega), if_neg (by omega), mul_zero, add_zero, mul_neg, sub_eq_add_neg]
      have e1 : (⟨(l.val + 128 - (128 - 8)) % 128, Nat.mod_lt _ (by decide)⟩ : Fin 128) = ⟨64 * (l.val / 64) + (l.val % 64 + 8), by omega⟩ := Fin.ext (by
        show (l.val + 128 - (128 - 8)) % 128 = 64 * (l.val / 64) + (l.val % 64 + 8); omega)
      have e2 : (⟨l.val % 8, by omega⟩ : Fin 8) = ⟨l.val % 64, h8⟩ := Fin.ext (by show l.val % 8 = l.val % 64; omega)
      rw [e1, e2]
    · rw [dif_neg h8, if_pos (by omega), if_neg (by omega), if_pos (by omega), mul_zero, add_zero, add_comm]
      have e1 : (⟨(l.val + 128 - 8) % 128, Nat.mod_lt _ (by decide)⟩ : Fin 128) = ⟨64 * (l.val / 64) + (l.val % 64 - 8), by omega⟩ := Fin.ext (by
        show (l.val + 128 - 8) % 128 = 64 * (l.val / 64) + (l.val % 64 - 8); omega)
      have e2 : (⟨l.val % 8, by omega⟩ : Fin 8) = ⟨l.val % 64 - 8, by omega⟩ := Fin.ext (by show l.val % 8 = l.val % 64 - 8; omega)
      rw [e1, e2]
  · rw [dif_neg h, if_neg (by omega), if_neg (by omega), if_neg (by omega), mul_zero, mul_zero, add_zero, add_zero, mul_one]

theorem turnB_eq (v cb lb ub : Fin 128 → EReal) (c s : Fin 2 → Fin 16 → EReal) (hc : ∀ l : Fin 128, cb l = c ⟨l.val / 32 % 2, by omega⟩ ⟨l.val % 16, by omega⟩)
    (hl : ∀ l : Fin 128, lb l = if l.val / 16 % 2 = 0 then -s ⟨l.val / 32 % 2, by omega⟩ ⟨l.val % 16, by omega⟩ else 0)
    (hu : ∀ l : Fin 128, ub l = if l.val / 16 % 2 = 1 then s ⟨l.val / 32 % 2, by omega⟩ ⟨l.val % 16, by omega⟩ else 0) (l : Fin 128) :
    turn 16 v cb lb ub l = ropeB (head v l) c s ⟨l.val % 64, by omega⟩ := by
  have e0 : v ⟨64 * (l.val / 64) + l.val % 64, by omega⟩ = v l := congrArg v (Fin.ext (by show 64 * (l.val / 64) + l.val % 64 = l.val; omega))
  have e2 : (⟨l.val / 32 % 2, by omega⟩ : Fin 2) = ⟨l.val % 64 / 32, by omega⟩ := Fin.ext (by show l.val / 32 % 2 = l.val % 64 / 32; omega)
  have e3 : (⟨l.val % 16, by omega⟩ : Fin 16) = ⟨l.val % 64 % 16, by omega⟩ := Fin.ext (by show l.val % 16 = l.val % 64 % 16; omega)
  unfold turn ropeB head
  rw [hc, hl, hu]
  dsimp only
  rw [e0, e2, e3]
  by_cases h : l.val % 64 % 32 < 16
  · rw [dif_pos h, if_pos (by omega), if_neg (by omega), mul_zero, add_zero, mul_neg, sub_eq_add_neg]
    have e1 : (⟨(l.val + 128 - (128 - 16)) % 128, Nat.mod_lt _ (by decide)⟩ : Fin 128) = ⟨64 * (l.val / 64) + (l.val % 64 + 16), by omega⟩ := Fin.ext (by
      show (l.val + 128 - (128 - 16)) % 128 = 64 * (l.val / 64) + (l.val % 64 + 16); omega)
    rw [e1]
  · rw [dif_neg h, if_neg (by omega), if_pos (by omega), mul_zero, add_zero, add_comm]
    have e1 : (⟨(l.val + 128 - 16) % 128, Nat.mod_lt _ (by decide)⟩ : Fin 128) = ⟨64 * (l.val / 64) + (l.val % 64 - 16), by omega⟩ := Fin.ext (by
      show (l.val + 128 - 16) % 128 = 64 * (l.val / 64) + (l.val % 64 - 16); omega)
    rw [e1]

/-- A sum over the lanes, each with one on its own head and zero off it, is a sum over the head. -/
theorem sum_head {n : ℕ} (hn : n % 64 = 0) (f : Fin n → EReal) (l : Fin n) :
    ∑ k : Fin n, f k * (if k.val / 64 = l.val / 64 then (1 : EReal) else 0) = ∑ i : Fin 64, f ⟨64 * (l.val / 64) + i.val, by omega⟩ := by
  simp only [mul_ite, mul_one, mul_zero]
  rw [← Finset.sum_filter]
  symm
  refine Finset.sum_bij (fun i _ => (⟨64 * (l.val / 64) + i.val, by omega⟩ : Fin n)) ?_ ?_ ?_ ?_
  · intro i _
    refine Finset.mem_filter.mpr ⟨Finset.mem_univ _, ?_⟩
    show (64 * (l.val / 64) + i.val) / 64 = l.val / 64
    omega
  · intro i _ j _ e
    have e' : 64 * (l.val / 64) + i.val = 64 * (l.val / 64) + j.val := congrArg Fin.val e
    exact Fin.ext (by omega)
  · intro k hk
    have e : k.val / 64 = l.val / 64 := (Finset.mem_filter.mp hk).2
    exact ⟨⟨k.val % 64, by omega⟩, Finset.mem_univ _, Fin.ext (by show 64 * (l.val / 64) + k.val % 64 = k.val; omega)⟩
  · intro i _
    rfl

theorem nrm_eq {n : ℕ} (hn : n % 64 = 0) (v : Fin n → EReal) (hv : ∀ k, IsR (v k)) (bd : Fin n → Fin n → EReal)
    (hbd : ∀ k l, bd k l = if k.val / 64 = l.val / 64 then (1 : EReal) else 0) (g : Fin 128 → EReal) (g' : Fin 64 → EReal)
    (hg : ∀ l : Fin 128, g l = g' ⟨l.val % 64, by omega⟩) (l : Fin n) :
    nrm v bd g l = headN (fun i => v ⟨64 * (l.val / 64) + i.val, by omega⟩) g' ⟨l.val % 64, by omega⟩ := by
  have e0 : v ⟨64 * (l.val / 64) + l.val % 64, by omega⟩ = v l := congrArg v (Fin.ext (by show 64 * (l.val / 64) + l.val % 64 = l.val; omega))
  have e1 : (∑ k, (v k * v k - v k * v k) * bd k l) = 0 := Finset.sum_eq_zero fun k _ => by rw [((hv k).mul (hv k)).sub_self, zero_mul]
  have e2 : (⟨l.val % 128 % 64, by omega⟩ : Fin 64) = ⟨l.val % 64, by omega⟩ := Fin.ext (by show l.val % 128 % 64 = l.val % 64; omega)
  unfold nrm headN
  dsimp only
  rw [e1, add_zero, hg, e0, ofBits_64, ofBits_1_64, Ideal.div, if_neg (by exact_mod_cast (by norm_num : (64 : ℝ) ≠ 0)), ← EReal.coe_inv]
  simp only [hbd]
  rw [sum_head hn (fun k => v k * v k) l]
  exact congrArg (fun z => _ * g' z) e2

end Front
end
-- ==== Proof.FrontRef.lean ====
module
public import Idealize.ShloMosaic.Lib.Pointwise
public import proofs.«01_k».proof.Proof.Gen.Reference3Ideal.Read
public import proofs.«01_k».proof.Proof.FrontSpec
public import proofs.«01_k».proof.Proof.PoolWord
@[expose] public section
set_option maxRecDepth 16384
noncomputable section

/-! The front call's reference read at a token, head by head. -/

namespace Front
open Cert.Reference3Ideal Cert.Reference3Ideal.Gen Cert.Reference3Ideal.Read Idealize.ShloMosaic Idealize.ShloMosaic.TcCoe
variable (x0 : FVec Ideal S16x4096x1024 .f32) (x1 : FVec Ideal S16x1024 .f32) (x2 : FVec Ideal S16x1024 .f32) (x3 : FVec Ideal S1024 .f32) (x4 : FVec Ideal S1024x3328 .f32) (x5 : FVec Ideal S64 .f32) (x6 : FVec Ideal S64 .f32) (x7 : FVec Ideal S4096x8 .f32) (x8 : FVec Ideal S4096x2x16 .f32) (b : Fin 16) (t : Fin 4096)

theorem r20 (d : Fin 1024) : val_main_v20 (F := Ideal) x0 x1 x2 x3 (ix3 b t d) = Pool.modn (fun k => x0 (ix3 b t k)) (fun k => x3 (ix1 k)) (fun k => x2 (ix2 b k)) (fun k => x1 (ix2 b k)) d := by
  unfold val_main_v20 val_main_v17 val_main_v12 val_main_v9 val_main_v8 val_main_v7 val_main_v6 val_main_v4 val_main_v2 val_main_v1 val_main_v0 val_main_cst val_main_v3 val_main_cst_0 val_main_v5 val_main_cst_1 val_main_v11 val_main_v10 val_main_v16 val_main_v15 val_main_v14 val_main_cst_2 val_main_v13 val_main_v19 val_main_v18 Pool.modn Pool.rs
  pointwise
  rw [mul_assoc (x0 _ * _)]

theorem r21 (n : Fin 3328) : val_main_v21 (F := Ideal) x0 x1 x2 x3 x4 (ix3 b t n) = ∑ k : Fin 1024, val_main_v20 (F := Ideal) x0 x1 x2 x3 (ix3 b t k) * x4 (ix2 k n) := by
  unfold val_main_v21
  generalize val_main_v20 (F := Ideal) x0 x1 x2 x3 = h
  pointwise

theorem r46 (h : Fin 8) (i : Fin 64) : val_main_v46 (F := Ideal) x0 x1 x2 x3 x4 x7 (ix4 b t h i) = ropeA (fun i => val_main_v21 (F := Ideal) x0 x1 x2 x3 x4 (ix3 b t ⟨h.val * 64 + i.val, by omega⟩)) (fun j => Ideal.cos (x7 (ix2 t j))) (fun j => Ideal.sin (x7 (ix2 t j))) i := by
  unfold val_main_v46 val_main_v44 val_main_v36 val_main_v32 val_main_v31 val_main_v30 val_main_v35 val_main_v34 val_main_v33 val_main_v43 val_main_v39 val_main_v26 val_main_v38 val_main_v37 val_main_v29 val_main_v42 val_main_v27 val_main_v24 val_main_v41 val_main_v40 val_main_v28 val_main_v25 val_main_v45 val_main_v23 val_main_v22 ropeA
  generalize val_main_v21 (F := Ideal) x0 x1 x2 x3 x4 = y
  pointwise
  by_cases h1 : i.val < 16
  · rw [dif_pos h1, dif_pos h1]
    by_cases h2 : i.val < 8
    · rw [dif_pos h2, dif_pos h2]
      have e : (⟨h.val * 64 + (8 + i.val), by omega⟩ : Fin 3328) = ⟨h.val * 64 + (i.val + 8), by omega⟩ := Fin.ext (by simp only []; omega)
      rw [e]
    · rw [dif_neg h2, dif_neg h2]
      have e : (⟨h.val * 64 + (8 + (i.val - 8)), by omega⟩ : Fin 3328) = ⟨h.val * 64 + i.val, by omega⟩ := Fin.ext (by simp only []; omega)
      rw [e]
  · rw [dif_neg h1, dif_neg h1]
    have e : (⟨h.val * 64 + (16 + (i.val - 16)), by omega⟩ : Fin 3328) = ⟨h.val * 64 + i.val, by omega⟩ := Fin.ext (by simp only []; omega)
    rw [e]

theorem r74 (h : Fin 8) (i : Fin 64) : val_main_v74 (F := Ideal) x0 x1 x2 x3 x4 x7 (ix4 b t h i) = ropeA (fun i => val_main_v21 (F := Ideal) x0 x1 x2 x3 x4 (ix3 b t ⟨512 + (h.val * 64 + i.val), by omega⟩)) (fun j => Ideal.cos (x7 (ix2 t j))) (fun j => Ideal.sin (x7 (ix2 t j))) i := by
  unfold val_main_v74 val_main_v72 val_main_v64 val_main_v60 val_main_v59 val_main_v58 val_main_v63 val_main_v62 val_main_v61 val_main_v71 val_main_v67 val_main_v54 val_main_v66 val_main_v65 val_main_v57 val_main_v70 val_main_v55 val_main_v52 val_main_v69 val_main_v68 val_main_v56 val_main_v53 val_main_v73 val_main_v51 val_main_v50 ropeA
  generalize val_main_v21 (F := Ideal) x0 x1 x2 x3 x4 = y
  pointwise
  by_cases h1 : i.val < 16
  · rw [dif_pos h1, dif_pos h1]
    by_cases h2 : i.val < 8
    · rw [dif_pos h2, dif_pos h2]
      have e : (⟨512 + (h.val * 64 + (8 + i.val)), by omega⟩ : Fin 3328) = ⟨512 + (h.val * 64 + (i.val + 8)), by omega⟩ := Fin.ext (by simp only []; omega)
      rw [e]
    · rw [dif_neg h2, dif_neg h2]
      have e : (⟨512 + (h.val * 64 + (8 + (i.val - 8))), by omega⟩ : Fin 3328) = ⟨512 + (h.val * 64 + i.val), by omega⟩ := Fin.ext (by simp only []; omega)
      rw [e]
  · rw [dif_neg h1, dif_neg h1]
    have e : (⟨512 + (h.val * 64 + (16 + (i.val - 16))), by omega⟩ : Fin 3328) = ⟨512 + (h.val * 64 + i.val), by omega⟩ := Fin.ext (by simp only []; omega)
    rw [e]

theorem merge (y : FVec Ideal S16x4096x8x64 .f32) (n : Fin 512) : shapeCast S16x4096x512 y shapeCasts_S16x4096x8x64_S16x4096x512 (ix3 b t n)
    = y (ix4 b t (⟨n.val / 64, by omega⟩ : Fin 8) (⟨n.val % 64, by omega⟩ : Fin 64)) := by
  pointwise

theorem trunc_at {s : Shape} (y : FVec Ideal s .f32) (i : s.Idx) : truncf (F := Ideal) .bf16 y bitsLt_bf16_f32 i = y i := rfl

theorem mul_at {s : Shape} (y z : FVec Ideal s .f32) (i : s.Idx) : mulf y z i = y i * z i := rfl

theorem twice (y : FVec Ideal S16x4096x2x64 .f32) (j : Fin 2) (l : Fin 128) :
    concatenate S16x2x128x4096 2 [⟨S16x2x64x4096, transpose S16x2x64x4096 [0, 2, 3, 1] y transposes_S16x4096x2x64_S16x2x64x4096_0_2_3_1⟩,
        ⟨S16x2x64x4096, transpose S16x2x64x4096 [0, 2, 3, 1] y transposes_S16x4096x2x64_S16x2x64x4096_0_2_3_1⟩] concatenates_S16x2x64x4096_S16x2x64x4096_S16x2x128x4096_d2 (ix4 b j l t)
      = y (ix4 b t j (⟨l.val % 64, by omega⟩ : Fin 64)) := by
  pointwise
  by_cases h : l.val < 64
  · simp only [dif_pos h, Nat.mod_eq_of_lt h]
  · have e : (⟨l.val - 64, by omega⟩ : Fin 64) = ⟨l.val % 64, by omega⟩ := Fin.ext (by simp only []; omega)
    simp only [dif_neg h, e]

theorem r168m (n : Fin 512) : val_main_v47 (F := Ideal) x0 x1 x2 x3 x4 x7 (ix3 b t n) = val_main_v46 (F := Ideal) x0 x1 x2 x3 x4 x7 (ix4 b t (⟨n.val / 64, by omega⟩ : Fin 8) (⟨n.val % 64, by omega⟩ : Fin 64)) := by
  unfold val_main_v47
  exact merge b t (val_main_v46 (F := Ideal) x0 x1 x2 x3 x4 x7) n

theorem q48 (i) : val_main_v48 (F := Ideal) i = qs := by
  unfold val_main_v48 val_main_cst_3
  rfl

theorem r168 (n : Fin 512) : val_main_v168 (F := Ideal) x0 x1 x2 x3 x4 x7 (ix3 b t n) = val_main_v47 (F := Ideal) x0 x1 x2 x3 x4 x7 (ix3 b t n) * qs := by
  unfold val_main_v168
  refine (trunc_at _ _).trans ?_
  unfold val_main_v49
  exact (mul_at _ _ _).trans (congrArg (fun z => val_main_v47 (F := Ideal) x0 x1 x2 x3 x4 x7 (ix3 b t n) * z) (q48 _))

theorem r169m (n : Fin 512) : val_main_v75 (F := Ideal) x0 x1 x2 x3 x4 x7 (ix3 b t n) = val_main_v74 (F := Ideal) x0 x1 x2 x3 x4 x7 (ix4 b t (⟨n.val / 64, by omega⟩ : Fin 8) (⟨n.val % 64, by omega⟩ : Fin 64)) := by
  unfold val_main_v75
  exact merge b t (val_main_v74 (F := Ideal) x0 x1 x2 x3 x4 x7) n

theorem r169 (n : Fin 512) : val_main_v169 (F := Ideal) x0 x1 x2 x3 x4 x7 (ix3 b t n) = val_main_v75 (F := Ideal) x0 x1 x2 x3 x4 x7 (ix3 b t n) := by
  unfold val_main_v169
  exact trunc_at _ _

theorem r170 (n : Fin 512) : val_main_v170 (F := Ideal) x0 x1 x2 x3 x4 (ix3 b t n) = val_main_v21 (F := Ideal) x0 x1 x2 x3 x4 (ix3 b t ⟨1024 + n.val, by omega⟩) := by
  unfold val_main_v170 val_main_v76
  generalize val_main_v21 (F := Ideal) x0 x1 x2 x3 x4 = y
  pointwise

theorem r91 (h : Fin 8) (i : Fin 64) : val_main_v91 (F := Ideal) x0 x1 x2 x3 x4 x5 (ix4 b t h i) = headN (fun i => val_main_v21 (F := Ideal) x0 x1 x2 x3 x4 (ix3 b t ⟨1536 + (h.val * 64 + i.val), by omega⟩)) (fun i => x5 (ix1 i)) i := by
  unfold val_main_v91 val_main_v88 val_main_v87 val_main_v86 val_main_v85 val_main_v83 val_main_v81 val_main_v80 val_main_v79 val_main_v78 val_main_v77 val_main_cst_4 val_main_v82 val_main_cst_5 val_main_v84 val_main_cst_6 val_main_v90 val_main_v89 headN
  generalize val_main_v21 (F := Ideal) x0 x1 x2 x3 x4 = y
  pointwise

theorem r131 (h : Fin 2) (i : Fin 64) : val_main_v131 (F := Ideal) x0 x1 x2 x3 x4 x6 (ix4 b t h i) = headN (fun i => val_main_v21 (F := Ideal) x0 x1 x2 x3 x4 (ix3 b t ⟨2048 + (h.val * 64 + i.val), by omega⟩)) (fun i => x6 (ix1 i)) i := by
  unfold val_main_v131 val_main_v128 val_main_v127 val_main_v126 val_main_v125 val_main_v123 val_main_v121 val_main_v120 val_main_v119 val_main_v118 val_main_v117 val_main_cst_8 val_main_v122 val_main_cst_9 val_main_v124 val_main_cst_10 val_main_v130 val_main_v129 headN
  generalize val_main_v21 (F := Ideal) x0 x1 x2 x3 x4 = y
  pointwise

theorem r113 (h : Fin 8) (i : Fin 64) : val_main_v113 (F := Ideal) x0 x1 x2 x3 x4 x5 x8 (ix4 b t h i) = ropeB (fun i => val_main_v91 (F := Ideal) x0 x1 x2 x3 x4 x5 (ix4 b t h i)) (fun q j => Ideal.cos (x8 (ix3 t q j))) (fun q j => Ideal.sin (x8 (ix3 t q j))) i := by
  unfold val_main_v113 val_main_v112 val_main_v104 val_main_v100 val_main_v99 val_main_v98 val_main_v103 val_main_v102 val_main_v101 val_main_v111 val_main_v107 val_main_v94 val_main_v106 val_main_v105 val_main_v97 val_main_v110 val_main_v95 val_main_v92 val_main_v109 val_main_v108 val_main_v96 val_main_v93 ropeB
  generalize val_main_v91 (F := Ideal) x0 x1 x2 x3 x4 x5 = y
  pointwise
  by_cases h1 : i.val % 32 < 16
  · simp only [dif_pos h1]
    have e1 : (⟨i.val % 32, h1⟩ : Fin 16) = ⟨i.val % 16, by omega⟩ := Fin.ext (by simp only []; omega)
    have e2 : (⟨i.val / 32 * 32 + (16 + i.val % 32), by omega⟩ : Fin 64) = ⟨i.val + 16, by omega⟩ := Fin.ext (by simp only []; omega)
    simp only [e1, e2]
  · simp only [dif_neg h1]
    have e1 : (⟨i.val % 32 - 16, by omega⟩ : Fin 16) = ⟨i.val % 16, by omega⟩ := Fin.ext (by simp only []; omega)
    have e2 : (⟨i.val / 32 * 32 + (i.val % 32 - 16), by omega⟩ : Fin 64) = ⟨i.val - 16, by omega⟩ := Fin.ext (by simp only []; omega)
    have e3 : (⟨i.val / 32 * 32 + (16 + (i.val % 32 - 16)), by omega⟩ : Fin 64) = i := Fin.ext (by simp only []; omega)
    simp only [e1, e2, e3]

theorem r153 (h : Fin 2) (i : Fin 64) : val_main_v153 (F := Ideal) x0 x1 x2 x3 x4 x6 x8 (ix4 b t h i) = ropeB (fun i => val_main_v131 (F := Ideal) x0 x1 x2 x3 x4 x6 (ix4 b t h i)) (fun q j => Ideal.cos (x8 (ix3 t q j))) (fun q j => Ideal.sin (x8 (ix3 t q j))) i := by
  unfold val_main_v153 val_main_v152 val_main_v144 val_main_v140 val_main_v139 val_main_v138 val_main_v143 val_main_v142 val_main_v141 val_main_v151 val_main_v147 val_main_v134 val_main_v146 val_main_v145 val_main_v137 val_main_v150 val_main_v135 val_main_v132 val_main_v149 val_main_v148 val_main_v136 val_main_v133 ropeB
  generalize val_main_v131 (F := Ideal) x0 x1 x2 x3 x4 x6 = y
  pointwise
  by_cases h1 : i.val % 32 < 16
  · simp only [dif_pos h1]
    have e1 : (⟨i.val % 32, h1⟩ : Fin 16) = ⟨i.val % 16, by omega⟩ := Fin.ext (by simp only []; omega)
    have e2 : (⟨i.val / 32 * 32 + (16 + i.val % 32), by omega⟩ : Fin 64) = ⟨i.val + 16, by omega⟩ := Fin.ext (by simp only []; omega)
    simp only [e1, e2]
  · simp only [dif_neg h1]
    have e1 : (⟨i.val % 32 - 16, by omega⟩ : Fin 16) = ⟨i.val % 16, by omega⟩ := Fin.ext (by simp only []; omega)
    have e2 : (⟨i.val / 32 * 32 + (i.val % 32 - 16), by omega⟩ : Fin 64) = ⟨i.val - 16, by omega⟩ := Fin.ext (by simp only []; omega)
    have e3 : (⟨i.val / 32 * 32 + (16 + (i.val % 32 - 16)), by omega⟩ : Fin 64) = i := Fin.ext (by simp only []; omega)
    simp only [e1, e2, e3]

theorem r171m (n : Fin 512) : val_main_v114 (F := Ideal) x0 x1 x2 x3 x4 x5 x8 (ix3 b t n) = val_main_v113 (F := Ideal) x0 x1 x2 x3 x4 x5 x8 (ix4 b t (⟨n.val / 64, by omega⟩ : Fin 8) (⟨n.val % 64, by omega⟩ : Fin 64)) := by
  unfold val_main_v114
  exact merge b t (val_main_v113 (F := Ideal) x0 x1 x2 x3 x4 x5 x8) n

theorem q115 (i) : val_main_v115 (F := Ideal) i = qs := by
  unfold val_main_v115 val_main_cst_7
  rfl

theorem r171 (n : Fin 512) : val_main_v171 (F := Ideal) x0 x1 x2 x3 x4 x5 x8 (ix3 b t n) = val_main_v114 (F := Ideal) x0 x1 x2 x3 x4 x5 x8 (ix3 b t n) * qs := by
  unfold val_main_v171
  refine (trunc_at _ _).trans ?_
  unfold val_main_v116
  exact (mul_at _ _ _).trans (congrArg (fun z => val_main_v114 (F := Ideal) x0 x1 x2 x3 x4 x5 x8 (ix3 b t n) * z) (q115 _))

theorem r172 (j : Fin 2) (l : Fin 128) : val_main_v172 (F := Ideal) x0 x1 x2 x3 x4 x6 x8 (ix4 b j l t) = val_main_v153 (F := Ideal) x0 x1 x2 x3 x4 x6 x8 (ix4 b t j (⟨l.val % 64, by omega⟩ : Fin 64)) := by
  unfold val_main_v172 val_main_v161 val_main_v154
  exact twice b t (val_main_v153 (F := Ideal) x0 x1 x2 x3 x4 x6 x8) j l

theorem r173 (j : Fin 2) (l : Fin 128) : val_main_v173 (F := Ideal) x0 x1 x2 x3 x4 (ix4 b j t l) = if h : l.val < 64 then val_main_v21 (F := Ideal) x0 x1 x2 x3 x4 (ix3 b t ⟨2176 + (j.val * 64 + l.val), by omega⟩) else if l.val = 64 then 1 else 0 := by
  unfold val_main_v173 val_main_v162 val_main_v157 val_main_v156 val_main_v155 val_main_v159 val_main_v158 val_main_cst_11 val_main_call0_v0 val_main_c
  generalize val_main_v21 (F := Ideal) x0 x1 x2 x3 x4 = y
  pointwise
  by_cases h1 : l.val < 64
  · rw [dif_pos h1, dif_pos h1]
  · rw [dif_neg h1, dif_neg h1]
    by_cases h2 : l.val = 64
    · rw [dif_pos (by omega), if_pos h2]
    · rw [dif_neg (by omega), if_neg h2]
      show (((0#32).toInt : ℝ) : EReal) = 0
      simp

theorem r174 (n : Fin 1024) : val_main_v174 (F := Ideal) x0 x1 x2 x3 x4 (ix3 b t n) = Pool.silu (val_main_v21 (F := Ideal) x0 x1 x2 x3 x4 (ix3 b t ⟨2304 + n.val, by omega⟩)) := by
  unfold val_main_v174 val_main_v167 val_main_v166 val_main_v165 val_main_cst_12 val_main_v164 val_main_v163 val_main_v160
  generalize val_main_v21 (F := Ideal) x0 x1 x2 x3 x4 = y
  pointwise
  rw [Pool.silu_eq]

end Front
end
-- ==== Proof.FrontEq.lean ====
module
public import proofs.«01_k».proof.Proof.FrontBlocks
public import proofs.«01_k».proof.Proof.FrontRef
@[expose] public section
set_option maxRecDepth 16384
noncomputable section

/-! A token's row is the reference's at that token. -/

namespace Front
open Cert.Kernel3Ideal Cert.Kernel3Ideal.Gen Idealize.ShloMosaic Idealize.ShloMosaic.TcCoe
open Cert.Reference3Ideal.Read (val_main_v21 val_main_v46 val_main_v74 val_main_v91 val_main_v131 val_main_v113 val_main_v153 val_main_v168 val_main_v169
  val_main_v170 val_main_v171 val_main_v172 val_main_v173 val_main_v174)

variable (m : (ℓ : Loc nD τ sig) → Buf (Elt Ideal) ℓ) (c : Dev nD) (b : Fin 16) (t : Fin 4096)

/-- The arguments the projection reads are real numbers. -/
structure Reals : Prop where
  a0 : ∀ i, IsR (A0 m c i)
  a1 : ∀ i, IsR (A1 m c i)
  a2 : ∀ i, IsR (A2 m c i)
  a3 : ∀ i, IsR (A3 m c i)
  a4 : ∀ i, IsR (A4 m c i)

theorem y_real (H : Reals m c) (n : Fin 3328) : IsR ((tokRow m c b t).y n) :=
  IsR.sum fun k => (modn_real (fun _ => H.a0 _) (fun _ => H.a3 _) (fun _ => H.a2 _) (fun _ => H.a1 _) k).mul (H.a4 _)

theorem y_eq (n k : Fin 3328) (h : n.val = k.val) :
    (tokRow m c b t).y n = val_main_v21 (F := Ideal) (A0 m c) (A1 m c) (A2 m c) (A3 m c) (A4 m c) (ix3 b t k) := by
  obtain rfl : n = k := Fin.ext h
  refine Eq.trans ?_ (r21 _ _ _ _ _ b t n).symm
  exact Finset.sum_congr rfl fun k _ => congrArg (fun z => z * A4 m c (ix2 k n)) (r20 (A0 m c) (A1 m c) (A2 m c) (A3 m c) b t k).symm

theorem ropeA_congr {v v' : Fin 64 → EReal} {cs sn : Fin 8 → EReal} {l l' : Fin 64} (hv : ∀ i, v i = v' i) (hl : l.val = l'.val) :
    ropeA v cs sn l = ropeA v' cs sn l' := by
  obtain rfl : v = v' := funext hv
  obtain rfl : l = l' := Fin.ext hl
  rfl

theorem ropeB_congr {v v' : Fin 64 → EReal} {cs sn : Fin 2 → Fin 16 → EReal} {l l' : Fin 64} (hv : ∀ i, v i = v' i) (hl : l.val = l'.val) :
    ropeB v cs sn l = ropeB v' cs sn l' := by
  obtain rfl : v = v' := funext hv
  obtain rfl : l = l' := Fin.ext hl
  rfl

theorem headN_congr {v v' g : Fin 64 → EReal} {l l' : Fin 64} (hv : ∀ i, v i = v' i) (hl : l.val = l'.val) : headN v g l = headN v' g l' := by
  obtain rfl : v = v' := funext hv
  obtain rfl : l = l' := Fin.ext hl
  rfl

theorem qa_eq (n : Fin 512) : (tokRow m c b t).qaV n = val_main_v168 (F := Ideal) (A0 m c) (A1 m c) (A2 m c) (A3 m c) (A4 m c) (A7 m c) (ix3 b t n) := by
  refine Eq.trans ?_ ((r168 _ _ _ _ _ _ b t n).trans (congrArg (fun z => z * qs) ((r168m _ _ _ _ _ _ b t n).trans (r46 _ _ _ _ _ _ b t _ _)))).symm
  refine congrArg (fun z => z * qs) ((turnA_eq _ _ _ _ (fun j => Ideal.cos (A7 m c (ix2 t j))) (fun j => Ideal.sin (A7 m c (ix2 t j))) (fun _ => rfl)
    (fun _ => rfl) (fun _ => rfl) _).trans (ropeA_congr (fun i => y_eq m c b t _ _ ?_) ?_))
  · show 128 * (n.val / 128) + (64 * (n.val % 128 / 64) + i.val) = n.val / 64 * 64 + i.val
    omega
  · show n.val % 128 % 64 = n.val % 64
    omega

theorem ka_eq (n : Fin 512) : (tokRow m c b t).kaV n = val_main_v169 (F := Ideal) (A0 m c) (A1 m c) (A2 m c) (A3 m c) (A4 m c) (A7 m c) (ix3 b t n) := by
  refine Eq.trans ?_ ((r169 _ _ _ _ _ _ b t n).trans ((r169m _ _ _ _ _ _ b t n).trans (r74 _ _ _ _ _ _ b t _ _))).symm
  refine (turnA_eq _ _ _ _ (fun j => Ideal.cos (A7 m c (ix2 t j))) (fun j => Ideal.sin (A7 m c (ix2 t j))) (fun _ => rfl)
    (fun _ => rfl) (fun _ => rfl) _).trans (ropeA_congr (fun i => y_eq m c b t _ _ ?_) ?_)
  · show 512 + (128 * (n.val / 128) + (64 * (n.val % 128 / 64) + i.val)) = 512 + (n.val / 64 * 64 + i.val)
    omega
  · show n.val % 128 % 64 = n.val % 64
    omega

theorem va_eq (n : Fin 512) : (tokRow m c b t).vaV n = val_main_v170 (F := Ideal) (A0 m c) (A1 m c) (A2 m c) (A3 m c) (A4 m c) (ix3 b t n) :=
  (y_eq m c b t _ _ rfl).trans (r170 _ _ _ _ _ b t n).symm

theorem g_eq (n : Fin 1024) : (tokRow m c b t).gV n = val_main_v174 (F := Ideal) (A0 m c) (A1 m c) (A2 m c) (A3 m c) (A4 m c) (ix3 b t n) :=
  (congrArg Pool.silu (y_eq m c b t _ _ rfl)).trans (r174 _ _ _ _ _ b t n).symm

theorem qn_eq (H : Reals m c) (n : Fin 512) (h : Fin 8) (i : Fin 64) (e : n.val = h.val * 64 + i.val) :
    (tokRow m c b t).qn n = val_main_v91 (F := Ideal) (A0 m c) (A1 m c) (A2 m c) (A3 m c) (A4 m c) (A5 m c) (ix4 b t h i) := by
  refine Eq.trans ?_ (r91 _ _ _ _ _ _ b t h i).symm
  refine (nrm_eq (by decide) _ (fun _ => y_real m c b t H _) _ (fun _ _ => rfl) _ (fun i => A5 m c (ix1 i)) (fun _ => rfl) _).trans
    (headN_congr (fun k => y_eq m c b t _ _ ?_) ?_)
  · show 1536 + (256 * (n.val / 256) + (64 * (n.val % 256 / 64) + k.val)) = 1536 + (h.val * 64 + k.val)
    omega
  · show n.val % 256 % 64 = i.val
    omega

theorem kn_eq (H : Reals m c) (n : Fin 128) (h : Fin 2) (i : Fin 64) (e : n.val = h.val * 64 + i.val) :
    (tokRow m c b t).kn n = val_main_v131 (F := Ideal) (A0 m c) (A1 m c) (A2 m c) (A3 m c) (A4 m c) (A6 m c) (ix4 b t h i) := by
  refine Eq.trans ?_ (r131 _ _ _ _ _ _ b t h i).symm
  refine (nrm_eq (by decide) _ (fun _ => y_real m c b t H _) _ (fun _ _ => rfl) _ (fun i => A6 m c (ix1 i)) (fun _ => rfl) _).trans
    (headN_congr (fun k => y_eq m c b t _ _ ?_) ?_)
  · show 2048 + (64 * (n.val / 64) + k.val) = 2048 + (h.val * 64 + k.val)
    omega
  · show n.val % 64 = i.val
    omega

theorem qb_eq (H : Reals m c) (n : Fin 512) :
    (tokRow m c b t).qbV n = val_main_v171 (F := Ideal) (A0 m c) (A1 m c) (A2 m c) (A3 m c) (A4 m c) (A5 m c) (A8 m c) (ix3 b t n) := by
  refine Eq.trans ?_ ((r171 _ _ _ _ _ _ _ b t n).trans (congrArg (fun z => z * qs) ((r171m _ _ _ _ _ _ _ b t n).trans (r113 _ _ _ _ _ _ _ b t _ _)))).symm
  refine congrArg (fun z => z * qs) ((turnB_eq _ _ _ _ (fun q j => Ideal.cos (A8 m c (ix3 t q j))) (fun q j => Ideal.sin (A8 m c (ix3 t q j))) (fun _ => rfl)
    (fun _ => rfl) (fun _ => rfl) _).trans (ropeB_congr (fun i => qn_eq m c b t H _ _ _ ?_) ?_))
  · show 128 * (n.val / 128) + (64 * (n.val % 128 / 64) + i.val) = n.val / 64 * 64 + i.val
    omega
  · show n.val % 128 % 64 = n.val % 64
    omega

theorem kt_eq (H : Reals m c) (j : Fin 2) (l : Fin 128) :
    (tokRow m c b t).ktV j l = val_main_v172 (F := Ideal) (A0 m c) (A1 m c) (A2 m c) (A3 m c) (A4 m c) (A6 m c) (A8 m c) (ix4 b j l t) := by
  refine Eq.trans ?_ ((r172 _ _ _ _ _ _ _ b t j l).trans (r153 _ _ _ _ _ _ _ b t j _)).symm
  refine (turnB_eq _ _ _ _ (fun q j => Ideal.cos (A8 m c (ix3 t q j))) (fun q j => Ideal.sin (A8 m c (ix3 t q j))) (fun _ => rfl)
    (fun _ => rfl) (fun _ => rfl) _).trans (ropeB_congr (fun i => kn_eq m c b t H _ _ _ ?_) ?_)
  · show 64 * ((64 * j.val + l.val % 64) / 64) + i.val = j.val * 64 + i.val
    omega
  · show (64 * j.val + l.val % 64) % 64 = l.val % 64
    omega

theorem vb_eq (j : Fin 2) (l : Fin 128) :
    (tokRow m c b t).vbV j l = val_main_v173 (F := Ideal) (A0 m c) (A1 m c) (A2 m c) (A3 m c) (A4 m c) (ix4 b j t l) := by
  refine Eq.trans ?_ (r173 _ _ _ _ _ b t j l).symm
  unfold Row.vbV
  by_cases h : l.val < 64
  · rw [dif_pos h, dif_pos h]
    exact y_eq m c b t _ _ (by show 2176 + 64 * j.val + l.val = 2176 + (j.val * 64 + l.val); omega)
  · rw [dif_neg h, dif_neg h]

end Front
end
-- ==== Proof.FrontValue.lean ====
module
public import proofs.«01_k».proof.Proof.FrontEq
public import proofs.«01_k».proof.Proof.Gen.Kernel3Ideal.Frame
@[expose] public section
set_option maxRecDepth 16384
noncomputable section

/-! The front call's seven result arrays are the reference's. -/

namespace Front
open Cert.Kernel3Ideal Cert.Kernel3Ideal.Gen Idealize.ShloMosaic Idealize.ShloMosaic.TcCoe
open Cert.Kernel3Ideal.Facts

variable (m : (ℓ : Loc nD τ sig) → Buf (Elt Ideal) ℓ) (c : Dev nD)

abbrev R14 : FVec Ideal S16x4096x512 .bf16 := Cert.Reference3Ideal.Read.val_main_v168 (F := Ideal) (A0 m c) (A1 m c) (A2 m c) (A3 m c) (A4 m c) (A7 m c)
abbrev R15 : FVec Ideal S16x4096x512 .bf16 := Cert.Reference3Ideal.Read.val_main_v169 (F := Ideal) (A0 m c) (A1 m c) (A2 m c) (A3 m c) (A4 m c) (A7 m c)
abbrev R16 : FVec Ideal S16x4096x512 .bf16 := Cert.Reference3Ideal.Read.val_main_v170 (F := Ideal) (A0 m c) (A1 m c) (A2 m c) (A3 m c) (A4 m c)
abbrev R17 : FVec Ideal S16x4096x512 .bf16 := Cert.Reference3Ideal.Read.val_main_v171 (F := Ideal) (A0 m c) (A1 m c) (A2 m c) (A3 m c) (A4 m c) (A5 m c) (A8 m c)
abbrev R18 : FVec Ideal S16x2x128x4096 .bf16 := Cert.Reference3Ideal.Read.val_main_v172 (F := Ideal) (A0 m c) (A1 m c) (A2 m c) (A3 m c) (A4 m c) (A6 m c) (A8 m c)
abbrev R19 : FVec Ideal S16x2x4096x128 .bf16 := Cert.Reference3Ideal.Read.val_main_v173 (F := Ideal) (A0 m c) (A1 m c) (A2 m c) (A3 m c) (A4 m c)
abbrev R20 : FVec Ideal S16x4096x1024 .bf16 := Cert.Reference3Ideal.Read.val_main_v174 (F := Ideal) (A0 m c) (A1 m c) (A2 m c) (A3 m c) (A4 m c)

theorem at_ref14 (t : Fin cfg0.N) (x : S1x1024x512.Idx) (j : S16x4096x512.Idx) (h0 : (j 0).val = t.val / 4) (h1 : (j 1).val = 1024 * (t.val % 4) + (x 1).val) (h2 : (j 2).val = (x 2).val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R14 m c j := by
  refine (out14 _ _ _ _ _ _ _ _ _ _ _ _ _ _ x).trans ((congrArg (fun z : Row => z.qaV (x 2)) (row_eq m c t (x 1))).trans ?_)
  refine (qa_eq m c (bat t) (tok t (x 1)) (x 2)).trans (congrArg (R14 m c) (funext fun a => Fin.ext ?_))
  match a with
  | 0 => exact h0.symm
  | 1 => exact h1.symm
  | 2 => exact h2.symm

theorem at_ref15 (t : Fin cfg0.N) (x : S1x1024x512.Idx) (j : S16x4096x512.Idx) (h0 : (j 0).val = t.val / 4) (h1 : (j 1).val = 1024 * (t.val % 4) + (x 1).val) (h2 : (j 2).val = (x 2).val) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R15 m c j := by
  refine (out15 _ _ _ _ _ _ _ _ _ _ _ _ _ _ x).trans ((congrArg (fun z : Row => z.kaV (x 2)) (row_eq m c t (x 1))).trans ?_)
  refine (ka_eq m c (bat t) (tok t (x 1)) (x 2)).trans (congrArg (R15 m c) (funext fun a => Fin.ext ?_))
  match a with
  | 0 => exact h0.symm
  | 1 => exact h1.symm
  | 2 => exact h2.symm

theorem at_ref16 (t : Fin cfg0.N) (x : S1x1024x512.Idx) (j : S16x4096x512.Idx) (h0 : (j 0).val = t.val / 4) (h1 : (j 1).val = 1024 * (t.val % 4) + (x 1).val) (h2 : (j 2).val = (x 2).val) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R16 m c j := by
  refine (out16 _ _ _ _ _ _ _ _ _ _ _ _ _ _ x).trans ((congrArg (fun z : Row => z.vaV (x 2)) (row_eq m c t (x 1))).trans ?_)
  refine (va_eq m c (bat t) (tok t (x 1)) (x 2)).trans (congrArg (R16 m c) (funext fun a => Fin.ext ?_))
  match a with
  | 0 => exact h0.symm
  | 1 => exact h1.symm
  | 2 => exact h2.symm

theorem at_ref17 (H : Reals m c) (t : Fin cfg0.N) (x : S1x1024x512.Idx) (j : S16x4096x512.Idx) (h0 : (j 0).val = t.val / 4) (h1 : (j 1).val = 1024 * (t.val % 4) + (x 1).val) (h2 : (j 2).val = (x 2).val) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R17 m c j := by
  refine (out17 _ _ _ _ _ _ _ _ _ _ _ _ _ _ x).trans ((congrArg (fun z : Row => z.qbV (x 2)) (row_eq m c t (x 1))).trans ?_)
  refine (qb_eq m c (bat t) (tok t (x 1)) H (x 2)).trans (congrArg (R17 m c) (funext fun a => Fin.ext ?_))
  match a with
  | 0 => exact h0.symm
  | 1 => exact h1.symm
  | 2 => exact h2.symm

theorem at_ref18 (H : Reals m c) (t : Fin cfg0.N) (x : S1x2x128x1024.Idx) (j : S16x2x128x4096.Idx) (h0 : (j 0).val = t.val / 4) (h1 : (j 1).val = (x 1).val) (h2 : (j 2).val = (x 2).val) (h3 : (j 3).val = 1024 * (t.val % 4) + (x 3).val) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R18 m c j := by
  refine (out18 _ _ _ _ _ _ _ _ _ _ _ _ _ _ x).trans ((congrArg (fun z : Row => z.ktV (x 1) (x 2)) (row_eq m c t (x 3))).trans ?_)
  refine (kt_eq m c (bat t) (tok t (x 3)) H (x 1) (x 2)).trans (congrArg (R18 m c) (funext fun a => Fin.ext ?_))
  match a with
  | 0 => exact h0.symm
  | 1 => exact h1.symm
  | 2 => exact h2.symm
  | 3 => exact h3.symm

theorem at_ref19 (t : Fin cfg0.N) (x : S1x2x1024x128.Idx) (j : S16x2x4096x128.Idx) (h0 : (j 0).val = t.val / 4) (h1 : (j 1).val = (x 1).val) (h2 : (j 2).val = 1024 * (t.val % 4) + (x 2).val) (h3 : (j 3).val = (x 3).val) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R19 m c j := by
  refine (out19 _ _ _ _ _ _ _ _ _ _ _ _ _ _ x).trans ((congrArg (fun z : Row => z.vbV (x 1) (x 3)) (row_eq m c t (x 2))).trans ?_)
  refine (vb_eq m c (bat t) (tok t (x 2)) (x 1) (x 3)).trans (congrArg (R19 m c) (funext fun a => Fin.ext ?_))
  match a with
  | 0 => exact h0.symm
  | 1 => exact h1.symm
  | 2 => exact h2.symm
  | 3 => exact h3.symm

theorem at_ref20 (t : Fin cfg0.N) (x : S1x1024x1024.Idx) (j : S16x4096x1024.Idx) (h0 : (j 0).val = t.val / 4) (h1 : (j 1).val = 1024 * (t.val % 4) + (x 1).val) (h2 : (j 2).val = (x 2).val) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) x = R20 m c j := by
  refine (out20 _ _ _ _ _ _ _ _ _ _ _ _ _ _ x).trans ((congrArg (fun z : Row => z.gV (x 2)) (row_eq m c t (x 1))).trans ?_)
  refine (g_eq m c (bat t) (tok t (x 1)) (x 2)).trans (congrArg (R20 m c) (funext fun a => Fin.ext ?_))
  match a with
  | 0 => exact h0.symm
  | 1 => exact h1.symm
  | 2 => exact h2.symm

theorem final14 : (dats m 0 c).arrAt 14 (cfgs 0).N = R14 m c := by
  refine (dats m 0 c).arrAt_eq_of_covers 14 _ (by decide +kernel) fun t _ y => ?_
  blk_simp
  rw [after0_14]
  refine at_ref14 m c t _ _ ?_ ?_ ?_ <;> blk_simp [at14 t] <;> omega

theorem final15 : (dats m 0 c).arrAt 15 (cfgs 0).N = R15 m c := by
  refine (dats m 0 c).arrAt_eq_of_covers 15 _ (by decide +kernel) fun t _ y => ?_
  blk_simp
  rw [after0_15]
  refine at_ref15 m c t _ _ ?_ ?_ ?_ <;> blk_simp [at15 t] <;> omega

theorem final16 : (dats m 0 c).arrAt 16 (cfgs 0).N = R16 m c := by
  refine (dats m 0 c).arrAt_eq_of_covers 16 _ (by decide +kernel) fun t _ y => ?_
  blk_simp
  rw [after0_16]
  refine at_ref16 m c t _ _ ?_ ?_ ?_ <;> blk_simp [at16 t] <;> omega

theorem final17 (H : Reals m c) : (dats m 0 c).arrAt 17 (cfgs 0).N = R17 m c := by
  refine (dats m 0 c).arrAt_eq_of_covers 17 _ (by decide +kernel) fun t _ y => ?_
  blk_simp
  rw [after0_17]
  refine at_ref17 m c H t _ _ ?_ ?_ ?_ <;> blk_simp [at17 t] <;> omega

theorem final18 (H : Reals m c) : (dats m 0 c).arrAt 18 (cfgs 0).N = R18 m c := by
  refine (dats m 0 c).arrAt_eq_of_covers 18 _ (by decide +kernel) fun t _ y => ?_
  blk_simp
  rw [after0_18]
  refine at_ref18 m c H t _ _ ?_ ?_ ?_ ?_ <;> blk_simp [at18 t] <;> omega

theorem final19 : (dats m 0 c).arrAt 19 (cfgs 0).N = R19 m c := by
  refine (dats m 0 c).arrAt_eq_of_covers 19 _ (by decide +kernel) fun t _ y => ?_
  blk_simp
  rw [after0_19]
  refine at_ref19 m c t _ _ ?_ ?_ ?_ ?_ <;> blk_simp [at19 t] <;> omega

theorem final20 : (dats m 0 c).arrAt 20 (cfgs 0).N = R20 m c := by
  refine (dats m 0 c).arrAt_eq_of_covers 20 _ (by decide +kernel) fun t _ y => ?_
  blk_simp
  rw [after0_20]
  refine at_ref20 m c t _ _ ?_ ?_ ?_ <;> blk_simp [at20 t] <;> omega

set_option maxHeartbeats 3200000 in
/-- The call run from any memory whose projection arguments are real: the results are the reference's, the arguments stay. -/
theorem run_value (ρ : Dev nD → PrngReg) (H : ∀ c, Reals m c) : θ_run defs (onTc (τ := τ) (main (F := Ideal))) ⟨m, fun _ => 0, ρ⟩ (fun r => ∀ c : Dev nD,
      r.2.mem ((c.tc : Thread nD τ).loc main_v61_0) = R14 m c
      ∧ r.2.mem ((c.tc : Thread nD τ).loc main_v61_1) = R15 m c
      ∧ r.2.mem ((c.tc : Thread nD τ).loc main_v61_2) = R16 m c
      ∧ r.2.mem ((c.tc : Thread nD τ).loc main_v61_3) = R17 m c
      ∧ r.2.mem ((c.tc : Thread nD τ).loc main_v61_4) = R18 m c
      ∧ r.2.mem ((c.tc : Thread nD τ).loc main_v61_5) = R19 m c
      ∧ r.2.mem ((c.tc : Thread nD τ).loc main_v61_6) = R20 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 14).trans (final14 m c), ((h.1 c).1 15).trans (final15 m c), ((h.1 c).1 16).trans (final16 m c), ((h.1 c).1 17).trans (final17 m c (H c)), ((h.1 c).1 18).trans (final18 m c (H c)), ((h.1 c).1 19).trans (final19 m c), ((h.1 c).1 20).trans (final20 m c), h.2 c⟩)
    (θ_run_and (run_main m ρ) (unchanged m ρ))

end Front
end
-- ==== Proof.FrontFinite.lean ====
module
public import Idealize.ShloMosaic.Lib.Pointwise
public import Idealize.ShloMosaic.Lib.ReduceAll
public import proofs.«01_k».proof.Defs
public import proofs.«01_k».proof.Proof.Gen.Pre_finite3
public import proofs.«01_k».proof.Proof.Finite
public import proofs.«01_k».proof.Proof.FrontSpec
@[expose] public section
noncomputable section

/-! Under the precondition the five arguments of the front call's projection hold real numbers. -/

namespace Front
open Idealize.ShloMosaic Cert.Pre_finite3

theorem all_real {s : Shape} (x : FVec Ideal s .f32) (h : ∀ i, Ideal.cmp CmpFPredicate.olt (max (x i) (-(x i))) (Ideal.ofBits .f32 0x7F800000#32) = 1#1) (i : s.Idx) : IsR (x i) :=
  ⟨_, Gqa.real_of_abs_lt _ (Gqa.ofBits_inf ▸ h i)⟩

instance : Subsingleton S_.Idx := ⟨fun a b => funext fun i => i.elim0⟩

theorem real_of_fn (x0 : FVec Ideal S16x4096x1024 .f32) (x1 x2 : FVec Ideal S16x1024 .f32) (x3 : FVec Ideal S1024 .f32) (x4 : FVec Ideal S1024x3328 .f32)
    (x5 x6 : FVec Ideal S64 .f32) (x7 : FVec Ideal S4096x8 .f32) (x8 : FVec Ideal S4096x2x16 .f32)
    (h : letI := Gen.facts; Cert.Pre_finite3.fn (F := Ideal) x0 x1 x2 x3 x4 x5 x6 x7 x8 = fun _ => 1#1) :
    (∀ i, IsR (x0 i)) ∧ (∀ i, IsR (x1 i)) ∧ (∀ i, IsR (x2 i)) ∧ (∀ i, IsR (x3 i)) ∧ ∀ i, IsR (x4 i) := by
  have h := congrFun h (fun i => i.elim0)
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real x0 fun i => Host.reduce_andi_all _ _ _ _ _ h0 i, all_real x1 fun i => Host.reduce_andi_all _ _ _ _ _ h1 i,
    all_real x2 fun i => Host.reduce_andi_all _ _ _ _ _ h2 i, all_real x3 fun i => Host.reduce_andi_all _ _ _ _ _ h3 i,
    all_real x4 fun i => Host.reduce_andi_all _ _ _ _ _ h4 i⟩

end Front
end
-- ==== Proof.FrontBits.lean ====
/- The front call's frame at bit patterns: its text is the idealized call's, so the run is the one already proved. -/
module

public import proofs.«01_k».proof.Proof.Gen.Kernel3Ideal.Frame
public import proofs.«01_k».proof.Proof.Gen.Kernel3
public import proofs.«01_k».proof.Defs

@[expose] public section

namespace Front

open Idealize.ShloMosaic Idealize.ShloMosaic.Tactic

theorem frame_P : Cert.quiescent_Kernel3 (hKernel3 := Cert.Kernel3.Gen.facts) := fun m g _ => by
  refine cast ?_ (Cert.Kernel3Ideal.Gen.frame (F := Bits) m g)
  sl_kernel_rfl

theorem frame_PI : Cert.quiescent_Kernel3Ideal (hKernel3Ideal := Cert.Kernel3Ideal.Gen.facts) :=
  fun m g _ => Cert.Kernel3Ideal.Gen.frame (F := Ideal) m g

end Front

end
-- ==== Proof.PoolBits.lean ====
/- The pool call's frame at bit patterns: its text is the idealized call's, so the run is the one already proved. -/
module

public import proofs.«01_k».proof.Proof.PoolFrame
public import proofs.«01_k».proof.Proof.Gen.Kernel2
public import proofs.«01_k».proof.Defs

@[expose] public section

namespace Pool

open Idealize.ShloMosaic Idealize.ShloMosaic.Tactic

theorem frame_P : Cert.quiescent_Kernel2 (hKernel2 := Cert.Kernel2.Gen.facts) := fun m g _ => by
  refine cast ?_ (frame (F := Bits) m g)
  sl_kernel_rfl

theorem frame_PI : Cert.quiescent_Kernel2Ideal (hKernel2Ideal := Cert.Kernel2Ideal.Gen.facts) :=
  fun m g _ => frame (F := Ideal) m g

end Pool

end
-- ==== Proof.lean ====
/- The claims of the statement, five for each call: the frames, the unchanged rewriting, the flash call's value against the softmax,
the closing call's value against the output projection followed by the pooling layer, and the opening call's values against
the modulated norm, the projection, the head norms, the rotations and the gate. -/
module

public import proofs.«01_k».proof.Proof.Value
public import proofs.«01_k».proof.Proof.Finite
public import proofs.«01_k».proof.Proof.PoolValue
public import proofs.«01_k».proof.Proof.FrontValue
public import proofs.«01_k».proof.Proof.FrontFinite
public import proofs.«01_k».proof.Proof.FrontBits
public import proofs.«01_k».proof.Proof.PoolBits
public import Idealize.ShloMosaic.Lib.Claim
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import Idealize.ShloMosaic.Adequacy
public import Idealize.ShloMosaic.Init

@[expose] public section

noncomputable section

namespace Cert.Proof

open Idealize.ShloMosaic Idealize.ShloMosaic.TcCoe Idealize.SL.Sem

theorem frame_RI : Cert.quiescent_ReferenceIdeal (hReferenceIdeal := Cert.ReferenceIdeal.Gen.facts) := by
  intro m g _
  hlo_run
  · exact fun _ => ⟨trivial, trivial, trivial⟩
  · exact Idealize.ShloMosaic.sem_eq_zero_of_no_sems rfl _

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    obtain ⟨h0, h1, h2⟩ := Gqa.real_of_fn _ _ _ (hpre c)
    exact (Gqa.out_final m c h0 h1 h2).symm

set_option maxHeartbeats 1600000 in
theorem frame_RI2 : Cert.quiescent_Reference2Ideal (hReference2Ideal := Cert.Reference2Ideal.Gen.facts) := by
  intro m g _
  hlo_run
  · exact fun _ => ⟨trivial, trivial, trivial, trivial, trivial, trivial, trivial, trivial, trivial, trivial, trivial, trivial, trivial, trivial, trivial, trivial⟩
  · exact Idealize.ShloMosaic.sem_eq_zero_of_no_sems rfl _

section
open Cert.Reference2Ideal

/-- The pooling reference run from any memory: its result as a function of its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v113) = Read.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (Read.val_main_v113_eq (StableHlo.launchContents m c)), (h c).2⟩) (Value.run m ρ)

end

set_option maxHeartbeats 3200000 in
theorem algebraic2 : Cert.algebraic_Kernel2Ideal_Reference2Ideal (hKernel2Ideal := Cert.Kernel2Ideal.Gen.facts)
    (hReference2Ideal := Cert.Reference2Ideal.Gen.facts) := by
  pair_intro
  · run_from Pool.run_value m g
  · run_from ref_run m' g'

set_option maxHeartbeats 1600000 in
theorem frame_RI3 : Cert.quiescent_Reference3Ideal (hReference3Ideal := Cert.Reference3Ideal.Gen.facts) := by
  intro m g _
  hlo_run
  · exact fun _ => ⟨trivial, trivial, trivial, trivial, trivial, trivial, trivial, trivial, trivial⟩
  · exact Idealize.ShloMosaic.sem_eq_zero_of_no_sems rfl _

section
open Cert.Reference3Ideal

set_option maxHeartbeats 3200000 in
/-- The opening reference run from any memory: its results as functions of its arguments. -/
theorem ref_run3 (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v168) = Read.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v169) = Read.val_main_v169 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v170) = Read.val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v171) = Read.val_main_v171 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8))
      ∧ r.2.mem ((c.tc : Thread nD τ).loc main_v172) = Read.val_main_v172 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8))
      ∧ r.2.mem ((c.tc : Thread nD τ).loc main_v173) = Read.val_main_v173 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v174) = Read.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => by
    obtain ⟨h0, h1, h2, h3, h4, h5, h6, ha⟩ := h c
    exact ⟨h0.trans (Read.val_main_v168_eq (StableHlo.launchContents m c)), h1.trans (Read.val_main_v169_eq (StableHlo.launchContents m c)), h2.trans (Read.val_main_v170_eq (StableHlo.launchContents m c)), h3.trans (Read.val_main_v171_eq (StableHlo.launchContents m c)), h4.trans (Read.val_main_v172_eq (StableHlo.launchContents m c)), h5.trans (Read.val_main_v173_eq (StableHlo.launchContents m c)), h6.trans (Read.val_main_v174_eq (StableHlo.launchContents m c)), ha⟩) (Value.run m ρ)

end

section
open Cert.Reference3Ideal

variable {x0 z0 : FVec Ideal S16x4096x1024 .f32} (e0 : x0 = z0) {x1 z1 : FVec Ideal S16x1024 .f32} (e1 : x1 = z1) {x2 z2 : FVec Ideal S16x1024 .f32} (e2 : x2 = z2) {x3 z3 : FVec Ideal S1024 .f32} (e3 : x3 = z3) {x4 z4 : FVec Ideal S1024x3328 .f32} (e4 : x4 = z4) {x5 z5 : FVec Ideal S64 .f32} (e5 : x5 = z5) {x6 z6 : FVec Ideal S64 .f32} (e6 : x6 = z6) {x7 z7 : FVec Ideal S4096x8 .f32} (e7 : x7 = z7) {x8 z8 : FVec Ideal S4096x2x16 .f32} (e8 : x8 = z8)
include e0 e1 e2 e3 e4 e7 in
theorem c168 : Read.val_main_v168 (F := Ideal) x0 x1 x2 x3 x4 x7 = Read.val_main_v168 (F := Ideal) z0 z1 z2 z3 z4 z7 := by
  subst e0 e1 e2 e3 e4 e7
  rfl
include e0 e1 e2 e3 e4 e7 in
theorem c169 : Read.val_main_v169 (F := Ideal) x0 x1 x2 x3 x4 x7 = Read.val_main_v169 (F := Ideal) z0 z1 z2 z3 z4 z7 := by
  subst e0 e1 e2 e3 e4 e7
  rfl
include e0 e1 e2 e3 e4 in
theorem c170 : Read.val_main_v170 (F := Ideal) x0 x1 x2 x3 x4 = Read.val_main_v170 (F := Ideal) z0 z1 z2 z3 z4 := by
  subst e0 e1 e2 e3 e4
  rfl
include e0 e1 e2 e3 e4 e5 e8 in
theorem c171 : Read.val_main_v171 (F := Ideal) x0 x1 x2 x3 x4 x5 x8 = Read.val_main_v171 (F := Ideal) z0 z1 z2 z3 z4 z5 z8 := by
  subst e0 e1 e2 e3 e4 e5 e8
  rfl
include e0 e1 e2 e3 e4 e6 e8 in
theorem c172 : Read.val_main_v172 (F := Ideal) x0 x1 x2 x3 x4 x6 x8 = Read.val_main_v172 (F := Ideal) z0 z1 z2 z3 z4 z6 z8 := by
  subst e0 e1 e2 e3 e4 e6 e8
  rfl
include e0 e1 e2 e3 e4 in
theorem c173 : Read.val_main_v173 (F := Ideal) x0 x1 x2 x3 x4 = Read.val_main_v173 (F := Ideal) z0 z1 z2 z3 z4 := by
  subst e0 e1 e2 e3 e4
  rfl
include e0 e1 e2 e3 e4 in
theorem c174 : Read.val_main_v174 (F := Ideal) x0 x1 x2 x3 x4 = Read.val_main_v174 (F := Ideal) z0 z1 z2 z3 z4 := by
  subst e0 e1 e2 e3 e4
  rfl

end

set_option maxHeartbeats 3200000 in
theorem algebraic3 : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hag
  refine ⟨Front.R14 m, Front.R15 m, Front.R16 m, Front.R17 m, Front.R18 m, Front.R19 m, Front.R20 m, Front.run_value m g fun c => ?_, ?_⟩
  · obtain ⟨h0, h1, h2, h3, h4⟩ := Front.real_of_fn _ _ _ _ _ _ _ _ _ (hpre c)
    exact ⟨h0, h1, h2, h3, h4⟩
  · refine (θ_run _ _ _).mono (fun r h c => ?_) (ref_run3 m' g')
    obtain ⟨h0, h1, h2, h3, h4, h5, h6, ha⟩ := h c
    obtain ⟨e0, e1, e2, e3, e4, e5, e6, e7, e8⟩ := hag c
    exact ⟨h0.trans (c168 e0 e1 e2 e3 e4 e7), h1.trans (c169 e0 e1 e2 e3 e4 e7), h2.trans (c170 e0 e1 e2 e3 e4), h3.trans (c171 e0 e1 e2 e3 e4 e5 e8), h4.trans (c172 e0 e1 e2 e3 e4 e6 e8), h5.trans (c173 e0 e1 e2 e3 e4), h6.trans (c174 e0 e1 e2 e3 e4), ha⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_finite.Gen.facts, Cert.Pre_finite3.Gen.facts,
  fun m g _ => Cert.Kernel.Gen.frame m g, fun m g _ => Cert.KernelIdeal.Gen.frame m g, fun m g _ => Cert.KernelIdeal.Gen.frame m g,
  frame_RI, fun m g _ => frame_RI m g trivial, Pool.frame_P, Pool.frame_PI, frame_RI2,
  Front.frame_P, Front.frame_PI, fun m g _ => Front.frame_PI m g trivial, frame_RI3, fun m g _ => frame_RI3 m g trivial,
  trivial, algebraic, trivial, algebraic2, trivial, algebraic3⟩

end Cert.Proof

end
